-- ==== Defs.lean ====
def Pre_Kernel [hPre_index_in_range : Cert.Pre_index_in_range.Facts] (m : (ℓ : Loc Cert.Kernel.nD Cert.Kernel.τ Cert.Kernel.sig) → Buf (Elt Bits) ℓ) : Prop :=
  ∀ c : Dev Cert.Kernel.nD,
    (Cert.Pre_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_index_in_range : Cert.Pre_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_range_and_finite [hPre_range_and_finite : Cert.Pre_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_range_and_finite [hPre_range_and_finite : Cert.Pre_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_index_in_range : Cert.Pre_index_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_range_and_finite [hKernelIdeal : Cert.KernelIdeal.Facts] [hPre_range_and_finite : Cert.Pre_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_range_and_finite [hReferenceIdeal : Cert.ReferenceIdeal.Facts] [hPre_range_and_finite : Cert.Pre_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_range_and_finite [hKernelIdeal : Cert.KernelIdeal.Facts] [hReferenceIdeal : Cert.ReferenceIdeal.Facts] [hPre_range_and_finite : Cert.Pre_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_index_in_range : Cert.Pre_index_in_range.Facts) (hPre_range_and_finite : Cert.Pre_range_and_finite.Facts),
    quiescent_Kernel (hKernel := hKernel) (hPre_index_in_range := hPre_index_in_range)
    ∧ quiescent_KernelIdeal (hKernelIdeal := hKernelIdeal) (hPre_index_in_range := hPre_index_in_range)
    ∧ quiescent_KernelIdeal_pre_range_and_finite (hKernelIdeal := hKernelIdeal) (hPre_range_and_finite := hPre_range_and_finite)
    ∧ quiescent_ReferenceIdeal (hReferenceIdeal := hReferenceIdeal)
    ∧ quiescent_ReferenceIdeal_pre_range_and_finite (hReferenceIdeal := hReferenceIdeal) (hPre_range_and_finite := hPre_range_and_finite)
    ∧ preserves_Kernel_KernelIdeal
    ∧ algebraic_KernelIdeal_ReferenceIdeal_pre_range_and_finite (hKernelIdeal := hKernelIdeal) (hReferenceIdeal := hReferenceIdeal) (hPre_range_and_finite := hPre_range_and_finite)
-- ==== Pre_index_in_range.lean ====
abbrev S320000 : Shape := ⟨1, ![320000]⟩
abbrev S320000x128 : Shape := ⟨2, ![320000, 128]⟩
abbrev S320000x1 : Shape := ⟨2, ![320000, 1]⟩
abbrev S10000x128 : Shape := ⟨2, ![10000, 128]⟩
abbrev S10000x1 : Shape := ⟨2, ![10000, 1]⟩
abbrev S128x256 : Shape := ⟨2, ![128, 256]⟩
abbrev S256 : Shape := ⟨1, ![256]⟩
abbrev S256x18 : Shape := ⟨2, ![256, 18]⟩
abbrev S18 : Shape := ⟨1, ![18]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : IVec S320000 32) (main_arg1 : FVec F S320000x128 .f32) (main_arg2 : FVec F S320000x1 .f32) (main_arg3 : FVec F S10000x128 .f32) (main_arg4 : FVec F S10000x1 .f32) (main_arg5 : FVec F S128x256 .f32) (main_arg6 : FVec F S256 .f32) (main_arg7 : FVec F S256x18 .f32) (main_arg8 : FVec F S18 .f32) : IVec S320000 1 :=
  let main_c : IVec S_ 32 := constantI S_ 32 0#32
  let main_v0 : IVec S320000 32 := broadcastInDim S320000 ![] bcast_S_S320000 main_c
  let main_v1 : IVec S320000 1 := cmpi .sge main_arg0 main_v0
  let main_c_0 : IVec S_ 32 := constantI S_ 32 10000#32
  let main_v2 : IVec S320000 32 := broadcastInDim S320000 ![] bcast_S_S320000 main_c_0
  let main_v3 : IVec S320000 1 := cmpi .slt main_arg0 main_v2
  let main_v4 : IVec S320000 1 := andi main_v1 main_v3
  main_v4
-- ==== Pre_range_and_finite.lean ====
abbrev S320000 : Shape := ⟨1, ![320000]⟩
abbrev S320000x128 : Shape := ⟨2, ![320000, 128]⟩
abbrev S320000x1 : Shape := ⟨2, ![320000, 1]⟩
abbrev S10000x128 : Shape := ⟨2, ![10000, 128]⟩
abbrev S10000x1 : Shape := ⟨2, ![10000, 1]⟩
abbrev S128x256 : Shape := ⟨2, ![128, 256]⟩
abbrev S256 : Shape := ⟨1, ![256]⟩
abbrev S256x18 : Shape := ⟨2, ![256, 18]⟩
abbrev S18 : Shape := ⟨1, ![18]⟩
abbrev S_ : Shape := ⟨0, ![]⟩
abbrev S256x1 : Shape := ⟨2, ![256, 1]⟩
abbrev S1 : Shape := ⟨1, ![1]⟩

class Facts : Prop where
  bcast_S_S320000 : S_.BroadcastsInDim S320000 (![] : Fin 0 → Fin S320000.rank)
  reducesTo_S320000_S_d0 : S320000.ReducesTo [0] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S10000x1 : S_.BroadcastsInDim S10000x1 (![] : Fin 0 → Fin S10000x1.rank)
  reducesTo_S10000x1_S_d0_1 : S10000x1.ReducesTo [0, 1] S_
  slices_S256x18_S256x1_0_0 : S256x18.Slices ![0, 0] S256x1
  shapeCasts_S256x1_S256 : S256x1.ShapeCasts S256
  bcast_S_S256 : S_.BroadcastsInDim S256 (![] : Fin 0 → Fin S256.rank)
  reducesTo_S256_S_d0 : S256.ReducesTo [0] S_
  slices_S18_S1_0 : S18.Slices ![0] S1
  shapeCasts_S1_S_ : S1.ShapeCasts S_

variable [Facts]

def fn_part1 {F : FTy → Type} [FloatOps F] (main_arg8 : FVec F S18 .f32) (main_v15 : IVec S_ 1) (main_v16 : FVec F S256x1 .f32) : IVec S_ 1 :=
  let main_v17 : FVec F S256 .f32 := shapeCast S256 main_v16 shapeCasts_S256x1_S256
  let main_v18 : FVec F S256 .f32 := Host.absf main_v17
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_c_6 : IVec S_ 1 := constantI S_ 1 1#1
  let main_v21 : IVec S_ 1 := (fun x v => Host.reduce IntOp.andi x v reducesTo_S256_S_d0 h_S_) main_v20 main_c_6
  let main_v22 : IVec S_ 1 := andi main_v15 main_v21
  let main_v23 : FVec F S1 .f32 := (extractStridedSlice S1 ![0] · slices_S18_S1_0) main_arg8
  let main_v24 : FVec F S_ .f32 := shapeCast S_ main_v23 shapeCasts_S1_S_
  let main_v25 : FVec F S_ .f32 := Host.absf main_v24
  let main_cst_7 : FVec F S_ .f32 := constant S_ .f32 0x7F800000#32
  let main_v26 : IVec S_ 1 := cmpf .olt main_v25 main_cst_7
  let main_v27 : IVec S_ 1 := andi main_v22 main_v26
  main_v27

def fn {F : FTy → Type} [FloatOps F] (main_arg0 : IVec S320000 32) (main_arg1 : FVec F S320000x128 .f32) (main_arg2 : FVec F S320000x1 .f32) (main_arg3 : FVec F S10000x128 .f32) (main_arg4 : FVec F S10000x1 .f32) (main_arg5 : FVec F S128x256 .f32) (main_arg6 : FVec F S256 .f32) (main_arg7 : FVec F S256x18 .f32) (main_arg8 : FVec F S18 .f32) : IVec S_ 1 :=
  let main_c : IVec S_ 32 := constantI S_ 32 0#32
  let main_v0 : IVec S320000 32 := broadcastInDim S320000 ![] bcast_S_S320000 main_c
  let main_v1 : IVec S320000 1 := cmpi .sge main_arg0 main_v0
  let main_c_0 : IVec S_ 32 := constantI S_ 32 10000#32
  let main_v2 : IVec S320000 32 := broadcastInDim S320000 ![] bcast_S_S320000 main_c_0
  let main_v3 : IVec S320000 1 := cmpi .slt main_arg0 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_v6 : FVec F S320000x1 .f32 := Host.absf main_arg2
  let main_cst : FVec F S_ .f32 := constant S_ .f32 0x7F800000#32
  let main_v7 : FVec F S320000x1 .f32 := broadcastInDim S320000x1 ![] bcast_S_S320000x1 main_cst
  let main_v8 : IVec S320000x1 1 := cmpf .olt main_v6 main_v7
  let main_c_2 : IVec S_ 1 := constantI S_ 1 1#1
  let main_v9 : IVec S_ 1 := (fun x v => Host.reduce IntOp.andi x v reducesTo_S320000x1_S_d0_1 h_S_) main_v8 main_c_2
  let main_v10 : IVec S_ 1 := andi main_v5 main_v9
  let main_v11 : FVec F S10000x1 .f32 := Host.absf main_arg4
  let main_cst_3 : FVec F S_ .f32 := constant S_ .f32 0x7F800000#32
  let main_v12 : FVec F S10000x1 .f32 := broadcastInDim S10000x1 ![] bcast_S_S10000x1 main_cst_3
  let main_v13 : IVec S10000x1 1 := cmpf .olt main_v11 main_v12
  let main_c_4 : IVec S_ 1 := constantI S_ 1 1#1
  let main_v14 : IVec S_ 1 := (fun x v => Host.reduce IntOp.andi x v reducesTo_S10000x1_S_d0_1 h_S_) main_v13 main_c_4
  let main_v15 : IVec S_ 1 := andi main_v10 main_v14
  let main_v16 : FVec F S256x1 .f32 := (extractStridedSlice S256x1 ![0, 0] · slices_S256x18_S256x1_0_0) main_arg7
  fn_part1 (F := F) main_arg8 main_v15 main_v16
-- ==== Kernel.lean ====
abbrev S320000 : Shape := ⟨1, ![320000]⟩
abbrev S320000x128 : Shape := ⟨2, ![320000, 128]⟩
abbrev S320000x1 : Shape := ⟨2, ![320000, 1]⟩
abbrev S10000x128 : Shape := ⟨2, ![10000, 128]⟩
abbrev S10000x1 : Shape := ⟨2, ![10000, 1]⟩
abbrev S128x256 : Shape := ⟨2, ![128, 256]⟩
abbrev S256 : Shape := ⟨1, ![256]⟩
abbrev S256x18 : Shape := ⟨2, ![256, 18]⟩
abbrev S18 : Shape := ⟨1, ![18]⟩
abbrev S40x1x8000 : Shape := ⟨3, ![40, 1, 8000]⟩
abbrev S10048x128 : Shape := ⟨2, ![10048, 128]⟩
abbrev S1x1x8000 : Shape := ⟨3, ![1, 1, 8000]⟩
abbrev S8000x128 : Shape := ⟨2, ![8000, 128]⟩
abbrev S8000x1 : Shape := ⟨2, ![8000, 1]⟩
abbrev S1x1x1600 : Shape := ⟨3, ![1, 1, 1600]⟩
abbrev S1600 : Shape := ⟨1, ![1600]⟩
abbrev S1600x128 : Shape := ⟨2, ![1600, 128]⟩
abbrev S1600x1 : Shape := ⟨2, ![1600, 1]⟩
abbrev S1x1600 : Shape := ⟨2, ![1, 1600]⟩
abbrev S64x1600 : Shape := ⟨2, ![64, 1600]⟩
abbrev S1 : Shape := ⟨1, ![1]⟩
abbrev S1x1 : Shape := ⟨2, ![1, 1]⟩
abbrev S64x128 : Shape := ⟨2, ![64, 128]⟩
abbrev S1x256 : Shape := ⟨2, ![1, 256]⟩
abbrev S1x18 : Shape := ⟨2, ![1, 18]⟩
abbrev S10000x16 : Shape := ⟨2, ![10000, 16]⟩
abbrev S1000x128 : Shape := ⟨2, ![1000, 128]⟩
abbrev S1000x1 : Shape := ⟨2, ![1000, 1]⟩
abbrev S1000x16 : Shape := ⟨2, ![1000, 16]⟩
abbrev S1000 : Shape := ⟨1, ![1000]⟩
abbrev S1000x256 : Shape := ⟨2, ![1000, 256]⟩
abbrev S1000x18 : Shape := ⟨2, ![1000, 18]⟩

abbrev nBuf : Space → Nat
  | .hbm => 21
  | .vmem => 36
  | .smem => 0
  | _ => 0

abbrev bufTy : (tb : Table) → Fin (tcTables nBuf tb) → BufTy
  | .hbm, ⟨0, _⟩ => ⟨S320000, .i32⟩
  | .hbm, ⟨1, _⟩ => ⟨S320000x128, .f32⟩
  | .hbm, ⟨2, _⟩ => ⟨S320000x1, .f32⟩
  | .hbm, ⟨3, _⟩ => ⟨S10000x128, .f32⟩
  | .hbm, ⟨4, _⟩ => ⟨S10000x1, .f32⟩
  | .hbm, ⟨5, _⟩ => ⟨S128x256, .f32⟩
  | .hbm, ⟨6, _⟩ => ⟨S256, .f32⟩
  | .hbm, ⟨7, _⟩ => ⟨S256x18, .f32⟩
  | .hbm, ⟨8, _⟩ => ⟨S18, .f32⟩
  | .hbm, ⟨9, _⟩ => ⟨S40x1x8000, .i32⟩
  | .hbm, ⟨10, _⟩ => ⟨S10048x128, .f32⟩
  | .hbm, ⟨11, _⟩ => ⟨S10048x128, .f32⟩
  | .hbm, ⟨12, _⟩ => ⟨S10048x128, .f32⟩
  | .hbm, ⟨13, _⟩ => ⟨S10048x128, .f32⟩
  | .hbm, ⟨14, _⟩ => ⟨S1x256, .f32⟩
  | .hbm, ⟨15, _⟩ => ⟨S1x18, .f32⟩
  | .hbm, ⟨16, _⟩ => ⟨S10000x128, .f32⟩
  | .hbm, ⟨17, _⟩ => ⟨S10000x16, .f32⟩
  | .hbm, ⟨18, _⟩ => ⟨S10000x1, .f32⟩
  | .hbm, ⟨19, _⟩ => ⟨S10000x1, .f32⟩
  | .hbm, ⟨20, _⟩ => ⟨S10000x1, .f32⟩
  | .local _ .vmem, ⟨0, _⟩ => ⟨S1x1x8000, .i32⟩
  | .local _ .vmem, ⟨1, _⟩ => ⟨S1x1x8000, .i32⟩
  | .local _ .vmem, ⟨2, _⟩ => ⟨S8000x128, .f32⟩
  | .local _ .vmem, ⟨3, _⟩ => ⟨S8000x128, .f32⟩
  | .local _ .vmem, ⟨4, _⟩ => ⟨S8000x1, .f32⟩
  | .local _ .vmem, ⟨5, _⟩ => ⟨S8000x1, .f32⟩
  | .local _ .vmem, ⟨6, _⟩ => ⟨S10048x128, .f32⟩
  | .local _ .vmem, ⟨7, _⟩ => ⟨S10048x128, .f32⟩
  | .local _ .vmem, ⟨8, _⟩ => ⟨S10048x128, .f32⟩
  | .local _ .vmem, ⟨9, _⟩ => ⟨S10048x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x1, .f32⟩
  | .local _ .vmem, ⟨21, _⟩ => ⟨S1000x1, .f32⟩
  | .local _ .vmem, ⟨22, _⟩ => ⟨S128x256, .f32⟩
  | .local _ .vmem, ⟨23, _⟩ => ⟨S1x256, .f32⟩
  | .local _ .vmem, ⟨24, _⟩ => ⟨S256x18, .f32⟩
  | .local _ .vmem, ⟨25, _⟩ => ⟨S1x18, .f32⟩
  | .local _ .vmem, ⟨26, _⟩ => ⟨S1000x128, .f32⟩
  | .local _ .vmem, ⟨27, _⟩ => ⟨S1000x128, .f32⟩
  | .local _ .vmem, ⟨28, _⟩ => ⟨S1000x16, .f32⟩
  | .local _ .vmem, ⟨29, _⟩ => ⟨S1000x16, .f32⟩
  | .local _ .vmem, ⟨30, _⟩ => ⟨S1000x1, .f32⟩
  | .local _ .vmem, ⟨31, _⟩ => ⟨S1000x1, .f32⟩
  | .local _ .vmem, ⟨32, _⟩ => ⟨S1000x1, .f32⟩
  | .local _ .vmem, ⟨33, _⟩ => ⟨S1000x1, .f32⟩
  | .local _ .vmem, ⟨34, _⟩ => ⟨S1000x1, .f32⟩
  | .local _ .vmem, ⟨35, _⟩ => ⟨S1000x1, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc1_stg11_0 : Ref sig .tc := ⟨.vmem, 28, rfl⟩
abbrev cc1_stg11_1 : Ref sig .tc := ⟨.vmem, 29, rfl⟩
abbrev cc1_stg12_0 : Ref sig .tc := ⟨.vmem, 30, rfl⟩
abbrev cc1_stg12_1 : Ref sig .tc := ⟨.vmem, 31, rfl⟩
abbrev cc1_stg13_0 : Ref sig .tc := ⟨.vmem, 32, rfl⟩
abbrev cc1_stg13_1 : Ref sig .tc := ⟨.vmem, 33, rfl⟩
abbrev cc1_stg14_0 : Ref sig .tc := ⟨.vmem, 34, rfl⟩
abbrev cc1_stg14_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev cc1_sem13_0 : DmaSem sig := 32
abbrev cc1_sem13_1 : DmaSem sig := 33
abbrev cc1_sem14_0 : DmaSem sig := 34
abbrev cc1_sem14_1 : DmaSem sig := 35

abbrev nD : Nat := 1
abbrev τ : Topo := Topo.v7x

variable {F : FTy → Type} [FloatOps F]

abbrev grid0 : Pipeline.Grid := ⟨1, ![40], ![false]⟩

@[reducible] def k0_t1_loop (v30 : BitVec 32) (v51 : BitVec 32) : Scf.Loop 32 :=
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c64_i32 : BitVec 32 := 64#32
  let c0_i32_13 : BitVec 32 := 0#32
  let v37 : BitVec 1 := Scalar.cmpi .sgt c64_i32 c0_i32_13
  let v38 : BitVec 32 := Scalar.extui v37
  let c0_i32_14 : BitVec 32 := 0#32
  let v39 : BitVec 1 := Scalar.cmpi .slt c64_i32 c0_i32_14
  let v40 : BitVec 32 := Scalar.extui v39
  let v41 : BitVec 32 := Scalar.subi v38 v40
  let v42 : BitVec 1 := Scalar.cmpi .ne v36 v41
  let v43 : BitVec 32 := Scalar.remsi v30 c64_i32
  let c0_i32_15 : BitVec 32 := 0#32
  let v44 : BitVec 1 := Scalar.cmpi .ne v43 c0_i32_15
  let v45 : BitVec 1 := Scalar.andi v42 v44
  let v31 : BitVec 32 := Scalar.divsi v30 c64_i32
  let c1_i32_16 : BitVec 32 := 1#32
  let v46 : BitVec 32 := Scalar.subi v31 c1_i32_16
  let v47 : BitVec 32 := Scalar.select v45 v46 v31
  let c0_i32_19 : BitVec 32 := 0#32
  let v53 : BitVec 1 := Scalar.cmpi .sgt v51 c0_i32_19
  let v54 : BitVec 32 := Scalar.extui v53
  let c0_i32_20 : BitVec 32 := 0#32
  let v55 : BitVec 1 := Scalar.cmpi .slt v51 c0_i32_20
  let v56 : BitVec 32 := Scalar.extui v55
  let v57 : BitVec 32 := Scalar.subi v54 v56
  let c64_i32_18 : BitVec 32 := 64#32
  let c0_i32_21 : BitVec 32 := 0#32
  let v58 : BitVec 1 := Scalar.cmpi .sgt c64_i32_18 c0_i32_21
  let v59 : BitVec 32 := Scalar.extui v58
  let c0_i32_22 : BitVec 32 := 0#32
  let v60 : BitVec 1 := Scalar.cmpi .slt c64_i32_18 c0_i32_22
  let v61 : BitVec 32 := Scalar.extui v60
  let v62 : BitVec 32 := Scalar.subi v59 v61
  let v63 : BitVec 1 := Scalar.cmpi .ne v57 v62
  let v64 : BitVec 32 := Scalar.remsi v51 c64_i32_18
  let c0_i32_23 : BitVec 32 := 0#32
  let v65 : BitVec 1 := Scalar.cmpi .ne v64 c0_i32_23
  let v66 : BitVec 1 := Scalar.andi v63 v65
  let v52 : BitVec 32 := Scalar.divsi v51 c64_i32_18
  let c1_i32_24 : BitVec 32 := 1#32
  let v67 : BitVec 32 := Scalar.subi v52 c1_i32_24
  let v68 : BitVec 32 := Scalar.select v66 v67 v52
  let c1_i32_25 : BitVec 32 := 1#32
  let v69 : BitVec 32 := Scalar.addi v68 c1_i32_25
  let v70 : BitVec 32 := Scalar.subi v69 v47
  let c1_i32_27 : BitVec 32 := 1#32
  let v72 : BitVec 32 := Scalar.divsi v70 c1_i32_27
  let v73 : BitVec 32 := Scalar.muli v72 c1_i32_27
  let v74 : BitVec 32 := Scalar.addi v47 v73
  let c1_i32_28 : BitVec 32 := 1#32
  ⟨v47, v74, c1_i32_28⟩

def k0_off1 (v30 : BitVec 32) (v51 : BitVec 32) (k0_t1 : Fin (k0_t1_loop v30 v51).trips) : Fin 2 → Nat :=
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c64_i32 : BitVec 32 := 64#32
  let c0_i32_13 : BitVec 32 := 0#32
  let v37 : BitVec 1 := Scalar.cmpi .sgt c64_i32 c0_i32_13
  let v38 : BitVec 32 := Scalar.extui v37
  let c0_i32_14 : BitVec 32 := 0#32
  let v39 : BitVec 1 := Scalar.cmpi .slt c64_i32 c0_i32_14
  let v40 : BitVec 32 := Scalar.extui v39
  let v41 : BitVec 32 := Scalar.subi v38 v40
  let v42 : BitVec 1 := Scalar.cmpi .ne v36 v41
  let v43 : BitVec 32 := Scalar.remsi v30 c64_i32
  let c0_i32_15 : BitVec 32 := 0#32
  let v44 : BitVec 1 := Scalar.cmpi .ne v43 c0_i32_15
  let v45 : BitVec 1 := Scalar.andi v42 v44
  let v31 : BitVec 32 := Scalar.divsi v30 c64_i32
  let c1_i32_16 : BitVec 32 := 1#32
  let v46 : BitVec 32 := Scalar.subi v31 c1_i32_16
  let v47 : BitVec 32 := Scalar.select v45 v46 v31
  let c1_i32_28 : BitVec 32 := 1#32
  let arg8 : BitVec 32 := Scf.iv v47 c1_i32_28 k0_t1
  let c64_i32_163 : BitVec 32 := 64#32
  let v383 : BitVec 32 := Scalar.muli arg8 c64_i32_163
  let v384 : Index := Scalar.indexCast v383
  let c0_164 : Index := 0#32
  ![v384.toNat, 0]
@[reducible] def k0_t2_loop (v30 : BitVec 32) (v51 : BitVec 32) : Scf.Loop 32 :=
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c64_i32 : BitVec 32 := 64#32
  let c0_i32_13 : BitVec 32 := 0#32
  let v37 : BitVec 1 := Scalar.cmpi .sgt c64_i32 c0_i32_13
  let v38 : BitVec 32 := Scalar.extui v37
  let c0_i32_14 : BitVec 32 := 0#32
  let v39 : BitVec 1 := Scalar.cmpi .slt c64_i32 c0_i32_14
  let v40 : BitVec 32 := Scalar.extui v39
  let v41 : BitVec 32 := Scalar.subi v38 v40
  let v42 : BitVec 1 := Scalar.cmpi .ne v36 v41
  let v43 : BitVec 32 := Scalar.remsi v30 c64_i32
  let c0_i32_15 : BitVec 32 := 0#32
  let v44 : BitVec 1 := Scalar.cmpi .ne v43 c0_i32_15
  let v45 : BitVec 1 := Scalar.andi v42 v44
  let v31 : BitVec 32 := Scalar.divsi v30 c64_i32
  let c1_i32_16 : BitVec 32 := 1#32
  let v46 : BitVec 32 := Scalar.subi v31 c1_i32_16
  let v47 : BitVec 32 := Scalar.select v45 v46 v31
  let c0_i32_19 : BitVec 32 := 0#32
  let v53 : BitVec 1 := Scalar.cmpi .sgt v51 c0_i32_19
  let v54 : BitVec 32 := Scalar.extui v53
  let c0_i32_20 : BitVec 32 := 0#32
  let v55 : BitVec 1 := Scalar.cmpi .slt v51 c0_i32_20
  let v56 : BitVec 32 := Scalar.extui v55
  let v57 : BitVec 32 := Scalar.subi v54 v56
  let c64_i32_18 : BitVec 32 := 64#32
  let c0_i32_21 : BitVec 32 := 0#32
  let v58 : BitVec 1 := Scalar.cmpi .sgt c64_i32_18 c0_i32_21
  let v59 : BitVec 32 := Scalar.extui v58
  let c0_i32_22 : BitVec 32 := 0#32
  let v60 : BitVec 1 := Scalar.cmpi .slt c64_i32_18 c0_i32_22
  let v61 : BitVec 32 := Scalar.extui v60
  let v62 : BitVec 32 := Scalar.subi v59 v61
  let v63 : BitVec 1 := Scalar.cmpi .ne v57 v62
  let v64 : BitVec 32 := Scalar.remsi v51 c64_i32_18
  let c0_i32_23 : BitVec 32 := 0#32
  let v65 : BitVec 1 := Scalar.cmpi .ne v64 c0_i32_23
  let v66 : BitVec 1 := Scalar.andi v63 v65
  let v52 : BitVec 32 := Scalar.divsi v51 c64_i32_18
  let c1_i32_24 : BitVec 32 := 1#32
  let v67 : BitVec 32 := Scalar.subi v52 c1_i32_24
  let v68 : BitVec 32 := Scalar.select v66 v67 v52
  let c1_i32_25 : BitVec 32 := 1#32
  let v69 : BitVec 32 := Scalar.addi v68 c1_i32_25
  let v70 : BitVec 32 := Scalar.subi v69 v47
  let c1_i32_27 : BitVec 32 := 1#32
  let v72 : BitVec 32 := Scalar.divsi v70 c1_i32_27
  let v73 : BitVec 32 := Scalar.muli v72 c1_i32_27
  let v74 : BitVec 32 := Scalar.addi v47 v73
  let v71 : BitVec 32 := Scalar.addi v47 v70
  let c1_i32_29 : BitVec 32 := 1#32
  ⟨v74, v71, c1_i32_29⟩
def k0_off2 (v30 : BitVec 32) (v51 : BitVec 32) (k0_t2 : Fin (k0_t2_loop v30 v51).trips) : Fin 2 → Nat :=
  let c0_i32_11 : BitVec 32 := 0#32
  let v32 : BitVec 1 := Scalar.cmpi .sgt v30 c0_i32_11
  let v33 : BitVec 32 := Scalar.extui v32
  let c0_i32_12 : BitVec 32 := 0#32
  let v34 : BitVec 1 := Scalar.cmpi .slt v30 c0_i32_12
  let v35 : BitVec 32 := Scalar.extui v34
  let v36 : BitVec 32 := Scalar.subi v33 v35
  let c64_i32 : BitVec 32 := 64#32
  let c0_i32_13 : BitVec 32 := 0#32
  let v37 : BitVec 1 := Scalar.cmpi .sgt c64_i32 c0_i32_13
  let v38 : BitVec 32 := Scalar.extui v37
  let c0_i32_14 : BitVec 32 := 0#32
  let v39 : BitVec 1 := Scalar.cmpi .slt c64_i32 c0_i32_14
  let v40 : BitVec 32 := Scalar.extui v39
  let v41 : BitVec 32 := Scalar.subi v38 v40
  let v42 : BitVec 1 := Scalar.cmpi .ne v36 v41
  let v43 : BitVec 32 := Scalar.remsi v30 c64_i32
  let c0_i32_15 : BitVec 32 := 0#32
  let v44 : BitVec 1 := Scalar.cmpi .ne v43 c0_i32_15
  let v45 : BitVec 1 := Scalar.andi v42 v44
  let v31 : BitVec 32 := Scalar.divsi v30 c64_i32
  let c1_i32_16 : BitVec 32 := 1#32
  let v46 : BitVec 32 := Scalar.subi v31 c1_i32_16
  let v47 : BitVec 32 := Scalar.select v45 v46 v31
  let c0_i32_19 : BitVec 32 := 0#32
  let v53 : BitVec 1 := Scalar.cmpi .sgt v51 c0_i32_19
  let v54 : BitVec 32 := Scalar.extui v53
  let c0_i32_20 : BitVec 32 := 0#32
  let v55 : BitVec 1 := Scalar.cmpi .slt v51 c0_i32_20
  let v56 : BitVec 32 := Scalar.extui v55
  let v57 : BitVec 32 := Scalar.subi v54 v56
  let c64_i32_18 : BitVec 32 := 64#32
  let c0_i32_21 : BitVec 32 := 0#32
  let v58 : BitVec 1 := Scalar.cmpi .sgt c64_i32_18 c0_i32_21
  let v59 : BitVec 32 := Scalar.extui v58
  let c0_i32_22 : BitVec 32 := 0#32
  let v60 : BitVec 1 := Scalar.cmpi .slt c64_i32_18 c0_i32_22
  let v61 : BitVec 32 := Scalar.extui v60
  let v62 : BitVec 32 := Scalar.subi v59 v61
  let v63 : BitVec 1 := Scalar.cmpi .ne v57 v62
  let v64 : BitVec 32 := Scalar.remsi v51 c64_i32_18
  let c0_i32_23 : BitVec 32 := 0#32
  let v65 : BitVec 1 := Scalar.cmpi .ne v64 c0_i32_23
  let v66 : BitVec 1 := Scalar.andi v63 v65
  let v52 : BitVec 32 := Scalar.divsi v51 c64_i32_18
  let c1_i32_24 : BitVec 32 := 1#32
  let v67 : BitVec 32 := Scalar.subi v52 c1_i32_24
  let v68 : BitVec 32 := Scalar.select v66 v67 v52
  let c1_i32_25 : BitVec 32 := 1#32
  let v69 : BitVec 32 := Scalar.addi v68 c1_i32_25
  let v70 : BitVec 32 := Scalar.subi v69 v47
  let c1_i32_27 : BitVec 32 := 1#32
  let v72 : BitVec 32 := Scalar.divsi v70 c1_i32_27
  let v73 : BitVec 32 := Scalar.muli v72 c1_i32_27
  let v74 : BitVec 32 := Scalar.addi v47 v73
  let c1_i32_29 : BitVec 32 := 1#32
  let arg8 : BitVec 32 := Scf.iv v74 c1_i32_29 k0_t2
  let c64_i32_163 : BitVec 32 := 64#32
  let v383 : BitVec 32 := Scalar.muli arg8 c64_i32_163
  let v384 : Index := Scalar.indexCast v383
  let c0_164 : Index := 0#32
  ![v384.toNat, 0]

def k0_chk1 (v30 : BitVec 32) (v51 : BitVec 32) : Prop :=
  ((k0_t1_loop v30 v51).OK) ∧
  (∀ k0_t1 : Fin (k0_t1_loop v30 v51).trips, ∀ a, (k0_off1 v30 v51 k0_t1) a + S64x128.size a ≤ S10048x128.size a) ∧
  ((k0_t2_loop v30 v51).OK) ∧
  (∀ k0_t2 : Fin (k0_t2_loop v30 v51).trips, ∀ a, (k0_off2 v30 v51 k0_t2) a + S64x128.size a ≤ S10048x128.size a)
theorem k0_t1_ok : ∀ (v30 : BitVec 32) (v51 : BitVec 32) (k0_hw1 : k0_chk1 v30 v51), (k0_t1_loop v30 v51).OK := fun v30 v51 k0_hw1 => k0_hw1.1
theorem k0_off1_inb : ∀ (v30 : BitVec 32) (v51 : BitVec 32) (k0_hw1 : k0_chk1 v30 v51) (k0_t1 : Fin (k0_t1_loop v30 v51).trips), ∀ a, (k0_off1 v30 v51 k0_t1) a + S64x128.size a ≤ S10048x128.size a := fun v30 v51 k0_hw1 k0_t1 => k0_hw1.2.1 k0_t1
theorem k0_t2_ok : ∀ (v30 : BitVec 32) (v51 : BitVec 32) (k0_hw1 : k0_chk1 v30 v51), (k0_t2_loop v30 v51).OK := fun v30 v51 k0_hw1 => k0_hw1.2.2.1
theorem k0_off2_inb : ∀ (v30 : BitVec 32) (v51 : BitVec 32) (k0_hw1 : k0_chk1 v30 v51) (k0_t2 : Fin (k0_t2_loop v30 v51).trips), ∀ a, (k0_off2 v30 v51 k0_t2) a + S64x128.size a ≤ S10048x128.size a := fun v30 v51 k0_hw1 k0_t2 => k0_hw1.2.2.2 k0_t2

@[reducible] def k0_t3_loop (v104 : BitVec 32) (v125 : BitVec 32) : Scf.Loop 32 :=
  let c0_i32_43 : BitVec 32 := 0#32
  let v106 : BitVec 1 := Scalar.cmpi .sgt v104 c0_i32_43
  let v107 : BitVec 32 := Scalar.extui v106
  let c0_i32_44 : BitVec 32 := 0#32
  let v108 : BitVec 1 := Scalar.cmpi .slt v104 c0_i32_44
  let v109 : BitVec 32 := Scalar.extui v108
  let v110 : BitVec 32 := Scalar.subi v107 v109
  let c64_i32_42 : BitVec 32 := 64#32
  let c0_i32_45 : BitVec 32 := 0#32
  let v111 : BitVec 1 := Scalar.cmpi .sgt c64_i32_42 c0_i32_45
  let v112 : BitVec 32 := Scalar.extui v111
  let c0_i32_46 : BitVec 32 := 0#32
  let v113 : BitVec 1 := Scalar.cmpi .slt c64_i32_42 c0_i32_46
  let v114 : BitVec 32 := Scalar.extui v113
  let v115 : BitVec 32 := Scalar.subi v112 v114
  let v116 : BitVec 1 := Scalar.cmpi .ne v110 v115
  let v117 : BitVec 32 := Scalar.remsi v104 c64_i32_42
  let c0_i32_47 : BitVec 32 := 0#32
  let v118 : BitVec 1 := Scalar.cmpi .ne v117 c0_i32_47
  let v119 : BitVec 1 := Scalar.andi v116 v118
  let v105 : BitVec 32 := Scalar.divsi v104 c64_i32_42
  let c1_i32_48 : BitVec 32 := 1#32
  let v120 : BitVec 32 := Scalar.subi v105 c1_i32_48
  let v121 : BitVec 32 := Scalar.select v119 v120 v105
  let c0_i32_51 : BitVec 32 := 0#32
  let v127 : BitVec 1 := Scalar.cmpi .sgt v125 c0_i32_51
  let v128 : BitVec 32 := Scalar.extui v127
  let c0_i32_52 : BitVec 32 := 0#32
  let v129 : BitVec 1 := Scalar.cmpi .slt v125 c0_i32_52
  let v130 : BitVec 32 := Scalar.extui v129
  let v131 : BitVec 32 := Scalar.subi v128 v130
  let c64_i32_50 : BitVec 32 := 64#32
  let c0_i32_53 : BitVec 32 := 0#32
  let v132 : BitVec 1 := Scalar.cmpi .sgt c64_i32_50 c0_i32_53
  let v133 : BitVec 32 := Scalar.extui v132
  let c0_i32_54 : BitVec 32 := 0#32
  let v134 : BitVec 1 := Scalar.cmpi .slt c64_i32_50 c0_i32_54
  let v135 : BitVec 32 := Scalar.extui v134
  let v136 : BitVec 32 := Scalar.subi v133 v135
  let v137 : BitVec 1 := Scalar.cmpi .ne v131 v136
  let v138 : BitVec 32 := Scalar.remsi v125 c64_i32_50
  let c0_i32_55 : BitVec 32 := 0#32
  let v139 : BitVec 1 := Scalar.cmpi .ne v138 c0_i32_55
  let v140 : BitVec 1 := Scalar.andi v137 v139
  let v126 : BitVec 32 := Scalar.divsi v125 c64_i32_50
  let c1_i32_56 : BitVec 32 := 1#32
  let v141 : BitVec 32 := Scalar.subi v126 c1_i32_56
  let v142 : BitVec 32 := Scalar.select v140 v141 v126
  let c1_i32_57 : BitVec 32 := 1#32
  let v143 : BitVec 32 := Scalar.addi v142 c1_i32_57
  let v144 : BitVec 32 := Scalar.subi v143 v121
  let c1_i32_59 : BitVec 32 := 1#32
  let v146 : BitVec 32 := Scalar.divsi v144 c1_i32_59
  let v147 : BitVec 32 := Scalar.muli v146 c1_i32_59
  let v148 : BitVec 32 := Scalar.addi v121 v147
  let c1_i32_60 : BitVec 32 := 1#32
  ⟨v121, v148, c1_i32_60⟩

def k0_off3 (v104 : BitVec 32) (v125 : BitVec 32) (k0_t3 : Fin (k0_t3_loop v104 v125).trips) : Fin 2 → Nat :=
  let c0_i32_43 : BitVec 32 := 0#32
  let v106 : BitVec 1 := Scalar.cmpi .sgt v104 c0_i32_43
  let v107 : BitVec 32 := Scalar.extui v106
  let c0_i32_44 : BitVec 32 := 0#32
  let v108 : BitVec 1 := Scalar.cmpi .slt v104 c0_i32_44
  let v109 : BitVec 32 := Scalar.extui v108
  let v110 : BitVec 32 := Scalar.subi v107 v109
  let c64_i32_42 : BitVec 32 := 64#32
  let c0_i32_45 : BitVec 32 := 0#32
  let v111 : BitVec 1 := Scalar.cmpi .sgt c64_i32_42 c0_i32_45
  let v112 : BitVec 32 := Scalar.extui v111
  let c0_i32_46 : BitVec 32 := 0#32
  let v113 : BitVec 1 := Scalar.cmpi .slt c64_i32_42 c0_i32_46
  let v114 : BitVec 32 := Scalar.extui v113
  let v115 : BitVec 32 := Scalar.subi v112 v114
  let v116 : BitVec 1 := Scalar.cmpi .ne v110 v115
  let v117 : BitVec 32 := Scalar.remsi v104 c64_i32_42
  let c0_i32_47 : BitVec 32 := 0#32
  let v118 : BitVec 1 := Scalar.cmpi .ne v117 c0_i32_47
  let v119 : BitVec 1 := Scalar.andi v116 v118
  let v105 : BitVec 32 := Scalar.divsi v104 c64_i32_42
  let c1_i32_48 : BitVec 32 := 1#32
  let v120 : BitVec 32 := Scalar.subi v105 c1_i32_48
  let v121 : BitVec 32 := Scalar.select v119 v120 v105
  let c1_i32_60 : BitVec 32 := 1#32
  let arg8 : BitVec 32 := Scf.iv v121 c1_i32_60 k0_t3
  let c64_i32_163 : BitVec 32 := 64#32
  let v383 : BitVec 32 := Scalar.muli arg8 c64_i32_163
  let v384 : Index := Scalar.indexCast v383
  let c0_164 : Index := 0#32
  ![v384.toNat, 0]
@[reducible] def k0_t4_loop (v104 : BitVec 32) (v125 : BitVec 32) : Scf.Loop 32 :=
  let c0_i32_43 : BitVec 32 := 0#32
  let v106 : BitVec 1 := Scalar.cmpi .sgt v104 c0_i32_43
  let v107 : BitVec 32 := Scalar.extui v106
  let c0_i32_44 : BitVec 32 := 0#32
  let v108 : BitVec 1 := Scalar.cmpi .slt v104 c0_i32_44
  let v109 : BitVec 32 := Scalar.extui v108
  let v110 : BitVec 32 := Scalar.subi v107 v109
  let c64_i32_42 : BitVec 32 := 64#32
  let c0_i32_45 : BitVec 32 := 0#32
  let v111 : BitVec 1 := Scalar.cmpi .sgt c64_i32_42 c0_i32_45
  let v112 : BitVec 32 := Scalar.extui v111
  let c0_i32_46 : BitVec 32 := 0#32
  let v113 : BitVec 1 := Scalar.cmpi .slt c64_i32_42 c0_i32_46
  let v114 : BitVec 32 := Scalar.extui v113
  let v115 : BitVec 32 := Scalar.subi v112 v114
  let v116 : BitVec 1 := Scalar.cmpi .ne v110 v115
  let v117 : BitVec 32 := Scalar.remsi v104 c64_i32_42
  let c0_i32_47 : BitVec 32 := 0#32
  let v118 : BitVec 1 := Scalar.cmpi .ne v117 c0_i32_47
  let v119 : BitVec 1 := Scalar.andi v116 v118
  let v105 : BitVec 32 := Scalar.divsi v104 c64_i32_42
  let c1_i32_48 : BitVec 32 := 1#32
  let v120 : BitVec 32 := Scalar.subi v105 c1_i32_48
  let v121 : BitVec 32 := Scalar.select v119 v120 v105
  let c0_i32_51 : BitVec 32 := 0#32
  let v127 : BitVec 1 := Scalar.cmpi .sgt v125 c0_i32_51
  let v128 : BitVec 32 := Scalar.extui v127
  let c0_i32_52 : BitVec 32 := 0#32
  let v129 : BitVec 1 := Scalar.cmpi .slt v125 c0_i32_52
  let v130 : BitVec 32 := Scalar.extui v129
  let v131 : BitVec 32 := Scalar.subi v128 v130
  let c64_i32_50 : BitVec 32 := 64#32
  let c0_i32_53 : BitVec 32 := 0#32
  let v132 : BitVec 1 := Scalar.cmpi .sgt c64_i32_50 c0_i32_53
  let v133 : BitVec 32 := Scalar.extui v132
  let c0_i32_54 : BitVec 32 := 0#32
  let v134 : BitVec 1 := Scalar.cmpi .slt c64_i32_50 c0_i32_54
  let v135 : BitVec 32 := Scalar.extui v134
  let v136 : BitVec 32 := Scalar.subi v133 v135
  let v137 : BitVec 1 := Scalar.cmpi .ne v131 v136
  let v138 : BitVec 32 := Scalar.remsi v125 c64_i32_50
  let c0_i32_55 : BitVec 32 := 0#32
  let v139 : BitVec 1 := Scalar.cmpi .ne v138 c0_i32_55
  let v140 : BitVec 1 := Scalar.andi v137 v139
  let v126 : BitVec 32 := Scalar.divsi v125 c64_i32_50
  let c1_i32_56 : BitVec 32 := 1#32
  let v141 : BitVec 32 := Scalar.subi v126 c1_i32_56
  let v142 : BitVec 32 := Scalar.select v140 v141 v126
  let c1_i32_57 : BitVec 32 := 1#32
  let v143 : BitVec 32 := Scalar.addi v142 c1_i32_57
  let v144 : BitVec 32 := Scalar.subi v143 v121
  let c1_i32_59 : BitVec 32 := 1#32
  let v146 : BitVec 32 := Scalar.divsi v144 c1_i32_59
  let v147 : BitVec 32 := Scalar.muli v146 c1_i32_59
  let v148 : BitVec 32 := Scalar.addi v121 v147
  let v145 : BitVec 32 := Scalar.addi v121 v144
  let c1_i32_61 : BitVec 32 := 1#32
  ⟨v148, v145, c1_i32_61⟩
def k0_off4 (v104 : BitVec 32) (v125 : BitVec 32) (k0_t4 : Fin (k0_t4_loop v104 v125).trips) : Fin 2 → Nat :=
  let c0_i32_43 : BitVec 32 := 0#32
  let v106 : BitVec 1 := Scalar.cmpi .sgt v104 c0_i32_43
  let v107 : BitVec 32 := Scalar.extui v106
  let c0_i32_44 : BitVec 32 := 0#32
  let v108 : BitVec 1 := Scalar.cmpi .slt v104 c0_i32_44
  let v109 : BitVec 32 := Scalar.extui v108
  let v110 : BitVec 32 := Scalar.subi v107 v109
  let c64_i32_42 : BitVec 32 := 64#32
  let c0_i32_45 : BitVec 32 := 0#32
  let v111 : BitVec 1 := Scalar.cmpi .sgt c64_i32_42 c0_i32_45
  let v112 : BitVec 32 := Scalar.extui v111
  let c0_i32_46 : BitVec 32 := 0#32
  let v113 : BitVec 1 := Scalar.cmpi .slt c64_i32_42 c0_i32_46
  let v114 : BitVec 32 := Scalar.extui v113
  let v115 : BitVec 32 := Scalar.subi v112 v114
  let v116 : BitVec 1 := Scalar.cmpi .ne v110 v115
  let v117 : BitVec 32 := Scalar.remsi v104 c64_i32_42
  let c0_i32_47 : BitVec 32 := 0#32
  let v118 : BitVec 1 := Scalar.cmpi .ne v117 c0_i32_47
  let v119 : BitVec 1 := Scalar.andi v116 v118
  let v105 : BitVec 32 := Scalar.divsi v104 c64_i32_42
  let c1_i32_48 : BitVec 32 := 1#32
  let v120 : BitVec 32 := Scalar.subi v105 c1_i32_48
  let v121 : BitVec 32 := Scalar.select v119 v120 v105
  let c0_i32_51 : BitVec 32 := 0#32
  let v127 : BitVec 1 := Scalar.cmpi .sgt v125 c0_i32_51
  let v128 : BitVec 32 := Scalar.extui v127
  let c0_i32_52 : BitVec 32 := 0#32
  let v129 : BitVec 1 := Scalar.cmpi .slt v125 c0_i32_52
  let v130 : BitVec 32 := Scalar.extui v129
  let v131 : BitVec 32 := Scalar.subi v128 v130
  let c64_i32_50 : BitVec 32 := 64#32
  let c0_i32_53 : BitVec 32 := 0#32
  let v132 : BitVec 1 := Scalar.cmpi .sgt c64_i32_50 c0_i32_53
  let v133 : BitVec 32 := Scalar.extui v132
  let c0_i32_54 : BitVec 32 := 0#32
  let v134 : BitVec 1 := Scalar.cmpi .slt c64_i32_50 c0_i32_54
  let v135 : BitVec 32 := Scalar.extui v134
  let v136 : BitVec 32 := Scalar.subi v133 v135
  let v137 : BitVec 1 := Scalar.cmpi .ne v131 v136
  let v138 : BitVec 32 := Scalar.remsi v125 c64_i32_50
  let c0_i32_55 : BitVec 32 := 0#32
  let v139 : BitVec 1 := Scalar.cmpi .ne v138 c0_i32_55
  let v140 : BitVec 1 := Scalar.andi v137 v139
  let v126 : BitVec 32 := Scalar.divsi v125 c64_i32_50
  let c1_i32_56 : BitVec 32 := 1#32
  let v141 : BitVec 32 := Scalar.subi v126 c1_i32_56
  let v142 : BitVec 32 := Scalar.select v140 v141 v126
  let c1_i32_57 : BitVec 32 := 1#32
  let v143 : BitVec 32 := Scalar.addi v142 c1_i32_57
  let v144 : BitVec 32 := Scalar.subi v143 v121
  let c1_i32_59 : BitVec 32 := 1#32
  let v146 : BitVec 32 := Scalar.divsi v144 c1_i32_59
  let v147 : BitVec 32 := Scalar.muli v146 c1_i32_59
  let v148 : BitVec 32 := Scalar.addi v121 v147
  let c1_i32_61 : BitVec 32 := 1#32
  let arg8 : BitVec 32 := Scf.iv v148 c1_i32_61 k0_t4
  let c64_i32_163 : BitVec 32 := 64#32
  let v383 : BitVec 32 := Scalar.muli arg8 c64_i32_163
  let v384 : Index := Scalar.indexCast v383
  let c0_164 : Index := 0#32
  ![v384.toNat, 0]

def k0_chk2 (v104 : BitVec 32) (v125 : BitVec 32) : Prop :=
  ((k0_t3_loop v104 v125).OK) ∧
  (∀ k0_t3 : Fin (k0_t3_loop v104 v125).trips, ∀ a, (k0_off3 v104 v125 k0_t3) a + S64x128.size a ≤ S10048x128.size a) ∧
  ((k0_t4_loop v104 v125).OK) ∧
  (∀ k0_t4 : Fin (k0_t4_loop v104 v125).trips, ∀ a, (k0_off4 v104 v125 k0_t4) a + S64x128.size a ≤ S10048x128.size a)
theorem k0_t3_ok : ∀ (v104 : BitVec 32) (v125 : BitVec 32) (k0_hw2 : k0_chk2 v104 v125), (k0_t3_loop v104 v125).OK := fun v104 v125 k0_hw2 => k0_hw2.1
theorem k0_off3_inb : ∀ (v104 : BitVec 32) (v125 : BitVec 32) (k0_hw2 : k0_chk2 v104 v125) (k0_t3 : Fin (k0_t3_loop v104 v125).trips), ∀ a, (k0_off3 v104 v125 k0_t3) a + S64x128.size a ≤ S10048x128.size a := fun v104 v125 k0_hw2 k0_t3 => k0_hw2.2.1 k0_t3
theorem k0_t4_ok : ∀ (v104 : BitVec 32) (v125 : BitVec 32) (k0_hw2 : k0_chk2 v104 v125), (k0_t4_loop v104 v125).OK := fun v104 v125 k0_hw2 => k0_hw2.2.2.1
theorem k0_off4_inb : ∀ (v104 : BitVec 32) (v125 : BitVec 32) (k0_hw2 : k0_chk2 v104 v125) (k0_t4 : Fin (k0_t4_loop v104 v125).trips), ∀ a, (k0_off4 v104 v125 k0_t4) a + S64x128.size a ≤ S10048x128.size a := fun v104 v125 k0_hw2 k0_t4 => k0_hw2.2.2.2 k0_t4

@[reducible] def k0_t5_loop (v178 : BitVec 32) (v199 : BitVec 32) : Scf.Loop 32 :=
  let c0_i32_75 : BitVec 32 := 0#32
  let v180 : BitVec 1 := Scalar.cmpi .sgt v178 c0_i32_75
  let v181 : BitVec 32 := Scalar.extui v180
  let c0_i32_76 : BitVec 32 := 0#32
  let v182 : BitVec 1 := Scalar.cmpi .slt v178 c0_i32_76
  let v183 : BitVec 32 := Scalar.extui v182
  let v184 : BitVec 32 := Scalar.subi v181 v183
  let c64_i32_74 : BitVec 32 := 64#32
  let c0_i32_77 : BitVec 32 := 0#32
  let v185 : BitVec 1 := Scalar.cmpi .sgt c64_i32_74 c0_i32_77
  let v186 : BitVec 32 := Scalar.extui v185
  let c0_i32_78 : BitVec 32 := 0#32
  let v187 : BitVec 1 := Scalar.cmpi .slt c64_i32_74 c0_i32_78
  let v188 : BitVec 32 := Scalar.extui v187
  let v189 : BitVec 32 := Scalar.subi v186 v188
  let v190 : BitVec 1 := Scalar.cmpi .ne v184 v189
  let v191 : BitVec 32 := Scalar.remsi v178 c64_i32_74
  let c0_i32_79 : BitVec 32 := 0#32
  let v192 : BitVec 1 := Scalar.cmpi .ne v191 c0_i32_79
  let v193 : BitVec 1 := Scalar.andi v190 v192
  let v179 : BitVec 32 := Scalar.divsi v178 c64_i32_74
  let c1_i32_80 : BitVec 32 := 1#32
  let v194 : BitVec 32 := Scalar.subi v179 c1_i32_80
  let v195 : BitVec 32 := Scalar.select v193 v194 v179
  let c0_i32_83 : BitVec 32 := 0#32
  let v201 : BitVec 1 := Scalar.cmpi .sgt v199 c0_i32_83
  let v202 : BitVec 32 := Scalar.extui v201
  let c0_i32_84 : BitVec 32 := 0#32
  let v203 : BitVec 1 := Scalar.cmpi .slt v199 c0_i32_84
  let v204 : BitVec 32 := Scalar.extui v203
  let v205 : BitVec 32 := Scalar.subi v202 v204
  let c64_i32_82 : BitVec 32 := 64#32
  let c0_i32_85 : BitVec 32 := 0#32
  let v206 : BitVec 1 := Scalar.cmpi .sgt c64_i32_82 c0_i32_85
  let v207 : BitVec 32 := Scalar.extui v206
  let c0_i32_86 : BitVec 32 := 0#32
  let v208 : BitVec 1 := Scalar.cmpi .slt c64_i32_82 c0_i32_86
  let v209 : BitVec 32 := Scalar.extui v208
  let v210 : BitVec 32 := Scalar.subi v207 v209
  let v211 : BitVec 1 := Scalar.cmpi .ne v205 v210
  let v212 : BitVec 32 := Scalar.remsi v199 c64_i32_82
  let c0_i32_87 : BitVec 32 := 0#32
  let v213 : BitVec 1 := Scalar.cmpi .ne v212 c0_i32_87
  let v214 : BitVec 1 := Scalar.andi v211 v213
  let v200 : BitVec 32 := Scalar.divsi v199 c64_i32_82
  let c1_i32_88 : BitVec 32 := 1#32
  let v215 : BitVec 32 := Scalar.subi v200 c1_i32_88
  let v216 : BitVec 32 := Scalar.select v214 v215 v200
  let c1_i32_89 : BitVec 32 := 1#32
  let v217 : BitVec 32 := Scalar.addi v216 c1_i32_89
  let v218 : BitVec 32 := Scalar.subi v217 v195
  let c1_i32_91 : BitVec 32 := 1#32
  let v220 : BitVec 32 := Scalar.divsi v218 c1_i32_91
  let v221 : BitVec 32 := Scalar.muli v220 c1_i32_91
  let v222 : BitVec 32 := Scalar.addi v195 v221
  let c1_i32_92 : BitVec 32 := 1#32
  ⟨v195, v222, c1_i32_92⟩

def k0_off5 (v178 : BitVec 32) (v199 : BitVec 32) (k0_t5 : Fin (k0_t5_loop v178 v199).trips) : Fin 2 → Nat :=
  let c0_i32_75 : BitVec 32 := 0#32
  let v180 : BitVec 1 := Scalar.cmpi .sgt v178 c0_i32_75
  let v181 : BitVec 32 := Scalar.extui v180
  let c0_i32_76 : BitVec 32 := 0#32
  let v182 : BitVec 1 := Scalar.cmpi .slt v178 c0_i32_76
  let v183 : BitVec 32 := Scalar.extui v182
  let v184 : BitVec 32 := Scalar.subi v181 v183
  let c64_i32_74 : BitVec 32 := 64#32
  let c0_i32_77 : BitVec 32 := 0#32
  let v185 : BitVec 1 := Scalar.cmpi .sgt c64_i32_74 c0_i32_77
  let v186 : BitVec 32 := Scalar.extui v185
  let c0_i32_78 : BitVec 32 := 0#32
  let v187 : BitVec 1 := Scalar.cmpi .slt c64_i32_74 c0_i32_78
  let v188 : BitVec 32 := Scalar.extui v187
  let v189 : BitVec 32 := Scalar.subi v186 v188
  let v190 : BitVec 1 := Scalar.cmpi .ne v184 v189
  let v191 : BitVec 32 := Scalar.remsi v178 c64_i32_74
  let c0_i32_79 : BitVec 32 := 0#32
  let v192 : BitVec 1 := Scalar.cmpi .ne v191 c0_i32_79
  let v193 : BitVec 1 := Scalar.andi v190 v192
  let v179 : BitVec 32 := Scalar.divsi v178 c64_i32_74
  let c1_i32_80 : BitVec 32 := 1#32
  let v194 : BitVec 32 := Scalar.subi v179 c1_i32_80
  let v195 : BitVec 32 := Scalar.select v193 v194 v179
  let c1_i32_92 : BitVec 32 := 1#32
  let arg8 : BitVec 32 := Scf.iv v195 c1_i32_92 k0_t5
  let c64_i32_163 : BitVec 32 := 64#32
  let v383 : BitVec 32 := Scalar.muli arg8 c64_i32_163
  let v384 : Index := Scalar.indexCast v383
  let c0_164 : Index := 0#32
  ![v384.toNat, 0]
@[reducible] def k0_t6_loop (v178 : BitVec 32) (v199 : BitVec 32) : Scf.Loop 32 :=
  let c0_i32_75 : BitVec 32 := 0#32
  let v180 : BitVec 1 := Scalar.cmpi .sgt v178 c0_i32_75
  let v181 : BitVec 32 := Scalar.extui v180
  let c0_i32_76 : BitVec 32 := 0#32
  let v182 : BitVec 1 := Scalar.cmpi .slt v178 c0_i32_76
  let v183 : BitVec 32 := Scalar.extui v182
  let v184 : BitVec 32 := Scalar.subi v181 v183
  let c64_i32_74 : BitVec 32 := 64#32
  let c0_i32_77 : BitVec 32 := 0#32
  let v185 : BitVec 1 := Scalar.cmpi .sgt c64_i32_74 c0_i32_77
  let v186 : BitVec 32 := Scalar.extui v185
  let c0_i32_78 : BitVec 32 := 0#32
  let v187 : BitVec 1 := Scalar.cmpi .slt c64_i32_74 c0_i32_78
  let v188 : BitVec 32 := Scalar.extui v187
  let v189 : BitVec 32 := Scalar.subi v186 v188
  let v190 : BitVec 1 := Scalar.cmpi .ne v184 v189
  let v191 : BitVec 32 := Scalar.remsi v178 c64_i32_74
  let c0_i32_79 : BitVec 32 := 0#32
  let v192 : BitVec 1 := Scalar.cmpi .ne v191 c0_i32_79
  let v193 : BitVec 1 := Scalar.andi v190 v192
  let v179 : BitVec 32 := Scalar.divsi v178 c64_i32_74
  let c1_i32_80 : BitVec 32 := 1#32
  let v194 : BitVec 32 := Scalar.subi v179 c1_i32_80
  let v195 : BitVec 32 := Scalar.select v193 v194 v179
  let c0_i32_83 : BitVec 32 := 0#32
  let v201 : BitVec 1 := Scalar.cmpi .sgt v199 c0_i32_83
  let v202 : BitVec 32 := Scalar.extui v201
  let c0_i32_84 : BitVec 32 := 0#32
  let v203 : BitVec 1 := Scalar.cmpi .slt v199 c0_i32_84
  let v204 : BitVec 32 := Scalar.extui v203
  let v205 : BitVec 32 := Scalar.subi v202 v204
  let c64_i32_82 : BitVec 32 := 64#32
  let c0_i32_85 : BitVec 32 := 0#32
  let v206 : BitVec 1 := Scalar.cmpi .sgt c64_i32_82 c0_i32_85
  let v207 : BitVec 32 := Scalar.extui v206
  let c0_i32_86 : BitVec 32 := 0#32
  let v208 : BitVec 1 := Scalar.cmpi .slt c64_i32_82 c0_i32_86
  let v209 : BitVec 32 := Scalar.extui v208
  let v210 : BitVec 32 := Scalar.subi v207 v209
  let v211 : BitVec 1 := Scalar.cmpi .ne v205 v210
  let v212 : BitVec 32 := Scalar.remsi v199 c64_i32_82
  let c0_i32_87 : BitVec 32 := 0#32
  let v213 : BitVec 1 := Scalar.cmpi .ne v212 c0_i32_87
  let v214 : BitVec 1 := Scalar.andi v211 v213
  let v200 : BitVec 32 := Scalar.divsi v199 c64_i32_82
  let c1_i32_88 : BitVec 32 := 1#32
  let v215 : BitVec 32 := Scalar.subi v200 c1_i32_88
  let v216 : BitVec 32 := Scalar.select v214 v215 v200
  let c1_i32_89 : BitVec 32 := 1#32
  let v217 : BitVec 32 := Scalar.addi v216 c1_i32_89
  let v218 : BitVec 32 := Scalar.subi v217 v195
  let c1_i32_91 : BitVec 32 := 1#32
  let v220 : BitVec 32 := Scalar.divsi v218 c1_i32_91
  let v221 : BitVec 32 := Scalar.muli v220 c1_i32_91
  let v222 : BitVec 32 := Scalar.addi v195 v221
  let v219 : BitVec 32 := Scalar.addi v195 v218
  let c1_i32_93 : BitVec 32 := 1#32
  ⟨v222, v219, c1_i32_93⟩
def k0_off6 (v178 : BitVec 32) (v199 : BitVec 32) (k0_t6 : Fin (k0_t6_loop v178 v199).trips) : Fin 2 → Nat :=
  let c0_i32_75 : BitVec 32 := 0#32
  let v180 : BitVec 1 := Scalar.cmpi .sgt v178 c0_i32_75
  let v181 : BitVec 32 := Scalar.extui v180
  let c0_i32_76 : BitVec 32 := 0#32
  let v182 : BitVec 1 := Scalar.cmpi .slt v178 c0_i32_76
  let v183 : BitVec 32 := Scalar.extui v182
  let v184 : BitVec 32 := Scalar.subi v181 v183
  let c64_i32_74 : BitVec 32 := 64#32
  let c0_i32_77 : BitVec 32 := 0#32
  let v185 : BitVec 1 := Scalar.cmpi .sgt c64_i32_74 c0_i32_77
  let v186 : BitVec 32 := Scalar.extui v185
  let c0_i32_78 : BitVec 32 := 0#32
  let v187 : BitVec 1 := Scalar.cmpi .slt c64_i32_74 c0_i32_78
  let v188 : BitVec 32 := Scalar.extui v187
  let v189 : BitVec 32 := Scalar.subi v186 v188
  let v190 : BitVec 1 := Scalar.cmpi .ne v184 v189
  let v191 : BitVec 32 := Scalar.remsi v178 c64_i32_74
  let c0_i32_79 : BitVec 32 := 0#32
  let v192 : BitVec 1 := Scalar.cmpi .ne v191 c0_i32_79
  let v193 : BitVec 1 := Scalar.andi v190 v192
  let v179 : BitVec 32 := Scalar.divsi v178 c64_i32_74
  let c1_i32_80 : BitVec 32 := 1#32
  let v194 : BitVec 32 := Scalar.subi v179 c1_i32_80
  let v195 : BitVec 32 := Scalar.select v193 v194 v179
  let c0_i32_83 : BitVec 32 := 0#32
  let v201 : BitVec 1 := Scalar.cmpi .sgt v199 c0_i32_83
  let v202 : BitVec 32 := Scalar.extui v201
  let c0_i32_84 : BitVec 32 := 0#32
  let v203 : BitVec 1 := Scalar.cmpi .slt v199 c0_i32_84
  let v204 : BitVec 32 := Scalar.extui v203
  let v205 : BitVec 32 := Scalar.subi v202 v204
  let c64_i32_82 : BitVec 32 := 64#32
  let c0_i32_85 : BitVec 32 := 0#32
  let v206 : BitVec 1 := Scalar.cmpi .sgt c64_i32_82 c0_i32_85
  let v207 : BitVec 32 := Scalar.extui v206
  let c0_i32_86 : BitVec 32 := 0#32
  let v208 : BitVec 1 := Scalar.cmpi .slt c64_i32_82 c0_i32_86
  let v209 : BitVec 32 := Scalar.extui v208
  let v210 : BitVec 32 := Scalar.subi v207 v209
  let v211 : BitVec 1 := Scalar.cmpi .ne v205 v210
  let v212 : BitVec 32 := Scalar.remsi v199 c64_i32_82
  let c0_i32_87 : BitVec 32 := 0#32
  let v213 : BitVec 1 := Scalar.cmpi .ne v212 c0_i32_87
  let v214 : BitVec 1 := Scalar.andi v211 v213
  let v200 : BitVec 32 := Scalar.divsi v199 c64_i32_82
  let c1_i32_88 : BitVec 32 := 1#32
  let v215 : BitVec 32 := Scalar.subi v200 c1_i32_88
  let v216 : BitVec 32 := Scalar.select v214 v215 v200
  let c1_i32_89 : BitVec 32 := 1#32
  let v217 : BitVec 32 := Scalar.addi v216 c1_i32_89
  let v218 : BitVec 32 := Scalar.subi v217 v195
  let c1_i32_91 : BitVec 32 := 1#32
  let v220 : BitVec 32 := Scalar.divsi v218 c1_i32_91
  let v221 : BitVec 32 := Scalar.muli v220 c1_i32_91
  let v222 : BitVec 32 := Scalar.addi v195 v221
  let c1_i32_93 : BitVec 32 := 1#32
  let arg8 : BitVec 32 := Scf.iv v222 c1_i32_93 k0_t6
  let c64_i32_163 : BitVec 32 := 64#32
  let v383 : BitVec 32 := Scalar.muli arg8 c64_i32_163
  let v384 : Index := Scalar.indexCast v383
  let c0_164 : Index := 0#32
  ![v384.toNat, 0]

def k0_chk3 (v178 : BitVec 32) (v199 : BitVec 32) : Prop :=
  ((k0_t5_loop v178 v199).OK) ∧
  (∀ k0_t5 : Fin (k0_t5_loop v178 v199).trips, ∀ a, (k0_off5 v178 v199 k0_t5) a + S64x128.size a ≤ S10048x128.size a) ∧
  ((k0_t6_loop v178 v199).OK) ∧
  (∀ k0_t6 : Fin (k0_t6_loop v178 v199).trips, ∀ a, (k0_off6 v178 v199 k0_t6) a + S64x128.size a ≤ S10048x128.size a)
theorem k0_t5_ok : ∀ (v178 : BitVec 32) (v199 : BitVec 32) (k0_hw3 : k0_chk3 v178 v199), (k0_t5_loop v178 v199).OK := fun v178 v199 k0_hw3 => k0_hw3.1
theorem k0_off5_inb : ∀ (v178 : BitVec 32) (v199 : BitVec 32) (k0_hw3 : k0_chk3 v178 v199) (k0_t5 : Fin (k0_t5_loop v178 v199).trips), ∀ a, (k0_off5 v178 v199 k0_t5) a + S64x128.size a ≤ S10048x128.size a := fun v178 v199 k0_hw3 k0_t5 => k0_hw3.2.1 k0_t5
theorem k0_t6_ok : ∀ (v178 : BitVec 32) (v199 : BitVec 32) (k0_hw3 : k0_chk3 v178 v199), (k0_t6_loop v178 v199).OK := fun v178 v199 k0_hw3 => k0_hw3.2.2.1
theorem k0_off6_inb : ∀ (v178 : BitVec 32) (v199 : BitVec 32) (k0_hw3 : k0_chk3 v178 v199) (k0_t6 : Fin (k0_t6_loop v178 v199).trips), ∀ a, (k0_off6 v178 v199 k0_t6) a + S64x128.size a ≤ S10048x128.size a := fun v178 v199 k0_hw3 k0_t6 => k0_hw3.2.2.2 k0_t6

@[reducible] def k0_t7_loop (v252 : BitVec 32) (v273 : BitVec 32) : Scf.Loop 32 :=
  let c0_i32_107 : BitVec 32 := 0#32
  let v254 : BitVec 1 := Scalar.cmpi .sgt v252 c0_i32_107
  let v255 : BitVec 32 := Scalar.extui v254
  let c0_i32_108 : BitVec 32 := 0#32
  let v256 : BitVec 1 := Scalar.cmpi .slt v252 c0_i32_108
  let v257 : BitVec 32 := Scalar.extui v256
  let v258 : BitVec 32 := Scalar.subi v255 v257
  let c64_i32_106 : BitVec 32 := 64#32
  let c0_i32_109 : BitVec 32 := 0#32
  let v259 : BitVec 1 := Scalar.cmpi .sgt c64_i32_106 c0_i32_109
  let v260 : BitVec 32 := Scalar.extui v259
  let c0_i32_110 : BitVec 32 := 0#32
  let v261 : BitVec 1 := Scalar.cmpi .slt c64_i32_106 c0_i32_110
  let v262 : BitVec 32 := Scalar.extui v261
  let v263 : BitVec 32 := Scalar.subi v260 v262
  let v264 : BitVec 1 := Scalar.cmpi .ne v258 v263
  let v265 : BitVec 32 := Scalar.remsi v252 c64_i32_106
  let c0_i32_111 : BitVec 32 := 0#32
  let v266 : BitVec 1 := Scalar.cmpi .ne v265 c0_i32_111
  let v267 : BitVec 1 := Scalar.andi v264 v266
  let v253 : BitVec 32 := Scalar.divsi v252 c64_i32_106
  let c1_i32_112 : BitVec 32 := 1#32
  let v268 : BitVec 32 := Scalar.subi v253 c1_i32_112
  let v269 : BitVec 32 := Scalar.select v267 v268 v253
  let c0_i32_115 : BitVec 32 := 0#32
  let v275 : BitVec 1 := Scalar.cmpi .sgt v273 c0_i32_115
  let v276 : BitVec 32 := Scalar.extui v275
  let c0_i32_116 : BitVec 32 := 0#32
  let v277 : BitVec 1 := Scalar.cmpi .slt v273 c0_i32_116
  let v278 : BitVec 32 := Scalar.extui v277
  let v279 : BitVec 32 := Scalar.subi v276 v278
  let c64_i32_114 : BitVec 32 := 64#32
  let c0_i32_117 : BitVec 32 := 0#32
  let v280 : BitVec 1 := Scalar.cmpi .sgt c64_i32_114 c0_i32_117
  let v281 : BitVec 32 := Scalar.extui v280
  let c0_i32_118 : BitVec 32 := 0#32
  let v282 : BitVec 1 := Scalar.cmpi .slt c64_i32_114 c0_i32_118
  let v283 : BitVec 32 := Scalar.extui v282
  let v284 : BitVec 32 := Scalar.subi v281 v283
  let v285 : BitVec 1 := Scalar.cmpi .ne v279 v284
  let v286 : BitVec 32 := Scalar.remsi v273 c64_i32_114
  let c0_i32_119 : BitVec 32 := 0#32
  let v287 : BitVec 1 := Scalar.cmpi .ne v286 c0_i32_119
  let v288 : BitVec 1 := Scalar.andi v285 v287
  let v274 : BitVec 32 := Scalar.divsi v273 c64_i32_114
  let c1_i32_120 : BitVec 32 := 1#32
  let v289 : BitVec 32 := Scalar.subi v274 c1_i32_120
  let v290 : BitVec 32 := Scalar.select v288 v289 v274
  let c1_i32_121 : BitVec 32 := 1#32
  let v291 : BitVec 32 := Scalar.addi v290 c1_i32_121
  let v292 : BitVec 32 := Scalar.subi v291 v269
  let c1_i32_123 : BitVec 32 := 1#32
  let v294 : BitVec 32 := Scalar.divsi v292 c1_i32_123
  let v295 : BitVec 32 := Scalar.muli v294 c1_i32_123
  let v296 : BitVec 32 := Scalar.addi v269 v295
  let c1_i32_124 : BitVec 32 := 1#32
  ⟨v269, v296, c1_i32_124⟩

def k0_off7 (v252 : BitVec 32) (v273 : BitVec 32) (k0_t7 : Fin (k0_t7_loop v252 v273).trips) : Fin 2 → Nat :=
  let c0_i32_107 : BitVec 32 := 0#32
  let v254 : BitVec 1 := Scalar.cmpi .sgt v252 c0_i32_107
  let v255 : BitVec 32 := Scalar.extui v254
  let c0_i32_108 : BitVec 32 := 0#32
  let v256 : BitVec 1 := Scalar.cmpi .slt v252 c0_i32_108
  let v257 : BitVec 32 := Scalar.extui v256
  let v258 : BitVec 32 := Scalar.subi v255 v257
  let c64_i32_106 : BitVec 32 := 64#32
  let c0_i32_109 : BitVec 32 := 0#32
  let v259 : BitVec 1 := Scalar.cmpi .sgt c64_i32_106 c0_i32_109
  let v260 : BitVec 32 := Scalar.extui v259
  let c0_i32_110 : BitVec 32 := 0#32
  let v261 : BitVec 1 := Scalar.cmpi .slt c64_i32_106 c0_i32_110
  let v262 : BitVec 32 := Scalar.extui v261
  let v263 : BitVec 32 := Scalar.subi v260 v262
  let v264 : BitVec 1 := Scalar.cmpi .ne v258 v263
  let v265 : BitVec 32 := Scalar.remsi v252 c64_i32_106
  let c0_i32_111 : BitVec 32 := 0#32
  let v266 : BitVec 1 := Scalar.cmpi .ne v265 c0_i32_111
  let v267 : BitVec 1 := Scalar.andi v264 v266
  let v253 : BitVec 32 := Scalar.divsi v252 c64_i32_106
  let c1_i32_112 : BitVec 32 := 1#32
  let v268 : BitVec 32 := Scalar.subi v253 c1_i32_112
  let v269 : BitVec 32 := Scalar.select v267 v268 v253
  let c1_i32_124 : BitVec 32 := 1#32
  let arg8 : BitVec 32 := Scf.iv v269 c1_i32_124 k0_t7
  let c64_i32_163 : BitVec 32 := 64#32
  let v383 : BitVec 32 := Scalar.muli arg8 c64_i32_163
  let v384 : Index := Scalar.indexCast v383
  let c0_164 : Index := 0#32
  ![v384.toNat, 0]
@[reducible] def k0_t8_loop (v252 : BitVec 32) (v273 : BitVec 32) : Scf.Loop 32 :=
  let c0_i32_107 : BitVec 32 := 0#32
  let v254 : BitVec 1 := Scalar.cmpi .sgt v252 c0_i32_107
  let v255 : BitVec 32 := Scalar.extui v254
  let c0_i32_108 : BitVec 32 := 0#32
  let v256 : BitVec 1 := Scalar.cmpi .slt v252 c0_i32_108
  let v257 : BitVec 32 := Scalar.extui v256
  let v258 : BitVec 32 := Scalar.subi v255 v257
  let c64_i32_106 : BitVec 32 := 64#32
  let c0_i32_109 : BitVec 32 := 0#32
  let v259 : BitVec 1 := Scalar.cmpi .sgt c64_i32_106 c0_i32_109
  let v260 : BitVec 32 := Scalar.extui v259
  let c0_i32_110 : BitVec 32 := 0#32
  let v261 : BitVec 1 := Scalar.cmpi .slt c64_i32_106 c0_i32_110
  let v262 : BitVec 32 := Scalar.extui v261
  let v263 : BitVec 32 := Scalar.subi v260 v262
  let v264 : BitVec 1 := Scalar.cmpi .ne v258 v263
  let v265 : BitVec 32 := Scalar.remsi v252 c64_i32_106
  let c0_i32_111 : BitVec 32 := 0#32
  let v266 : BitVec 1 := Scalar.cmpi .ne v265 c0_i32_111
  let v267 : BitVec 1 := Scalar.andi v264 v266
  let v253 : BitVec 32 := Scalar.divsi v252 c64_i32_106
  let c1_i32_112 : BitVec 32 := 1#32
  let v268 : BitVec 32 := Scalar.subi v253 c1_i32_112
  let v269 : BitVec 32 := Scalar.select v267 v268 v253
  let c0_i32_115 : BitVec 32 := 0#32
  let v275 : BitVec 1 := Scalar.cmpi .sgt v273 c0_i32_115
  let v276 : BitVec 32 := Scalar.extui v275
  let c0_i32_116 : BitVec 32 := 0#32
  let v277 : BitVec 1 := Scalar.cmpi .slt v273 c0_i32_116
  let v278 : BitVec 32 := Scalar.extui v277
  let v279 : BitVec 32 := Scalar.subi v276 v278
  let c64_i32_114 : BitVec 32 := 64#32
  let c0_i32_117 : BitVec 32 := 0#32
  let v280 : BitVec 1 := Scalar.cmpi .sgt c64_i32_114 c0_i32_117
  let v281 : BitVec 32 := Scalar.extui v280
  let c0_i32_118 : BitVec 32 := 0#32
  let v282 : BitVec 1 := Scalar.cmpi .slt c64_i32_114 c0_i32_118
  let v283 : BitVec 32 := Scalar.extui v282
  let v284 : BitVec 32 := Scalar.subi v281 v283
  let v285 : BitVec 1 := Scalar.cmpi .ne v279 v284
  let v286 : BitVec 32 := Scalar.remsi v273 c64_i32_114
  let c0_i32_119 : BitVec 32 := 0#32
  let v287 : BitVec 1 := Scalar.cmpi .ne v286 c0_i32_119
  let v288 : BitVec 1 := Scalar.andi v285 v287
  let v274 : BitVec 32 := Scalar.divsi v273 c64_i32_114
  let c1_i32_120 : BitVec 32 := 1#32
  let v289 : BitVec 32 := Scalar.subi v274 c1_i32_120
  let v290 : BitVec 32 := Scalar.select v288 v289 v274
  let c1_i32_121 : BitVec 32 := 1#32
  let v291 : BitVec 32 := Scalar.addi v290 c1_i32_121
  let v292 : BitVec 32 := Scalar.subi v291 v269
  let c1_i32_123 : BitVec 32 := 1#32
  let v294 : BitVec 32 := Scalar.divsi v292 c1_i32_123
  let v295 : BitVec 32 := Scalar.muli v294 c1_i32_123
  let v296 : BitVec 32 := Scalar.addi v269 v295
  let v293 : BitVec 32 := Scalar.addi v269 v292
  let c1_i32_125 : BitVec 32 := 1#32
  ⟨v296, v293, c1_i32_125⟩
def k0_off8 (v252 : BitVec 32) (v273 : BitVec 32) (k0_t8 : Fin (k0_t8_loop v252 v273).trips) : Fin 2 → Nat :=
  let c0_i32_107 : BitVec 32 := 0#32
  let v254 : BitVec 1 := Scalar.cmpi .sgt v252 c0_i32_107
  let v255 : BitVec 32 := Scalar.extui v254
  let c0_i32_108 : BitVec 32 := 0#32
  let v256 : BitVec 1 := Scalar.cmpi .slt v252 c0_i32_108
  let v257 : BitVec 32 := Scalar.extui v256
  let v258 : BitVec 32 := Scalar.subi v255 v257
  let c64_i32_106 : BitVec 32 := 64#32
  let c0_i32_109 : BitVec 32 := 0#32
  let v259 : BitVec 1 := Scalar.cmpi .sgt c64_i32_106 c0_i32_109
  let v260 : BitVec 32 := Scalar.extui v259
  let c0_i32_110 : BitVec 32 := 0#32
  let v261 : BitVec 1 := Scalar.cmpi .slt c64_i32_106 c0_i32_110
  let v262 : BitVec 32 := Scalar.extui v261
  let v263 : BitVec 32 := Scalar.subi v260 v262
  let v264 : BitVec 1 := Scalar.cmpi .ne v258 v263
  let v265 : BitVec 32 := Scalar.remsi v252 c64_i32_106
  let c0_i32_111 : BitVec 32 := 0#32
  let v266 : BitVec 1 := Scalar.cmpi .ne v265 c0_i32_111
  let v267 : BitVec 1 := Scalar.andi v264 v266
  let v253 : BitVec 32 := Scalar.divsi v252 c64_i32_106
  let c1_i32_112 : BitVec 32 := 1#32
  let v268 : BitVec 32 := Scalar.subi v253 c1_i32_112
  let v269 : BitVec 32 := Scalar.select v267 v268 v253
  let c0_i32_115 : BitVec 32 := 0#32
  let v275 : BitVec 1 := Scalar.cmpi .sgt v273 c0_i32_115
  let v276 : BitVec 32 := Scalar.extui v275
  let c0_i32_116 : BitVec 32 := 0#32
  let v277 : BitVec 1 := Scalar.cmpi .slt v273 c0_i32_116
  let v278 : BitVec 32 := Scalar.extui v277
  let v279 : BitVec 32 := Scalar.subi v276 v278
  let c64_i32_114 : BitVec 32 := 64#32
  let c0_i32_117 : BitVec 32 := 0#32
  let v280 : BitVec 1 := Scalar.cmpi .sgt c64_i32_114 c0_i32_117
  let v281 : BitVec 32 := Scalar.extui v280
  let c0_i32_118 : BitVec 32 := 0#32
  let v282 : BitVec 1 := Scalar.cmpi .slt c64_i32_114 c0_i32_118
  let v283 : BitVec 32 := Scalar.extui v282
  let v284 : BitVec 32 := Scalar.subi v281 v283
  let v285 : BitVec 1 := Scalar.cmpi .ne v279 v284
  let v286 : BitVec 32 := Scalar.remsi v273 c64_i32_114
  let c0_i32_119 : BitVec 32 := 0#32
  let v287 : BitVec 1 := Scalar.cmpi .ne v286 c0_i32_119
  let v288 : BitVec 1 := Scalar.andi v285 v287
  let v274 : BitVec 32 := Scalar.divsi v273 c64_i32_114
  let c1_i32_120 : BitVec 32 := 1#32
  let v289 : BitVec 32 := Scalar.subi v274 c1_i32_120
  let v290 : BitVec 32 := Scalar.select v288 v289 v274
  let c1_i32_121 : BitVec 32 := 1#32
  let v291 : BitVec 32 := Scalar.addi v290 c1_i32_121
  let v292 : BitVec 32 := Scalar.subi v291 v269
  let c1_i32_123 : BitVec 32 := 1#32
  let v294 : BitVec 32 := Scalar.divsi v292 c1_i32_123
  let v295 : BitVec 32 := Scalar.muli v294 c1_i32_123
  let v296 : BitVec 32 := Scalar.addi v269 v295
  let c1_i32_125 : BitVec 32 := 1#32
  let arg8 : BitVec 32 := Scf.iv v296 c1_i32_125 k0_t8
  let c64_i32_163 : BitVec 32 := 64#32
  let v383 : BitVec 32 := Scalar.muli arg8 c64_i32_163
  let v384 : Index := Scalar.indexCast v383
  let c0_164 : Index := 0#32
  ![v384.toNat, 0]

def k0_chk4 (v252 : BitVec 32) (v273 : BitVec 32) : Prop :=
  ((k0_t7_loop v252 v273).OK) ∧
  (∀ k0_t7 : Fin (k0_t7_loop v252 v273).trips, ∀ a, (k0_off7 v252 v273 k0_t7) a + S64x128.size a ≤ S10048x128.size a) ∧
  ((k0_t8_loop v252 v273).OK) ∧
  (∀ k0_t8 : Fin (k0_t8_loop v252 v273).trips, ∀ a, (k0_off8 v252 v273 k0_t8) a + S64x128.size a ≤ S10048x128.size a)
theorem k0_t7_ok : ∀ (v252 : BitVec 32) (v273 : BitVec 32) (k0_hw4 : k0_chk4 v252 v273), (k0_t7_loop v252 v273).OK := fun v252 v273 k0_hw4 => k0_hw4.1
theorem k0_off7_inb : ∀ (v252 : BitVec 32) (v273 : BitVec 32) (k0_hw4 : k0_chk4 v252 v273) (k0_t7 : Fin (k0_t7_loop v252 v273).trips), ∀ a, (k0_off7 v252 v273 k0_t7) a + S64x128.size a ≤ S10048x128.size a := fun v252 v273 k0_hw4 k0_t7 => k0_hw4.2.1 k0_t7
theorem k0_t8_ok : ∀ (v252 : BitVec 32) (v273 : BitVec 32) (k0_hw4 : k0_chk4 v252 v273), (k0_t8_loop v252 v273).OK := fun v252 v273 k0_hw4 => k0_hw4.2.2.1
theorem k0_off8_inb : ∀ (v252 : BitVec 32) (v273 : BitVec 32) (k0_hw4 : k0_chk4 v252 v273) (k0_t8 : Fin (k0_t8_loop v252 v273).trips), ∀ a, (k0_off8 v252 v273 k0_t8) a + S64x128.size a ≤ S10048x128.size a := fun v252 v273 k0_hw4 k0_t8 => k0_hw4.2.2.2 k0_t8

@[reducible] def k0_t9_loop (v326 : BitVec 32) (v347 : BitVec 32) : Scf.Loop 32 :=
  let c0_i32_139 : BitVec 32 := 0#32
  let v328 : BitVec 1 := Scalar.cmpi .sgt v326 c0_i32_139
  let v329 : BitVec 32 := Scalar.extui v328
  let c0_i32_140 : BitVec 32 := 0#32
  let v330 : BitVec 1 := Scalar.cmpi .slt v326 c0_i32_140
  let v331 : BitVec 32 := Scalar.extui v330
  let v332 : BitVec 32 := Scalar.subi v329 v331
  let c64_i32_138 : BitVec 32 := 64#32
  let c0_i32_141 : BitVec 32 := 0#32
  let v333 : BitVec 1 := Scalar.cmpi .sgt c64_i32_138 c0_i32_141
  let v334 : BitVec 32 := Scalar.extui v333
  let c0_i32_142 : BitVec 32 := 0#32
  let v335 : BitVec 1 := Scalar.cmpi .slt c64_i32_138 c0_i32_142
  let v336 : BitVec 32 := Scalar.extui v335
  let v337 : BitVec 32 := Scalar.subi v334 v336
  let v338 : BitVec 1 := Scalar.cmpi .ne v332 v337
  let v339 : BitVec 32 := Scalar.remsi v326 c64_i32_138
  let c0_i32_143 : BitVec 32 := 0#32
  let v340 : BitVec 1 := Scalar.cmpi .ne v339 c0_i32_143
  let v341 : BitVec 1 := Scalar.andi v338 v340
  let v327 : BitVec 32 := Scalar.divsi v326 c64_i32_138
  let c1_i32_144 : BitVec 32 := 1#32
  let v342 : BitVec 32 := Scalar.subi v327 c1_i32_144
  let v343 : BitVec 32 := Scalar.select v341 v342 v327
  let c0_i32_147 : BitVec 32 := 0#32
  let v349 : BitVec 1 := Scalar.cmpi .sgt v347 c0_i32_147
  let v350 : BitVec 32 := Scalar.extui v349
  let c0_i32_148 : BitVec 32 := 0#32
  let v351 : BitVec 1 := Scalar.cmpi .slt v347 c0_i32_148
  let v352 : BitVec 32 := Scalar.extui v351
  let v353 : BitVec 32 := Scalar.subi v350 v352
  let c64_i32_146 : BitVec 32 := 64#32
  let c0_i32_149 : BitVec 32 := 0#32
  let v354 : BitVec 1 := Scalar.cmpi .sgt c64_i32_146 c0_i32_149
  let v355 : BitVec 32 := Scalar.extui v354
  let c0_i32_150 : BitVec 32 := 0#32
  let v356 : BitVec 1 := Scalar.cmpi .slt c64_i32_146 c0_i32_150
  let v357 : BitVec 32 := Scalar.extui v356
  let v358 : BitVec 32 := Scalar.subi v355 v357
  let v359 : BitVec 1 := Scalar.cmpi .ne v353 v358
  let v360 : BitVec 32 := Scalar.remsi v347 c64_i32_146
  let c0_i32_151 : BitVec 32 := 0#32
  let v361 : BitVec 1 := Scalar.cmpi .ne v360 c0_i32_151
  let v362 : BitVec 1 := Scalar.andi v359 v361
  let v348 : BitVec 32 := Scalar.divsi v347 c64_i32_146
  let c1_i32_152 : BitVec 32 := 1#32
  let v363 : BitVec 32 := Scalar.subi v348 c1_i32_152
  let v364 : BitVec 32 := Scalar.select v362 v363 v348
  let c1_i32_153 : BitVec 32 := 1#32
  let v365 : BitVec 32 := Scalar.addi v364 c1_i32_153
  let v366 : BitVec 32 := Scalar.subi v365 v343
  let c1_i32_155 : BitVec 32 := 1#32
  let v368 : BitVec 32 := Scalar.divsi v366 c1_i32_155
  let v369 : BitVec 32 := Scalar.muli v368 c1_i32_155
  let v370 : BitVec 32 := Scalar.addi v343 v369
  let c1_i32_156 : BitVec 32 := 1#32
  ⟨v343, v370, c1_i32_156⟩

def k0_off9 (v326 : BitVec 32) (v347 : BitVec 32) (k0_t9 : Fin (k0_t9_loop v326 v347).trips) : Fin 2 → Nat :=
  let c0_i32_139 : BitVec 32 := 0#32
  let v328 : BitVec 1 := Scalar.cmpi .sgt v326 c0_i32_139
  let v329 : BitVec 32 := Scalar.extui v328
  let c0_i32_140 : BitVec 32 := 0#32
  let v330 : BitVec 1 := Scalar.cmpi .slt v326 c0_i32_140
  let v331 : BitVec 32 := Scalar.extui v330
  let v332 : BitVec 32 := Scalar.subi v329 v331
  let c64_i32_138 : BitVec 32 := 64#32
  let c0_i32_141 : BitVec 32 := 0#32
  let v333 : BitVec 1 := Scalar.cmpi .sgt c64_i32_138 c0_i32_141
  let v334 : BitVec 32 := Scalar.extui v333
  let c0_i32_142 : BitVec 32 := 0#32
  let v335 : BitVec 1 := Scalar.cmpi .slt c64_i32_138 c0_i32_142
  let v336 : BitVec 32 := Scalar.extui v335
  let v337 : BitVec 32 := Scalar.subi v334 v336
  let v338 : BitVec 1 := Scalar.cmpi .ne v332 v337
  let v339 : BitVec 32 := Scalar.remsi v326 c64_i32_138
  let c0_i32_143 : BitVec 32 := 0#32
  let v340 : BitVec 1 := Scalar.cmpi .ne v339 c0_i32_143
  let v341 : BitVec 1 := Scalar.andi v338 v340
  let v327 : BitVec 32 := Scalar.divsi v326 c64_i32_138
  let c1_i32_144 : BitVec 32 := 1#32
  let v342 : BitVec 32 := Scalar.subi v327 c1_i32_144
  let v343 : BitVec 32 := Scalar.select v341 v342 v327
  let c1_i32_156 : BitVec 32 := 1#32
  let arg8 : BitVec 32 := Scf.iv v343 c1_i32_156 k0_t9
  let c64_i32_163 : BitVec 32 := 64#32
  let v383 : BitVec 32 := Scalar.muli arg8 c64_i32_163
  let v384 : Index := Scalar.indexCast v383
  let c0_164 : Index := 0#32
  ![v384.toNat, 0]
@[reducible] def k0_t10_loop (v326 : BitVec 32) (v347 : BitVec 32) : Scf.Loop 32 :=
  let c0_i32_139 : BitVec 32 := 0#32
  let v328 : BitVec 1 := Scalar.cmpi .sgt v326 c0_i32_139
  let v329 : BitVec 32 := Scalar.extui v328
  let c0_i32_140 : BitVec 32 := 0#32
  let v330 : BitVec 1 := Scalar.cmpi .slt v326 c0_i32_140
  let v331 : BitVec 32 := Scalar.extui v330
  let v332 : BitVec 32 := Scalar.subi v329 v331
  let c64_i32_138 : BitVec 32 := 64#32
  let c0_i32_141 : BitVec 32 := 0#32
  let v333 : BitVec 1 := Scalar.cmpi .sgt c64_i32_138 c0_i32_141
  let v334 : BitVec 32 := Scalar.extui v333
  let c0_i32_142 : BitVec 32 := 0#32
  let v335 : BitVec 1 := Scalar.cmpi .slt c64_i32_138 c0_i32_142
  let v336 : BitVec 32 := Scalar.extui v335
  let v337 : BitVec 32 := Scalar.subi v334 v336
  let v338 : BitVec 1 := Scalar.cmpi .ne v332 v337
  let v339 : BitVec 32 := Scalar.remsi v326 c64_i32_138
  let c0_i32_143 : BitVec 32 := 0#32
  let v340 : BitVec 1 := Scalar.cmpi .ne v339 c0_i32_143
  let v341 : BitVec 1 := Scalar.andi v338 v340
  let v327 : BitVec 32 := Scalar.divsi v326 c64_i32_138
  let c1_i32_144 : BitVec 32 := 1#32
  let v342 : BitVec 32 := Scalar.subi v327 c1_i32_144
  let v343 : BitVec 32 := Scalar.select v341 v342 v327
  let c0_i32_147 : BitVec 32 := 0#32
  let v349 : BitVec 1 := Scalar.cmpi .sgt v347 c0_i32_147
  let v350 : BitVec 32 := Scalar.extui v349
  let c0_i32_148 : BitVec 32 := 0#32
  let v351 : BitVec 1 := Scalar.cmpi .slt v347 c0_i32_148
  let v352 : BitVec 32 := Scalar.extui v351
  let v353 : BitVec 32 := Scalar.subi v350 v352
  let c64_i32_146 : BitVec 32 := 64#32
  let c0_i32_149 : BitVec 32 := 0#32
  let v354 : BitVec 1 := Scalar.cmpi .sgt c64_i32_146 c0_i32_149
  let v355 : BitVec 32 := Scalar.extui v354
  let c0_i32_150 : BitVec 32 := 0#32
  let v356 : BitVec 1 := Scalar.cmpi .slt c64_i32_146 c0_i32_150
  let v357 : BitVec 32 := Scalar.extui v356
  let v358 : BitVec 32 := Scalar.subi v355 v357
  let v359 : BitVec 1 := Scalar.cmpi .ne v353 v358
  let v360 : BitVec 32 := Scalar.remsi v347 c64_i32_146
  let c0_i32_151 : BitVec 32 := 0#32
  let v361 : BitVec 1 := Scalar.cmpi .ne v360 c0_i32_151
  let v362 : BitVec 1 := Scalar.andi v359 v361
  let v348 : BitVec 32 := Scalar.divsi v347 c64_i32_146
  let c1_i32_152 : BitVec 32 := 1#32
  let v363 : BitVec 32 := Scalar.subi v348 c1_i32_152
  let v364 : BitVec 32 := Scalar.select v362 v363 v348
  let c1_i32_153 : BitVec 32 := 1#32
  let v365 : BitVec 32 := Scalar.addi v364 c1_i32_153
  let v366 : BitVec 32 := Scalar.subi v365 v343
  let c1_i32_155 : BitVec 32 := 1#32
  let v368 : BitVec 32 := Scalar.divsi v366 c1_i32_155
  let v369 : BitVec 32 := Scalar.muli v368 c1_i32_155
  let v370 : BitVec 32 := Scalar.addi v343 v369
  let v367 : BitVec 32 := Scalar.addi v343 v366
  let c1_i32_157 : BitVec 32 := 1#32
  ⟨v370, v367, c1_i32_157⟩
def k0_off10 (v326 : BitVec 32) (v347 : BitVec 32) (k0_t10 : Fin (k0_t10_loop v326 v347).trips) : Fin 2 → Nat :=
  let c0_i32_139 : BitVec 32 := 0#32
  let v328 : BitVec 1 := Scalar.cmpi .sgt v326 c0_i32_139
  let v329 : BitVec 32 := Scalar.extui v328
  let c0_i32_140 : BitVec 32 := 0#32
  let v330 : BitVec 1 := Scalar.cmpi .slt v326 c0_i32_140
  let v331 : BitVec 32 := Scalar.extui v330
  let v332 : BitVec 32 := Scalar.subi v329 v331
  let c64_i32_138 : BitVec 32 := 64#32
  let c0_i32_141 : BitVec 32 := 0#32
  let v333 : BitVec 1 := Scalar.cmpi .sgt c64_i32_138 c0_i32_141
  let v334 : BitVec 32 := Scalar.extui v333
  let c0_i32_142 : BitVec 32 := 0#32
  let v335 : BitVec 1 := Scalar.cmpi .slt c64_i32_138 c0_i32_142
  let v336 : BitVec 32 := Scalar.extui v335
  let v337 : BitVec 32 := Scalar.subi v334 v336
  let v338 : BitVec 1 := Scalar.cmpi .ne v332 v337
  let v339 : BitVec 32 := Scalar.remsi v326 c64_i32_138
  let c0_i32_143 : BitVec 32 := 0#32
  let v340 : BitVec 1 := Scalar.cmpi .ne v339 c0_i32_143
  let v341 : BitVec 1 := Scalar.andi v338 v340
  let v327 : BitVec 32 := Scalar.divsi v326 c64_i32_138
  let c1_i32_144 : BitVec 32 := 1#32
  let v342 : BitVec 32 := Scalar.subi v327 c1_i32_144
  let v343 : BitVec 32 := Scalar.select v341 v342 v327
  let c0_i32_147 : BitVec 32 := 0#32
  let v349 : BitVec 1 := Scalar.cmpi .sgt v347 c0_i32_147
  let v350 : BitVec 32 := Scalar.extui v349
  let c0_i32_148 : BitVec 32 := 0#32
  let v351 : BitVec 1 := Scalar.cmpi .slt v347 c0_i32_148
  let v352 : BitVec 32 := Scalar.extui v351
  let v353 : BitVec 32 := Scalar.subi v350 v352
  let c64_i32_146 : BitVec 32 := 64#32
  let c0_i32_149 : BitVec 32 := 0#32
  let v354 : BitVec 1 := Scalar.cmpi .sgt c64_i32_146 c0_i32_149
  let v355 : BitVec 32 := Scalar.extui v354
  let c0_i32_150 : BitVec 32 := 0#32
  let v356 : BitVec 1 := Scalar.cmpi .slt c64_i32_146 c0_i32_150
  let v357 : BitVec 32 := Scalar.extui v356
  let v358 : BitVec 32 := Scalar.subi v355 v357
  let v359 : BitVec 1 := Scalar.cmpi .ne v353 v358
  let v360 : BitVec 32 := Scalar.remsi v347 c64_i32_146
  let c0_i32_151 : BitVec 32 := 0#32
  let v361 : BitVec 1 := Scalar.cmpi .ne v360 c0_i32_151
  let v362 : BitVec 1 := Scalar.andi v359 v361
  let v348 : BitVec 32 := Scalar.divsi v347 c64_i32_146
  let c1_i32_152 : BitVec 32 := 1#32
  let v363 : BitVec 32 := Scalar.subi v348 c1_i32_152
  let v364 : BitVec 32 := Scalar.select v362 v363 v348
  let c1_i32_153 : BitVec 32 := 1#32
  let v365 : BitVec 32 := Scalar.addi v364 c1_i32_153
  let v366 : BitVec 32 := Scalar.subi v365 v343
  let c1_i32_155 : BitVec 32 := 1#32
  let v368 : BitVec 32 := Scalar.divsi v366 c1_i32_155
  let v369 : BitVec 32 := Scalar.muli v368 c1_i32_155
  let v370 : BitVec 32 := Scalar.addi v343 v369
  let c1_i32_157 : BitVec 32 := 1#32
  let arg8 : BitVec 32 := Scf.iv v370 c1_i32_157 k0_t10
  let c64_i32_163 : BitVec 32 := 64#32
  let v383 : BitVec 32 := Scalar.muli arg8 c64_i32_163
  let v384 : Index := Scalar.indexCast v383
  let c0_164 : Index := 0#32
  ![v384.toNat, 0]

def k0_chk5 (v326 : BitVec 32) (v347 : BitVec 32) : Prop :=
  ((k0_t9_loop v326 v347).OK) ∧
  (∀ k0_t9 : Fin (k0_t9_loop v326 v347).trips, ∀ a, (k0_off9 v326 v347 k0_t9) a + S64x128.size a ≤ S10048x128.size a) ∧
  ((k0_t10_loop v326 v347).OK) ∧
  (∀ k0_t10 : Fin (k0_t10_loop v326 v347).trips, ∀ a, (k0_off10 v326 v347 k0_t10) a + S64x128.size a ≤ S10048x128.size a)
theorem k0_t9_ok : ∀ (v326 : BitVec 32) (v347 : BitVec 32) (k0_hw5 : k0_chk5 v326 v347), (k0_t9_loop v326 v347).OK := fun v326 v347 k0_hw5 => k0_hw5.1
theorem k0_off9_inb : ∀ (v326 : BitVec 32) (v347 : BitVec 32) (k0_hw5 : k0_chk5 v326 v347) (k0_t9 : Fin (k0_t9_loop v326 v347).trips), ∀ a, (k0_off9 v326 v347 k0_t9) a + S64x128.size a ≤ S10048x128.size a := fun v326 v347 k0_hw5 k0_t9 => k0_hw5.2.1 k0_t9
theorem k0_t10_ok : ∀ (v326 : BitVec 32) (v347 : BitVec 32) (k0_hw5 : k0_chk5 v326 v347), (k0_t10_loop v326 v347).OK := fun v326 v347 k0_hw5 => k0_hw5.2.2.1
theorem k0_off10_inb : ∀ (v326 : BitVec 32) (v347 : BitVec 32) (k0_hw5 : k0_chk5 v326 v347) (k0_t10 : Fin (k0_t10_loop v326 v347).trips), ∀ a, (k0_off10 v326 v347 k0_t10) a + S64x128.size a ≤ S10048x128.size a := fun v326 v347 k0_hw5 k0_t10 => k0_hw5.2.2.2 k0_t10

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x8000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x18 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x18 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1000x16 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1000x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1000x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== ReferenceIdeal.lean ====
abbrev S320000 : Shape := ⟨1, ![320000]⟩
abbrev S320000x128 : Shape := ⟨2, ![320000, 128]⟩
abbrev S320000x1 : Shape := ⟨2, ![320000, 1]⟩
abbrev S10000x128 : Shape := ⟨2, ![10000, 128]⟩
abbrev S10000x1 : Shape := ⟨2, ![10000, 1]⟩
abbrev S128x256 : Shape := ⟨2, ![128, 256]⟩
abbrev S256 : Shape := ⟨1, ![256]⟩
abbrev S256x18 : Shape := ⟨2, ![256, 18]⟩
abbrev S18 : Shape := ⟨1, ![18]⟩
abbrev S_ : Shape := ⟨0, ![]⟩
abbrev S1 : Shape := ⟨1, ![1]⟩
abbrev S1x1 : Shape := ⟨2, ![1, 1]⟩
abbrev S10000 : Shape := ⟨1, ![10000]⟩
abbrev S10000x256 : Shape := ⟨2, ![10000, 256]⟩
abbrev S1x256 : Shape := ⟨2, ![1, 256]⟩
abbrev S10000x18 : Shape := ⟨2, ![10000, 18]⟩
abbrev S1x18 : Shape := ⟨2, ![1, 18]⟩
abbrev S10000x16 : Shape := ⟨2, ![10000, 16]⟩

abbrev nBuf : Space → Nat
  | .hbm => 176
  | .vmem => 0
  | .smem => 0
  | _ => 0

abbrev hbmTy0_0 (i : Nat) : BufTy := match i % 128 with
  | 0 => ⟨S320000, .i32⟩
  | 1 => ⟨S320000x128, .f32⟩
  | 2 => ⟨S320000x1, .f32⟩
  | 3 => ⟨S10000x128, .f32⟩
  | 4 => ⟨S10000x1, .f32⟩
  | 5 => ⟨S128x256, .f32⟩
  | 6 => ⟨S256, .f32⟩
  | 7 => ⟨S256x18, .f32⟩
  | 8 => ⟨S18, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S1, .i32⟩
  | 18 => ⟨S_, .i32⟩
  | 19 => ⟨S320000x1, .i32⟩
  | 20 => ⟨S320000x1, .i1⟩
  | 21 => ⟨S1x1, .i32⟩
  | 22 => ⟨S320000x1, .i32⟩
  | 23 => ⟨S320000x1, .i1⟩
  | 24 => ⟨S320000x1, .i1⟩
  | 25 => ⟨S_, .i1⟩
  | 26 => ⟨S320000, .i1⟩
  | 27 => ⟨S320000x128, .f32⟩
  | 28 => ⟨S320000x128, .i1⟩
  | 29 => ⟨S_, .f32⟩
  | 30 => ⟨S320000x128, .f32⟩
  | 31 => ⟨S320000x128, .f32⟩
  | 32 => ⟨S320000x128, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S1, .i32⟩
  | 42 => ⟨S_, .i32⟩
  | 43 => ⟨S320000x1, .i32⟩
  | 44 => ⟨S320000x1, .i1⟩
  | 45 => ⟨S1x1, .i32⟩
  | 46 => ⟨S320000x1, .i32⟩
  | 47 => ⟨S320000x1, .i1⟩
  | 48 => ⟨S320000x1, .i1⟩
  | 49 => ⟨S_, .i1⟩
  | 50 => ⟨S320000, .i1⟩
  | 51 => ⟨S320000x1, .f32⟩
  | 52 => ⟨S320000x1, .i1⟩
  | 53 => ⟨S_, .f32⟩
  | 54 => ⟨S320000x1, .f32⟩
  | 55 => ⟨S320000x1, .f32⟩
  | 56 => ⟨S320000x1, .f32⟩
  | 57 => ⟨S320000x128, .f32⟩
  | 58 => ⟨S320000x128, .f32⟩
  | 59 => ⟨S_, .f32⟩
  | 60 => ⟨S10000x128, .f32⟩
  | 61 => ⟨S320000x1, .i32⟩
  | 62 => ⟨S10000x128, .f32⟩
  | 63 => ⟨S_, .f32⟩
  | 64 => ⟨S320000, .f32⟩
  | 65 => ⟨S_, .f32⟩
  | 66 => ⟨S10000, .f32⟩
  | 67 => ⟨S320000x1, .i32⟩
  | 68 => ⟨S10000, .f32⟩
  | 69 => ⟨S_, .f32⟩
  | 70 => ⟨S10000, .f32⟩
  | 71 => ⟨S10000, .f32⟩
  | 72 => ⟨S_, .f32⟩
  | 73 => ⟨S320000, .f32⟩
  | 74 => ⟨S_, .f32⟩
  | 75 => ⟨S10000, .f32⟩
  | 76 => ⟨S320000x1, .i32⟩
  | 77 => ⟨S10000, .f32⟩
  | 78 => ⟨S320000x128, .f32⟩
  | 79 => ⟨S_, .f32⟩
  | 80 => ⟨S320000, .f32⟩
  | 81 => ⟨S_, .f32⟩
  | 82 => ⟨S10000, .f32⟩
  | 83 => ⟨S320000x1, .i32⟩
  | 84 => ⟨S10000, .f32⟩
  | 85 => ⟨S_, .f32⟩
  | 86 => ⟨S10000, .f32⟩
  | 87 => ⟨S10000, .f32⟩
  | 88 => ⟨S10000, .f32⟩
  | 89 => ⟨S10000, .f32⟩
  | 90 => ⟨S10000, .f32⟩
  | 91 => ⟨S10000, .f32⟩
  | 92 => ⟨S_, .f32⟩
  | 93 => ⟨S10000, .f32⟩
  | 94 => ⟨S10000, .f32⟩
  | 95 => ⟨S_, .f32⟩
  | 96 => ⟨S10000, .f32⟩
  | 97 => ⟨S10000, .f32⟩
  | 98 => ⟨S10000, .f32⟩
  | 99 => ⟨S_, .f32⟩
  | 100 => ⟨S10000, .f32⟩
  | 101 => ⟨S10000, .f32⟩
  | 102 => ⟨S10000x1, .f32⟩
  | 103 => ⟨S10000x128, .f32⟩
  | 104 => ⟨S10000x128, .f32⟩
  | 105 => ⟨S10000x256, .f32⟩
  | 106 => ⟨S1x256, .f32⟩
  | 107 => ⟨S10000x256, .f32⟩
  | 108 => ⟨S10000x256, .f32⟩
  | 109 => ⟨S10000x256, .f32⟩
  | 110 => ⟨S10000x18, .f32⟩
  | 111 => ⟨S1x18, .f32⟩
  | 112 => ⟨S10000x18, .f32⟩
  | 113 => ⟨S10000x18, .f32⟩
  | 114 => ⟨S10000x1, .f32⟩
  | 115 => ⟨S10000x1, .f32⟩
  | 116 => ⟨S10000x16, .f32⟩
  | 117 => ⟨S_, .f32⟩
  | 118 => ⟨S10000x1, .f32⟩
  | 119 => ⟨S10000x1, .f32⟩
  | 120 => ⟨S10000x1, .f32⟩
  | 121 => ⟨S10000x1, .f32⟩
  | 122 => ⟨S10000x1, .i1⟩
  | 123 => ⟨S10000x1, .f32⟩
  | 124 => ⟨S10000x1, .f32⟩
  | 125 => ⟨S10000x1, .f32⟩
  | 126 => ⟨S10000x1, .f32⟩
  | 127 => ⟨S10000x1, .f32⟩
  | _ => ⟨S320000, .i32⟩

abbrev hbmTy0_1 (i : Nat) : BufTy := match i % 128 with
  | 0 => ⟨S10000x1, .f32⟩
  | 1 => ⟨S10000x1, .f32⟩
  | 2 => ⟨S10000x1, .f32⟩
  | 3 => ⟨S_, .f32⟩
  | 4 => ⟨S10000x1, .f32⟩
  | 5 => ⟨S10000x1, .f32⟩
  | 6 => ⟨S_, .f32⟩
  | 7 => ⟨S10000x1, .f32⟩
  | 8 => ⟨S10000x1, .f32⟩
  | 9 => ⟨S_, .f32⟩
  | 10 => ⟨S10000x1, .f32⟩
  | 11 => ⟨S10000x1, .f32⟩
  | 12 => ⟨S10000x1, .f32⟩
  | 13 => ⟨S10000x1, .f32⟩
  | 14 => ⟨S10000x1, .i1⟩
  | 15 => ⟨S10000x1, .f32⟩
  | 16 => ⟨S10000x1, .f32⟩
  | 17 => ⟨S10000x1, .f32⟩
  | 18 => ⟨S10000x1, .f32⟩
  | 19 => ⟨S10000x1, .f32⟩
  | 20 => ⟨S10000x1, .f32⟩
  | 21 => ⟨S10000x1, .f32⟩
  | 22 => ⟨S10000x1, .f32⟩
  | 23 => ⟨S_, .f32⟩
  | 24 => ⟨S10000x1, .f32⟩
  | 25 => ⟨S10000x1, .f32⟩
  | 26 => ⟨S_, .f32⟩
  | 27 => ⟨S10000x1, .f32⟩
  | 28 => ⟨S10000x1, .f32⟩
  | 29 => ⟨S10000x1, .f32⟩
  | 30 => ⟨S_, .f32⟩
  | 31 => ⟨S10000x1, .f32⟩
  | 32 => ⟨S10000x1, .f32⟩
  | 33 => ⟨S10000x1, .f32⟩
  | 34 => ⟨S_, .f32⟩
  | 35 => ⟨S10000, .f32⟩
  | 36 => ⟨S_, .f32⟩
  | 37 => ⟨S10000, .f32⟩
  | 38 => ⟨S10000, .f32⟩
  | 39 => ⟨S10000x1, .f32⟩
  | 40 => ⟨S10000x16, .f32⟩
  | 41 => ⟨S10000x16, .f32⟩
  | 42 => ⟨S10000x16, .f32⟩
  | 43 => ⟨S_, .f32⟩
  | 44 => ⟨S10000, .f32⟩
  | 45 => ⟨S10000x1, .f32⟩
  | 46 => ⟨S10000x16, .f32⟩
  | 47 => ⟨S10000x16, .f32⟩
  | _ => ⟨S320000, .i32⟩

abbrev hbmTy (i : Nat) : BufTy := match i / 128 with
  | 0 => hbmTy0_0 i
  | 1 => hbmTy0_1 i
  | _ => ⟨S320000, .i32⟩

abbrev bufTy : (tb : Table) → Fin (tcTables nBuf tb) → BufTy
  | .hbm, ⟨i, _⟩ => hbmTy i
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_cst : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_cst_0 : Ref sig .tc := ⟨.hbm, 63, rfl⟩
abbrev main_v9 : Ref sig .tc := ⟨.hbm, 64, rfl⟩
abbrev main_cst_1 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_cst_2 : Ref sig .tc := ⟨.hbm, 69, rfl⟩
abbrev main_v13 : Ref sig .tc := ⟨.hbm, 70, rfl⟩
abbrev main_v14 : Ref sig .tc := ⟨.hbm, 71, rfl⟩
abbrev main_cst_3 : Ref sig .tc := ⟨.hbm, 72, rfl⟩
abbrev main_v15 : Ref sig .tc := ⟨.hbm, 73, rfl⟩
abbrev main_cst_4 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_cst_5 : Ref sig .tc := ⟨.hbm, 79, rfl⟩
abbrev main_v20 : Ref sig .tc := ⟨.hbm, 80, rfl⟩
abbrev main_cst_6 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_cst_7 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_cst_8 : Ref sig .tc := ⟨.hbm, 92, rfl⟩
abbrev main_v30 : Ref sig .tc := ⟨.hbm, 93, rfl⟩
abbrev main_v31 : Ref sig .tc := ⟨.hbm, 94, rfl⟩
abbrev main_cst_9 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_cst_10 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_v52 : Ref sig .tc := ⟨.hbm, 130, rfl⟩
abbrev main_cst_11 : Ref sig .tc := ⟨.hbm, 131, rfl⟩
abbrev main_v53 : Ref sig .tc := ⟨.hbm, 132, rfl⟩
abbrev main_v54 : Ref sig .tc := ⟨.hbm, 133, rfl⟩
abbrev main_cst_12 : Ref sig .tc := ⟨.hbm, 134, rfl⟩
abbrev main_v55 : Ref sig .tc := ⟨.hbm, 135, rfl⟩
abbrev main_v56 : Ref sig .tc := ⟨.hbm, 136, rfl⟩
abbrev main_call3_cst : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_v7 : Ref sig .tc := ⟨.hbm, 145, rfl⟩
abbrev main_call3_v8 : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_v57 : Ref sig .tc := ⟨.hbm, 150, rfl⟩
abbrev main_cst_13 : Ref sig .tc := ⟨.hbm, 151, rfl⟩
abbrev main_v58 : Ref sig .tc := ⟨.hbm, 152, rfl⟩
abbrev main_v59 : Ref sig .tc := ⟨.hbm, 153, rfl⟩
abbrev main_cst_14 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_cst_15 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_cst_16 : Ref sig .tc := ⟨.hbm, 162, rfl⟩
abbrev main_v66 : Ref sig .tc := ⟨.hbm, 163, rfl⟩
abbrev main_cst_17 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_cst_18 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩

abbrev nD : Nat := 1
abbrev τ : Topo := Topo.v7x

variable {F : FTy → Type} [FloatOps F]
-- ==== Proof.RefValue.lean ====
module

public import proofs.«01_k».proof.Proof.Gen.ReferenceIdeal.Run
public import proofs.«01_k».proof.Proof.Gen.ReferenceIdeal.Read

@[expose] public section

namespace Cert.RefValue

end Cert.RefValue

end
-- ==== Proof.SegBody.lean ====
/-
  The segment-sum kernel as a short program: one point zeroes the four sums at the first point and then takes its five
  chunks of 1600 rows in order; a chunk goes through the 64-row windows that its indices reach and adds, into each of
  the four sums, the one-hot product of its rows. The printed kernel is this program.
-/
module

public import proofs.«01_k».proof.Proof.Gen.KernelIdeal.Skeleton
public import Idealize.ShloMosaic.Lib.VecWindow
public import Idealize.ShloMosaic.Lib.LoopRemainder

@[expose] public section

noncomputable section

namespace Cert.KernelIdeal.Seg

open Cert.KernelIdeal Cert.KernelIdeal.Gen
open Idealize.ShloMosaic Idealize.ShloMosaic.TcCoe Idealize.SL.Sem

variable {F : FTy → Type} [FloatOps F]

/-- The floor of `v / 64`, as the kernel computes it from the truncating division. -/
def flr (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 64#32 0#32)) (Scalar.extui (Scalar.cmpi .slt 64#32 0#32))))
      (Scalar.cmpi .ne (Scalar.remsi v 64#32) 0#32))
    (Scalar.subi (Scalar.divsi v 64#32) 1#32) (Scalar.divsi v 64#32)

/-- The one-hot matrix of window `w`: entry `(b, e)` is 1 where row `e`'s index is `64 w + b`, else 0. -/
def oneHot (idx : Vec F S1x1x1600 .i32) (w : BitVec 32) : FVec F S64x1600 .f32 :=
  sitofp .f32 (extui 32 (cmpi .eq (k0_pay19 idx)
    (addi (iota .tc S64x1600 32 [0] iota_S64x1600_d0_w32) (broadcast S64x1600 (Scalar.muli w 64#32)))) natLt_1_32)

/-- A window's 64 rows `v` of a sum, with the one-hot product of the chunk's rows `f` added. -/
def upd (idx : Vec F S1x1x1600 .i32) (w : BitVec 32) (f : FVec F S1600x128 .f32) (v : Vec F S64x128 .f32) : FVec F S64x128 .f32 :=
  addf (shapeCast S64x128 v shapeCasts_S64x128_S64x128)
    (matmul dot_S64x1600_S1600x128_S64x128_1_0_0_1_n_n none (oneHot idx w) f (constant S64x128 .f32 0x00000000#32))

/-- One trip of a chunk's loop: each of the four sums' windows is read and written back updated. -/
def trip (a4 a5 a6 a7 : Memref sig .tc .vmem S10048x128 .f32) (idx : Vec F S1x1x1600 .i32) (w : BitVec 32)
    (f4 f5 f6 f7 : FVec F S1600x128 .f32) (off : Fin 2 → Nat) (inb : ∀ a, off a + S64x128.size a ≤ S10048x128.size a) :
    Prog (TpuEff nD τ sig (Elt F) Λ₀ .tc) (BitVec 32) := do
  let u4 : Vec F S64x128 .f32 ← Prog.lift (.load a4 (Rect.unit (s := S10048x128) off S64x128.size inb).toLoadRect (View.loadsAt_vmem h_S64x128))
  let _ : Vec F S64x128 .f32 ← Prog.lift (.load a4 (Rect.unit (s := S10048x128) off S64x128.size inb).toLoadRect (View.loadsAt_vmem h_S64x128))
  Prog.lift (.store a4 (Rect.unit (s := S10048x128) off S64x128.size inb) (upd idx w f4 u4) Finset.univ (View.stores_vmem_bits_univ h_S64x128 rfl) (.inl rfl))
  let u5 : Vec F S64x128 .f32 ← Prog.lift (.load a5 (Rect.unit (s := S10048x128) off S64x128.size inb).toLoadRect (View.loadsAt_vmem h_S64x128))
  let _ : Vec F S64x128 .f32 ← Prog.lift (.load a5 (Rect.unit (s := S10048x128) off S64x128.size inb).toLoadRect (View.loadsAt_vmem h_S64x128))
  Prog.lift (.store a5 (Rect.unit (s := S10048x128) off S64x128.size inb) (upd idx w f5 u5) Finset.univ (View.stores_vmem_bits_univ h_S64x128 rfl) (.inl rfl))
  let u6 : Vec F S64x128 .f32 ← Prog.lift (.load a6 (Rect.unit (s := S10048x128) off S64x128.size inb).toLoadRect (View.loadsAt_vmem h_S64x128))
  let _ : Vec F S64x128 .f32 ← Prog.lift (.load a6 (Rect.unit (s := S10048x128) off S64x128.size inb).toLoadRect (View.loadsAt_vmem h_S64x128))
  Prog.lift (.store a6 (Rect.unit (s := S10048x128) off S64x128.size inb) (upd idx w f6 u6) Finset.univ (View.stores_vmem_bits_univ h_S64x128 rfl) (.inl rfl))
  let u7 : Vec F S64x128 .f32 ← Prog.lift (.load a7 (Rect.unit (s := S10048x128) off S64x128.size inb).toLoadRect (View.loadsAt_vmem h_S64x128))
  let _ : Vec F S64x128 .f32 ← Prog.lift (.load a7 (Rect.unit (s := S10048x128) off S64x128.size inb).toLoadRect (View.loadsAt_vmem h_S64x128))
  Prog.lift (.store a7 (Rect.unit (s := S10048x128) off S64x128.size inb) (upd idx w f7 u7) Finset.univ (View.stores_vmem_bits_univ h_S64x128 rfl) (.inl rfl))
  pure 0#32

/-- The least index of a chunk. -/
def lo (idx : Vec F S1x1x1600 .i32) : BitVec 32 := extractAt ![0, 0] (k0_pay20 idx) inpos_S1x1_p0_0
/-- The greatest index of a chunk. -/
def hi (idx : Vec F S1x1x1600 .i32) : BitVec 32 := extractAt ![0, 0] (k0_pay21 (k0_pay15 idx)) inpos_S1x1_p0_0

/-- A chunk once its rows are read: the windows from its least to its greatest index, each with its trip. -/
def chunkLoop (a4 a5 a6 a7 : Memref sig .tc .vmem S10048x128 .f32) (idx : Vec F S1x1x1600 .i32)
    (f4 f5 f6 f7 : FVec F S1600x128 .f32) : Prog (TpuEff nD τ sig (Elt F) Λ₀ .tc) PUnit := do
  have hw : k0_chk1 (lo idx) (hi idx) := (← Prog.lift (TpuEff.assume (k0_chk1 (lo idx) (hi idx)) (k0_chk1.dec (lo idx) (hi idx)))).down
  let r ← Scf.Loop.for (k0_t1_loop (lo idx) (hi idx)) (k0_t1_ok (lo idx) (hi idx) hw) 0#32 fun k _ =>
    trip a4 a5 a6 a7 idx (Scf.iv (flr (lo idx)) 1#32 k) f4 f5 f6 f7 (k0_off1 (lo idx) (hi idx) k) (k0_off1_inb (lo idx) (hi idx) hw k)
  let _ ← Scf.Loop.for (k0_t2_loop (lo idx) (hi idx)) (k0_t2_ok (lo idx) (hi idx) hw) r fun k _ =>
    trip a4 a5 a6 a7 idx (Scf.iv (k0_t1_loop (lo idx) (hi idx)).ub 1#32 k) f4 f5 f6 f7 (k0_off2 (lo idx) (hi idx) k) (k0_off2_inb (lo idx) (hi idx) hw k)
  pure ⟨⟩

/-- The chunk of rows at offsets `o1`, `o2`, `o3` of the index block, the row block and the weight block. -/
def chunk (a1 : Memref sig .tc .vmem S1x1x8000 .i32) (a2 : Memref sig .tc .vmem S8000x128 .f32) (a3 : Memref sig .tc .vmem S8000x1 .f32)
    (a4 a5 a6 a7 : Memref sig .tc .vmem S10048x128 .f32) (o1 : Fin 3 → Nat) (o2 o3 : Fin 2 → Nat)
    (h1 : ∀ a, o1 a + S1x1x1600.size a ≤ S1x1x8000.size a) (h2 : ∀ a, o2 a + S1600x128.size a ≤ S8000x128.size a)
    (h3 : ∀ a, o3 a + S1600x1.size a ≤ S8000x1.size a) : Prog (TpuEff nD τ sig (Elt F) Λ₀ .tc) PUnit := do
  let idx : Vec F S1x1x1600 .i32 ← Prog.lift (.load a1 (Rect.unit (s := S1x1x8000) o1 S1x1x1600.size h1).toLoadRect (View.loadsAt_vmem h_S1x1x1600))
  let y : Vec F S1600x128 .f32 ← Prog.lift (.load a2 (Rect.unit (s := S8000x128) o2 S1600x128.size h2).toLoadRect (View.loadsAt_vmem h_S1600x128))
  let wt : Vec F S1600x1 .f32 ← Prog.lift (.load a3 (Rect.unit (s := S8000x1) o3 S1600x1.size h3).toLoadRect (View.loadsAt_vmem h_S1600x1))
  chunkLoop a4 a5 a6 a7 idx (k0_pay16 y wt) y (k0_pay17 y) (k0_pay18 wt)

/-- The four sums are zeroed. -/
def zero (a4 a5 a6 a7 : Memref sig .tc .vmem S10048x128 .f32) : Prog (TpuEff nD τ sig (Elt F) Λ₀ .tc) PUnit := do
  let _ : Vec F S10048x128 .f32 ← Prog.lift (.load a4 (Rect.unit (s := S10048x128) ![0, 0] S10048x128.size inb_S10048x128_S10048x128_0_0).toLoadRect (View.loadsAt_vmem h_S10048x128))
  Prog.lift (.store a4 (Rect.unit (s := S10048x128) ![0, 0] S10048x128.size inb_S10048x128_S10048x128_0_0) (k0_pay11 (F := F)) Finset.univ (View.stores_vmem_bits_univ h_S10048x128 rfl) (.inl rfl))
  let _ : Vec F S10048x128 .f32 ← Prog.lift (.load a5 (Rect.unit (s := S10048x128) ![0, 0] S10048x128.size inb_S10048x128_S10048x128_0_0).toLoadRect (View.loadsAt_vmem h_S10048x128))
  Prog.lift (.store a5 (Rect.unit (s := S10048x128) ![0, 0] S10048x128.size inb_S10048x128_S10048x128_0_0) (k0_pay11 (F := F)) Finset.univ (View.stores_vmem_bits_univ h_S10048x128 rfl) (.inl rfl))
  let _ : Vec F S10048x128 .f32 ← Prog.lift (.load a6 (Rect.unit (s := S10048x128) ![0, 0] S10048x128.size inb_S10048x128_S10048x128_0_0).toLoadRect (View.loadsAt_vmem h_S10048x128))
  Prog.lift (.store a6 (Rect.unit (s := S10048x128) ![0, 0] S10048x128.size inb_S10048x128_S10048x128_0_0) (k0_pay11 (F := F)) Finset.univ (View.stores_vmem_bits_univ h_S10048x128 rfl) (.inl rfl))
  let _ : Vec F S10048x128 .f32 ← Prog.lift (.load a7 (Rect.unit (s := S10048x128) ![0, 0] S10048x128.size inb_S10048x128_S10048x128_0_0).toLoadRect (View.loadsAt_vmem h_S10048x128))
  Prog.lift (.store a7 (Rect.unit (s := S10048x128) ![0, 0] S10048x128.size inb_S10048x128_S10048x128_0_0) (k0_pay11 (F := F)) Finset.univ (View.stores_vmem_bits_univ h_S10048x128 rfl) (.inl rfl))
  pure ⟨⟩

/-- Whether a point is the first, as the kernel computes it. -/
def isFirst (i : grid0.Coords) : BitVec 1 :=
  Scalar.cmpi .ne (Scalar.extui (Scalar.cmpi .eq (BitVec.ofNat 32 (i 0).val) 0#32) : BitVec 32) 0#32

/-- The five chunks of a point. -/
def rest (a1 : Memref sig .tc .vmem S1x1x8000 .i32) (a2 : Memref sig .tc .vmem S8000x128 .f32)
    (a3 : Memref sig .tc .vmem S8000x1 .f32) (a4 a5 a6 a7 : Memref sig .tc .vmem S10048x128 .f32) :
    Prog (TpuEff nD τ sig (Elt F) Λ₀ .tc) PUnit := do
  chunk a1 a2 a3 a4 a5 a6 a7 ![0, 0, 0] ![0, 0] ![0, 0] inb_S1x1x8000_S1x1x1600_0_0_0 inb_S8000x128_S1600x128_0_0 inb_S8000x1_S1600x1_0_0
  chunk a1 a2 a3 a4 a5 a6 a7 ![0, 0, 1600] ![1600, 0] ![1600, 0] inb_S1x1x8000_S1x1x1600_0_0_1600 inb_S8000x128_S1600x128_1600_0 inb_S8000x1_S1600x1_1600_0
  chunk a1 a2 a3 a4 a5 a6 a7 ![0, 0, 3200] ![3200, 0] ![3200, 0] inb_S1x1x8000_S1x1x1600_0_0_3200 inb_S8000x128_S1600x128_3200_0 inb_S8000x1_S1600x1_3200_0
  chunk a1 a2 a3 a4 a5 a6 a7 ![0, 0, 4800] ![4800, 0] ![4800, 0] inb_S1x1x8000_S1x1x1600_0_0_4800 inb_S8000x128_S1600x128_4800_0 inb_S8000x1_S1600x1_4800_0
  chunk a1 a2 a3 a4 a5 a6 a7 ![0, 0, 6400] ![6400, 0] ![6400, 0] inb_S1x1x8000_S1x1x1600_0_0_6400 inb_S8000x128_S1600x128_6400_0 inb_S8000x1_S1600x1_6400_0
  pure ⟨⟩

/-- One point of the segment-sum kernel. -/
def point (i : grid0.Coords) (a1 : Memref sig .tc .vmem S1x1x8000 .i32) (a2 : Memref sig .tc .vmem S8000x128 .f32)
    (a3 : Memref sig .tc .vmem S8000x1 .f32) (a4 a5 a6 a7 : Memref sig .tc .vmem S10048x128 .f32) :
    Prog (TpuEff nD τ sig (Elt F) Λ₀ .tc) PUnit :=
  if isFirst i = 1#1 then (do zero a4 a5 a6 a7; rest a1 a2 a3 a4 a5 a6 a7) else rest a1 a2 a3 a4 a5 a6 a7

variable (i : grid0.Coords) (a1 : Memref sig .tc .vmem S1x1x8000 .i32) (h1 : a1.IsWhole)
    (a2 : Memref sig .tc .vmem S8000x128 .f32) (h2 : a2.IsWhole) (a3 : Memref sig .tc .vmem S8000x1 .f32) (h3 : a3.IsWhole)
    (a4 : Memref sig .tc .vmem S10048x128 .f32) (h4 : a4.IsWhole) (a5 : Memref sig .tc .vmem S10048x128 .f32) (h5 : a5.IsWhole)
    (a6 : Memref sig .tc .vmem S10048x128 .f32) (h6 : a6.IsWhole) (a7 : Memref sig .tc .vmem S10048x128 .f32) (h7 : a7.IsWhole)

/-- Two effects followed by equal continuations. -/
theorem op_congr {α β : Type} (e : TpuEff nD τ sig (Elt F) Λ₀ .tc β) (k k' : β → Prog (TpuEff nD τ sig (Elt F) Λ₀ .tc) α) (h : ∀ x, k x = k' x) :
    Prog.op e k = Prog.op e k' := congrArg _ (funext h)
/-- Two equal programs followed by equal continuations. -/
theorem bd_congr {α β : Type} (p p' : Prog (TpuEff nD τ sig (Elt F) Λ₀ .tc) β) (k k' : β → Prog (TpuEff nD τ sig (Elt F) Λ₀ .tc) α) (hp : p = p') (h : ∀ x, k x = k' x) :
    (p >>= k) = (p' >>= k') := by subst hp; exact congrArg _ (funext h)

set_option maxRecDepth 65536 in
/-- The printed segment-sum kernel is `point`. -/
theorem kernel_eq :
    cc0__segsum_kernel (F := F) i a1 h1 a2 h2 a3 h3 a4 h4 a5 h5 a6 h6 a7 h7 = point i a1 a2 a3 a4 a5 a6 a7 := by
  rw [cc0__segsum_kernel_eq_skeleton]
  unfold cc0__segsum_kernel_skel
  rw [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  unfold point
  simp only [Prog.bind_assoc, Prog.bind_lift, Prog.bind_op, Prog.bind_ret, Prog.pure_eq_ret]
  split
  · rename_i hc
    refine Eq.trans ?_ (if_pos (show isFirst i = 1#1 from hc)).symm
    unfold zero rest chunk chunkLoop
    simp only [Prog.bind_assoc, Prog.bind_lift, Prog.bind_op, Prog.bind_ret, Prog.pure_eq_ret]
    iterate 8 refine op_congr _ _ _ fun _ => ?_
    iterate 5
      iterate 4 refine op_congr _ _ _ fun _ => ?_
      iterate 2 refine bd_congr _ _ _ _ (by rfl) fun _ => ?_
    rfl
  · rename_i hc
    refine Eq.trans ?_ (if_neg (show ¬ isFirst i = 1#1 from hc)).symm
    unfold rest chunk chunkLoop
    simp only [Prog.bind_assoc, Prog.bind_lift, Prog.bind_op, Prog.bind_ret, Prog.pure_eq_ret]
    iterate 5
      iterate 4 refine op_congr _ _ _ fun _ => ?_
      iterate 2 refine bd_congr _ _ _ _ (by rfl) fun _ => ?_
    rfl

end Cert.KernelIdeal.Seg
end
-- ==== Proof.SegRun.lean ====
/-
  What the segment-sum kernel's program does to the four sums it holds: a trip puts the updated window over each sum, a
  chunk puts one window after another, a point takes its five chunks in order.
-/
module

public import proofs.«01_k».proof.Proof.SegBody
public import Idealize.ShloMosaic.Lib.Exec
public import Idealize.ShloMosaic.Lib.Tactic
public import Idealize.ShloMosaic.Lib.Pipeline.Kit

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The memref `a` is held whole, and reads `w`. -/
abbrev held (c : Dev nD) {S : Shape} {e : EltTy} (a : Memref sig .tc .vmem S e) (w : Vec F S e) : sProp 𝕄G :=
  iprop(∃ f, (a.view.loc (c : Thread nD τ) ↦[a.view.set]{fullShare} f) ∗ ⌜a.view.read (Elt F) f = w⌝)

/-- The window at `off` of a sum `w`, put back updated. -/
def putUpd (idx : Vec F S1x1x1600 .i32) (wd : BitVec 32) (f : FVec F S1600x128 .f32) (off : Fin 2 → Nat)
    (inb : ∀ a, off a + S64x128.size a ≤ S10048x128.size a) (w : Vec F S10048x128 .f32) : Vec F S10048x128 .f32 :=
  VecWindow.put w off S64x128.size (upd idx wd f (VecWindow.window w off S64x128.size inb))

variable (𝒱 : Variants) (c : Dev nD) (bd : Option 𝒱.V) (E : Set ℕ)
variable (a4 a5 a6 a7 : Memref sig .tc .vmem S10048x128 .f32)

/-- One trip puts each sum's updated window back. -/
theorem trip_run (idx : Vec F S1x1x1600 .i32) (wd : BitVec 32) (f4 f5 f6 f7 : FVec F S1600x128 .f32) (off : Fin 2 → Nat)
    (inb : ∀ a, off a + S64x128.size a ≤ S10048x128.size a) (w4 w5 w6 w7 : Vec F S10048x128 .f32) :
    iprop(held c a4 w4 ∗ held c a5 w5 ∗ held c a6 w6 ∗ held c a7 w7)
      ⊢ wp frame (wpE (defs₀ (F := F)) 𝒱 (c : Thread nD τ) bd) E (trip a4 a5 a6 a7 idx wd f4 f5 f6 f7 off inb)
        (fun _ => iprop(held c a4 (putUpd idx wd f4 off inb w4) ∗ held c a5 (putUpd idx wd f5 off inb w5)
          ∗ held c a6 (putUpd idx wd f6 off inb w6) ∗ held c a7 (putUpd idx wd f7 off inb w7))) := by
  unfold trip
  iintro ⟨⟨%g4, H4, %e4⟩, ⟨%g5, H5, %e5⟩, ⟨%g6, H6, %e6⟩, ⟨%g7, H7, %e7⟩⟩
  subst e4 e5 e6 e7
  sl_exec
  sl_step
  isplitl [H4]
  · iexists _; isplitl [H4]; · iexact H4
    ipureintro; exact View.read_writes_cons_put _ _ _ _ _ rfl
  isplitl [H5]
  · iexists _; isplitl [H5]; · iexact H5
    ipureintro; exact View.read_writes_cons_put _ _ _ _ _ rfl
  isplitl [H6]
  · iexists _; isplitl [H6]; · iexact H6
    ipureintro; exact View.read_writes_cons_put _ _ _ _ _ rfl
  · iexists _; isplitl [H7]; · iexact H7
    ipureintro; exact View.read_writes_cons_put _ _ _ _ _ rfl

/-- A sum after the first `n` windows of a chunk. -/
def winSt (idx : Vec F S1x1x1600 .i32) (hw : k0_chk1 (lo idx) (hi idx)) (f : FVec F S1600x128 .f32) (w : Vec F S10048x128 .f32) :
    ℕ → Vec F S10048x128 .f32
  | 0 => w
  | n + 1 => if h : n < (k0_t1_loop (lo idx) (hi idx)).trips then
      putUpd idx (Scf.iv (flr (lo idx)) 1#32 n) f (k0_off1 (lo idx) (hi idx) ⟨n, h⟩) (k0_off1_inb (lo idx) (hi idx) hw ⟨n, h⟩) (winSt idx hw f w n)
    else winSt idx hw f w n

theorem winSt_succ (idx : Vec F S1x1x1600 .i32) (hw : k0_chk1 (lo idx) (hi idx)) (f : FVec F S1600x128 .f32) (w : Vec F S10048x128 .f32)
    (k : Fin (k0_t1_loop (lo idx) (hi idx)).trips) :
    winSt idx hw f w (k.val + 1) = putUpd idx (Scf.iv (flr (lo idx)) 1#32 k) f (k0_off1 (lo idx) (hi idx) k)
      (k0_off1_inb (lo idx) (hi idx) hw k) (winSt idx hw f w k.val) := dif_pos k.isLt

/-- A sum after a whole chunk. -/
def chunkSt (idx : Vec F S1x1x1600 .i32) (hw : k0_chk1 (lo idx) (hi idx)) (f : FVec F S1600x128 .f32) (w : Vec F S10048x128 .f32) :
    Vec F S10048x128 .f32 := winSt idx hw f w (k0_t1_loop (lo idx) (hi idx)).trips

/-- The second loop of a chunk makes no trip. -/
theorem chunkRem (idx : Vec F S1x1x1600 .i32) (hok : (k0_t2_loop (lo idx) (hi idx)).OK) (r : BitVec 32)
    (body : Fin (k0_t2_loop (lo idx) (hi idx)).trips → BitVec 32 → Prog (TpuEff nD τ sig (Elt F) Λ₀ .tc) (BitVec 32)) :
    Scf.Loop.for (k0_t2_loop (lo idx) (hi idx)) hok r body = .ret r :=
  Scf.for_eq_ret _ _ _ hok r body (Scf.rem_trips _ _)

/-- A chunk whose rows are read leaves each sum with its windows updated. -/
theorem chunkLoop_run (idx : Vec F S1x1x1600 .i32) (hw : k0_chk1 (lo idx) (hi idx)) (f4 f5 f6 f7 : FVec F S1600x128 .f32)
    (w4 w5 w6 w7 : Vec F S10048x128 .f32) :
    iprop(held c a4 w4 ∗ held c a5 w5 ∗ held c a6 w6 ∗ held c a7 w7)
      ⊢ wp frame (wpE (defs₀ (F := F)) 𝒱 (c : Thread nD τ) bd) E (chunkLoop a4 a5 a6 a7 idx f4 f5 f6 f7)
        (fun _ => iprop(held c a4 (chunkSt idx hw f4 w4) ∗ held c a5 (chunkSt idx hw f5 w5)
          ∗ held c a6 (chunkSt idx hw f6 w6) ∗ held c a7 (chunkSt idx hw f7 w7))) := by
  unfold chunkLoop
  simp only [chunkRem, Prog.bind_ret, Prog.pure_eq_ret]
  have L : ∀ (k : Fin (k0_t1_loop (lo idx) (hi idx)).trips) (acc : BitVec 32),
      iprop(held c a4 (winSt idx hw f4 w4 k) ∗ held c a5 (winSt idx hw f5 w5 k) ∗ held c a6 (winSt idx hw f6 w6 k) ∗ held c a7 (winSt idx hw f7 w7 k))
      ⊢ wp frame (wpE (defs₀ (F := F)) 𝒱 (c : Thread nD τ) bd) E
        (trip a4 a5 a6 a7 idx (Scf.iv (flr (lo idx)) 1#32 k) f4 f5 f6 f7 (k0_off1 (lo idx) (hi idx) k) (k0_off1_inb (lo idx) (hi idx) hw k))
        (fun _ => iprop(held c a4 (winSt idx hw f4 w4 (k.val + 1)) ∗ held c a5 (winSt idx hw f5 w5 (k.val + 1))
          ∗ held c a6 (winSt idx hw f6 w6 (k.val + 1)) ∗ held c a7 (winSt idx hw f7 w7 (k.val + 1)))) := fun k acc => by
      rw [winSt_succ, winSt_succ, winSt_succ, winSt_succ]
      exact trip_run 𝒱 c bd E a4 a5 a6 a7 idx _ f4 f5 f6 f7 _ _ _ _ _ _
  iintro ⟨H4, H5, H6, H7⟩
  sl_exec
  iapply (Scf.wp_for_bind frame (wpE (defs₀ (F := F)) 𝒱 (c : Thread nD τ) bd) E _ _ _ (k0_t1_ok (lo idx) (hi idx) hw) _ _
    (fun n _ => iprop(held c a4 (winSt idx hw f4 w4 n) ∗ held c a5 (winSt idx hw f5 w5 n)
          ∗ held c a6 (winSt idx hw f6 w6 n) ∗ held c a7 (winSt idx hw f7 w7 n))) L) $$ [H4 H5 H6 H7]
  · isplitl [H4]; · iexact H4
    isplitl [H5]; · iexact H5
    isplitl [H6]; · iexact H6
    iexact H7
  iintro %acc H
  sl_step
  iexact H

variable (a1 : Memref sig .tc .vmem S1x1x8000 .i32) (a2 : Memref sig .tc .vmem S8000x128 .f32) (a3 : Memref sig .tc .vmem S8000x1 .f32)

/-- A chunk at offsets `o1`, `o2`, `o3` of a point's blocks `x1`, `x2`, `x3`. -/
theorem chunk_run (o1 : Fin 3 → Nat) (o2 o3 : Fin 2 → Nat)
    (h1 : ∀ a, o1 a + S1x1x1600.size a ≤ S1x1x8000.size a) (h2 : ∀ a, o2 a + S1600x128.size a ≤ S8000x128.size a)
    (h3 : ∀ a, o3 a + S1600x1.size a ≤ S8000x1.size a)
    (x1 : Vec F S1x1x8000 .i32) (x2 : Vec F S8000x128 .f32) (x3 : Vec F S8000x1 .f32)
    (hw : k0_chk1 (lo (F := F) (VecWindow.window x1 o1 S1x1x1600.size h1)) (hi (F := F) (VecWindow.window x1 o1 S1x1x1600.size h1)))
    (w4 w5 w6 w7 : Vec F S10048x128 .f32) :
    iprop(held c a1 x1 ∗ held c a2 x2 ∗ held c a3 x3 ∗ held c a4 w4 ∗ held c a5 w5 ∗ held c a6 w6 ∗ held c a7 w7)
      ⊢ wp frame (wpE (defs₀ (F := F)) 𝒱 (c : Thread nD τ) bd) E (chunk a1 a2 a3 a4 a5 a6 a7 o1 o2 o3 h1 h2 h3)
        (fun _ => iprop(held c a1 x1 ∗ held c a2 x2 ∗ held c a3 x3
          ∗ held c a4 (chunkSt (VecWindow.window x1 o1 S1x1x1600.size h1) hw
              (k0_pay16 (VecWindow.window x2 o2 S1600x128.size h2) (VecWindow.window x3 o3 S1600x1.size h3)) w4)
          ∗ held c a5 (chunkSt (VecWindow.window x1 o1 S1x1x1600.size h1) hw (VecWindow.window x2 o2 S1600x128.size h2) w5)
          ∗ held c a6 (chunkSt (VecWindow.window x1 o1 S1x1x1600.size h1) hw (k0_pay17 (VecWindow.window x2 o2 S1600x128.size h2)) w6)
          ∗ held c a7 (chunkSt (VecWindow.window x1 o1 S1x1x1600.size h1) hw (k0_pay18 (VecWindow.window x3 o3 S1600x1.size h3)) w7))) := by
  unfold chunk
  iintro ⟨⟨%g1, H1, %e1⟩, ⟨%g2, H2, %e2⟩, ⟨%g3, H3, %e3⟩, H4, H5, H6, H7⟩
  subst e1 e2 e3
  simp only [Prog.bind_lift]
  sl_step
  sl_step
  sl_step
  iapply (wp_wand_r Idealize.ShloMosaic.frame (wpE (defs₀ (F := F)) 𝒱 (c : Thread nD τ) bd) E)
  isplitl [H4 H5 H6 H7]
  · iapply (chunkLoop_run 𝒱 c bd E a4 a5 a6 a7 _ hw _ _ _ _ w4 w5 w6 w7)
    isplitl [H4]; · iexact H4
    isplitl [H5]; · iexact H5
    isplitl [H6]; · iexact H6
    iexact H7
  · iintro %u H
    isplitl [H1]
    · iexists _; isplitl [H1]; · iexact H1
      ipureintro; rfl
    isplitl [H2]
    · iexists _; isplitl [H2]; · iexact H2
      ipureintro; rfl
    isplitl [H3]
    · iexists _; isplitl [H3]; · iexact H3
      ipureintro; rfl
    iexact H

/-- The four sums are left at zero. -/
theorem zero_run (w4 w5 w6 w7 : Vec F S10048x128 .f32) :
    iprop(held c a4 w4 ∗ held c a5 w5 ∗ held c a6 w6 ∗ held c a7 w7)
      ⊢ wp frame (wpE (defs₀ (F := F)) 𝒱 (c : Thread nD τ) bd) E (zero a4 a5 a6 a7)
        (fun _ => iprop(held c a4 (k0_pay11 (F := F)) ∗ held c a5 (k0_pay11 (F := F)) ∗ held c a6 (k0_pay11 (F := F)) ∗ held c a7 (k0_pay11 (F := F)))) := by
  unfold zero
  iintro ⟨⟨%g4, H4, %e4⟩, ⟨%g5, H5, %e5⟩, ⟨%g6, H6, %e6⟩, ⟨%g7, H7, %e7⟩⟩
  subst e4 e5 e6 e7
  sl_exec
  sl_step
  isplitl [H4]
  · iexists _; isplitl [H4]; · iexact H4
    ipureintro; exact View.read_writes_full ..
  isplitl [H5]
  · iexists _; isplitl [H5]; · iexact H5
    ipureintro; exact View.read_writes_full ..
  isplitl [H6]
  · iexists _; isplitl [H6]; · iexact H6
    ipureintro; exact View.read_writes_full ..
  · iexists _; isplitl [H7]; · iexact H7
    ipureintro; exact View.read_writes_full ..

end Cert.KernelIdeal.Seg
end
-- ==== Proof.HeadRun.lean ====
/-
  One grid point of the head kernel, run: from its blocks of the four sums and of the parameters to the five blocks of
  results it writes.
-/
module

public import proofs.«01_k».proof.Proof.SegRun
public import Idealize.ShloMosaic.Lib.Pipeline.Value

@[expose] public section

noncomputable section

namespace Cert.KernelIdeal.Head

open Cert.KernelIdeal Cert.KernelIdeal.Gen Cert.KernelIdeal.Seg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section values
variable (x0 x1 x2 x3 x4 : Vec F S1000x128 .f32) (x5 : Vec F S1000x1 .f32)

/-- The block of representations, from the blocks of the four sums and the anchors. -/
def repOut : FVec F S1000x128 .f32 :=
  k1_pay13 (k1_pay7 x3) (k1_pay8 x0 x1 x3 x4 x5) (k1_pay9 x3) (k1_pay10 x1 x3 x4) (k1_pay11 x1 x2 x4) (k1_pay12 x4)

variable (x6 : Vec F S128x256 .f32) (x7 : Vec F S1x256 .f32) (x8 : Vec F S256x18 .f32) (x9 : Vec F S1x18 .f32)

/-- The block of the network's outputs. -/
def rawOut : FVec F S1000x18 .f32 :=
  k1_pay14 (k1_pay7 x3) (k1_pay8 x0 x1 x3 x4 x5) (k1_pay9 x3) (k1_pay10 x1 x3 x4) (k1_pay11 x1 x2 x4) (k1_pay12 x4) x6 x7 x8 x9
/-- The larger of the first output and zero. -/
def posOut : FVec F S1000x1 .f32 :=
  k1_pay16 (k1_pay7 x3) (k1_pay8 x0 x1 x3 x4 x5) (k1_pay9 x3) (k1_pay10 x1 x3 x4) (k1_pay11 x1 x2 x4) (k1_pay12 x4) x6 x7 x8 x9
/-- The logarithm's share of the first output's softplus. -/
def logOut : FVec F S1000x1 .f32 :=
  k1_pay17 (k1_pay7 x3) (k1_pay8 x0 x1 x3 x4 x5) (k1_pay9 x3) (k1_pay10 x1 x3 x4) (k1_pay11 x1 x2 x4) (k1_pay12 x4) x6 x7 x8 x9
/-- The block of mixture weights. -/
def mixOut : FVec F S1000x16 .f32 := k1_pay4 (rawOut x0 x1 x2 x3 x4 x5 x6 x7 x8 x9)
/-- The block of scales. -/
def sigOut : FVec F S1000x1 .f32 :=
  k1_pay3 (rawOut x0 x1 x2 x3 x4 x5 x6 x7 x8 x9) (posOut x0 x1 x2 x3 x4 x5 x6 x7 x8 x9) (logOut x0 x1 x2 x3 x4 x5 x6 x7 x8 x9)
/-- The block of first shape parameters. -/
def alphaOut : FVec F S1000x1 .f32 := k1_pay1 (posOut x0 x1 x2 x3 x4 x5 x6 x7 x8 x9) (logOut x0 x1 x2 x3 x4 x5 x6 x7 x8 x9)
/-- The block of second shape parameters. -/
def betaOut : FVec F S1000x1 .f32 := k1_pay2 (rawOut x0 x1 x2 x3 x4 x5 x6 x7 x8 x9)
end values

/-- A load of a whole memref reads it. -/
theorem readAt_whole {S : Shape} {e : EltTy} (v : View sig .tc .vmem S e) {off : Fin S.rank → ℕ} (h : off = fun _ => 0)
    (inb : ∀ a, off a + S.size a ≤ S.size a) (g : v.ty.Contents (Elt F)) :
    v.readAt (Elt F) (Rect.unit off S.size inb).toLoadRect g = v.read (Elt F) g :=
  (View.readAt_eq_ld ..).trans (View.ld_unit_zero h inb _)

theorem zeros2 : (![0, 0] : Fin 2 → ℕ) = fun _ => 0 := by funext a; fin_cases a <;> rfl

variable (𝒱 : Variants) (c : Dev nD) (bd : Option 𝒱.V) (E : Set ℕ)

set_option maxRecDepth 4096 in
/-- A point of the head kernel reads its ten blocks and leaves the five blocks of results. -/
theorem head_run (i : grid1.Coords) (a1 : Memref sig .tc .vmem S1000x128 .f32) (h1 : a1.IsWhole) (a2 : Memref sig .tc .vmem S1000x128 .f32) (h2 : a2.IsWhole)
    (a3 : Memref sig .tc .vmem S1000x128 .f32) (h3 : a3.IsWhole) (a4 : Memref sig .tc .vmem S1000x128 .f32) (h4 : a4.IsWhole)
    (a5 : Memref sig .tc .vmem S1000x128 .f32) (h5 : a5.IsWhole) (a6 : Memref sig .tc .vmem S1000x1 .f32) (h6 : a6.IsWhole)
    (a7 : Memref sig .tc .vmem S128x256 .f32) (h7 : a7.IsWhole) (a8 : Memref sig .tc .vmem S1x256 .f32) (h8 : a8.IsWhole)
    (a9 : Memref sig .tc .vmem S256x18 .f32) (h9 : a9.IsWhole) (a10 : Memref sig .tc .vmem S1x18 .f32) (h10 : a10.IsWhole)
    (a11 : Memref sig .tc .vmem S1000x128 .f32) (h11 : a11.IsWhole) (a12 : Memref sig .tc .vmem S1000x16 .f32) (h12 : a12.IsWhole)
    (a13 : Memref sig .tc .vmem S1000x1 .f32) (h13 : a13.IsWhole) (a14 : Memref sig .tc .vmem S1000x1 .f32) (h14 : a14.IsWhole)
    (a15 : Memref sig .tc .vmem S1000x1 .f32) (h15 : a15.IsWhole)
    (x0 x1 x2 x3 x4 : Vec F S1000x128 .f32) (x5 : Vec F S1000x1 .f32)
    (x6 : Vec F S128x256 .f32) (x7 : Vec F S1x256 .f32) (x8 : Vec F S256x18 .f32) (x9 : Vec F S1x18 .f32)
    (y0 : Vec F S1000x128 .f32) (y1 : Vec F S1000x16 .f32) (y2 y3 y4 : Vec F S1000x1 .f32) :
    iprop(held c a1 x0 ∗ held c a2 x1 ∗ held c a3 x2 ∗ held c a4 x3 ∗ held c a5 x4 ∗ held c a6 x5 ∗ held c a7 x6 ∗ held c a8 x7
        ∗ held c a9 x8 ∗ held c a10 x9 ∗ held c a11 y0 ∗ held c a12 y1 ∗ held c a13 y2 ∗ held c a14 y3 ∗ held c a15 y4)
      ⊢ wp frame (wpE (defs₀ (F := F)) 𝒱 (c : Thread nD τ) bd) E
        (cc1__head_kernel i a1 h1 a2 h2 a3 h3 a4 h4 a5 h5 a6 h6 a7 h7 a8 h8 a9 h9 a10 h10 a11 h11 a12 h12 a13 h13 a14 h14 a15 h15)
        (fun _ => iprop(held c a1 x0 ∗ held c a2 x1 ∗ held c a3 x2 ∗ held c a4 x3 ∗ held c a5 x4 ∗ held c a6 x5 ∗ held c a7 x6 ∗ held c a8 x7
          ∗ held c a9 x8 ∗ held c a10 x9 ∗ held c a11 (repOut x0 x1 x2 x3 x4 x5) ∗ held c a12 (mixOut x0 x1 x2 x3 x4 x5 x6 x7 x8 x9)
          ∗ held c a13 (sigOut x0 x1 x2 x3 x4 x5 x6 x7 x8 x9) ∗ held c a14 (alphaOut x0 x1 x2 x3 x4 x5 x6 x7 x8 x9)
          ∗ held c a15 (betaOut x0 x1 x2 x3 x4 x5 x6 x7 x8 x9))) := by
  rw [cc1__head_kernel_eq_skeleton]
  unfold cc1__head_kernel_skel
  rw [k1_part1_eq_skeleton, k1_part2_eq_skeleton]
  unfold k1_part1_skel k1_part2_skel
  iintro ⟨⟨%g1, H1, %e1⟩, ⟨%g2, H2, %e2⟩, ⟨%g3, H3, %e3⟩, ⟨%g4, H4, %e4⟩, ⟨%g5, H5, %e5⟩, ⟨%g6, H6, %e6⟩, ⟨%g7, H7, %e7⟩,
    ⟨%g8, H8, %e8⟩, ⟨%g9, H9, %e9⟩, ⟨%g10, H10, %e10⟩, ⟨%g11, H11, %e11⟩, ⟨%g12, H12, %e12⟩, ⟨%g13, H13, %e13⟩, ⟨%g14, H14, %e14⟩, ⟨%g15, H15, %e15⟩⟩
  sl_exec
  sl_step
  isplitl [H1]; · iexists _; isplitl [H1]; · iexact H1
                  ipureintro; exact e1
  isplitl [H2]; · iexists _; isplitl [H2]; · iexact H2
                  ipureintro; exact e2
  isplitl [H3]; · iexists _; isplitl [H3]; · iexact H3
                  ipureintro; exact e3
  isplitl [H4]; · iexists _; isplitl [H4]; · iexact H4
                  ipureintro; exact e4
  isplitl [H5]; · iexists _; isplitl [H5]; · iexact H5
                  ipureintro; exact e5
  isplitl [H6]; · iexists _; isplitl [H6]; · iexact H6
                  ipureintro; exact e6
  isplitl [H7]; · iexists _; isplitl [H7]; · iexact H7
                  ipureintro; exact e7
  isplitl [H8]; · iexists _; isplitl [H8]; · iexact H8
                  ipureintro; exact e8
  isplitl [H9]; · iexists _; isplitl [H9]; · iexact H9
                  ipureintro; exact e9
  isplitl [H10]; · iexists _; isplitl [H10]; · iexact H10
                   ipureintro; exact e10
  have r1 := (readAt_whole a1.view zeros2 inb_S1000x128_S1000x128_0_0 g1).trans e1
  have r2 := (readAt_whole a2.view zeros2 inb_S1000x128_S1000x128_0_0 g2).trans e2
  have r3 := (readAt_whole a3.view zeros2 inb_S1000x128_S1000x128_0_0 g3).trans e3
  have r4 := (readAt_whole a4.view zeros2 inb_S1000x128_S1000x128_0_0 g4).trans e4
  have r5 := (readAt_whole a5.view zeros2 inb_S1000x128_S1000x128_0_0 g5).trans e5
  have r6 := (readAt_whole a6.view zeros2 inb_S1000x1_S1000x1_0_0 g6).trans e6
  have r7 := (readAt_whole a7.view zeros2 inb_S128x256_S128x256_0_0 g7).trans e7
  have r8 := (readAt_whole a8.view zeros2 inb_S1x256_S1x256_0_0 g8).trans e8
  have r9 := (readAt_whole a9.view zeros2 inb_S256x18_S256x18_0_0 g9).trans e9
  have r10 := (readAt_whole a10.view zeros2 inb_S1x18_S1x18_0_0 g10).trans e10
  isplitl [H11]; · iexists _; isplitl [H11]; · iexact H11
                   ipureintro; refine (View.read_writes_full ..).trans ?_; rw [r1, r2, r3, r4, r5, r6]; rfl
  isplitl [H12]; · iexists _; isplitl [H12]; · iexact H12
                   ipureintro; refine (View.read_writes_full ..).trans ?_; rw [r1, r2, r3, r4, r5, r6, r7, r8, r9, r10]; rfl
  isplitl [H13]; · iexists _; isplitl [H13]; · iexact H13
                   ipureintro; refine (View.read_writes_full ..).trans ?_; rw [r1, r2, r3, r4, r5, r6, r7, r8, r9, r10]; rfl
  isplitl [H14]; · iexists _; isplitl [H14]; · iexact H14
                   ipureintro; refine (View.read_writes_full ..).trans ?_; rw [r1, r2, r3, r4, r5, r6, r7, r8, r9, r10]; rfl
  iexists _; isplitl [H15]; · iexact H15
  ipureintro; refine (View.read_writes_full ..).trans ?_; rw [r1, r2, r3, r4, r5, r6, r7, r8, r9, r10]; rfl

end Cert.KernelIdeal.Head
end
-- ==== Proof.SegRange.lean ====
/-
  The 64-row windows that a chunk of the segment-sum kernel goes through, when every index of the chunk names a segment:
  its least and greatest index are in range, the loop runs from the window of the one to the window of the other, and
  every window lies inside the sums.
-/
module

public import proofs.«01_k».proof.Proof.SegBody
public import Idealize.ShloMosaic.Lib.Routing.Words
public import Idealize.ShloMosaic.Lib.StableHlo.Predicate

@[expose] public section

noncomputable section

namespace Cert.KernelIdeal.Seg

open Cert.KernelIdeal Cert.KernelIdeal.Gen
open Idealize.ShloMosaic Idealize.ShloMosaic.TcCoe Idealize.SL.Sem

variable {F : FTy → Type} [FloatOps F]

/-- The floor of the quotient is the natural quotient. -/
theorem flr_eq (v : BitVec 32) (h : v.toNat < 10000) : flr v = BitVec.ofNat 32 (v.toNat / 64) := by
  have hd : Scalar.divsi v 64#32 = BitVec.ofNat 32 (v.toNat / 64) := by
    have := Routing.divsi_word .scalar (a := v.toNat) (b := 64) (by omega) (by omega) (by omega)
    rw [BitVec.ofNat_toNat, BitVec.setWidth_eq] at this
    exact this
  unfold flr
  by_cases h0 : v = 0#32
  · subst h0; decide
  · rw [← hd]
    have hn : v.toNat ≠ 0 := fun e => h0 (BitVec.eq_of_toNat_eq e)
    have hs : Scalar.cmpi .sgt v 0#32 = 1#1 :=
      (StableHlo.Predicate.sgt_iff_toNat (by omega) (by decide)).2 (by simp; omega)
    have hl : Scalar.cmpi .slt v 0#32 = 0#1 := by
      have := (StableHlo.Predicate.slt_iff_toNat (a := v) (b := 0#32) (by omega) (by decide)).not.2 (by simp)
      exact (BitVec.eq_zero_or_eq_one (Scalar.cmpi .slt v 0#32)).resolve_right this
    rw [hs, hl]
    have e : Scalar.cmpi .ne (Scalar.subi (Scalar.extui 1#1) (Scalar.extui 0#1) : BitVec 32)
        (Scalar.subi (Scalar.extui (Scalar.cmpi .sgt 64#32 0#32)) (Scalar.extui (Scalar.cmpi .slt 64#32 0#32))) = 0#1 := by decide
    rw [e]
    have z : ∀ b : BitVec 1, Scalar.andi 0#1 b = 0#1 := by decide
    rw [z]
    rfl

/-- The first loop goes from the least index's window to the greatest's. -/
theorem loop_eq (l g : BitVec 32) (hlg : l.toNat ≤ g.toNat) (hg : g.toNat < 10000) :
    k0_t1_loop l g = ⟨BitVec.ofNat 32 (l.toNat / 64), BitVec.ofNat 32 (g.toNat / 64 + 1), 1#32⟩ := by
  have e : k0_t1_loop l g = ⟨flr l, Scalar.addi (flr l) (Scalar.muli (Scalar.divsi (Scalar.subi (Scalar.addi (flr g) 1#32) (flr l)) 1#32) 1#32), 1#32⟩ := rfl
  rw [e, flr_eq l (by omega), flr_eq g hg, Scalar.muli_divsi_one]
  congr 1
  show BitVec.ofNat 32 (l.toNat / 64) + (BitVec.ofNat 32 (g.toNat / 64) + 1#32 - BitVec.ofNat 32 (l.toNat / 64)) = _
  rw [BitVec.ofNat_add, BitVec.add_comm, BitVec.sub_add_cancel]

theorem trips_eq (l g : BitVec 32) (hlg : l.toNat ≤ g.toNat) (hg : g.toNat < 10000) :
    (k0_t1_loop l g).trips = g.toNat / 64 + 1 - l.toNat / 64 := by
  rw [loop_eq l g hlg hg]
  show Scf.trips _ _ _ = _
  unfold Scf.trips
  rw [StableHlo.Predicate.toInt_ofNat_small _ (by omega), StableHlo.Predicate.toInt_ofNat_small _ (by omega)]
  have : (1#32 : BitVec 32).toInt = 1 := by decide
  rw [this]
  omega

/-- A trip's window. -/
theorem iv_eq (l : BitVec 32) (hl : l.toNat < 10000) (k : ℕ) : Scf.iv (flr l) 1#32 k = BitVec.ofNat 32 (l.toNat / 64 + k) := by
  rw [flr_eq l hl]
  unfold Scf.iv
  rw [BitVec.ofNat_add, BitVec.mul_one]

theorem off1_eq (l g : BitVec 32) (hlg : l.toNat ≤ g.toNat) (hg : g.toNat < 10000) (k : Fin (k0_t1_loop l g).trips) :
    k0_off1 l g k = ![64 * (l.toNat / 64 + k), 0] := by
  have e : k0_off1 l g k = ![(Scf.iv (flr l) 1#32 k * 64#32).toNat, 0] := rfl
  have hk : k.val < g.toNat / 64 + 1 - l.toNat / 64 := lt_of_lt_of_eq k.isLt (trips_eq l g hlg hg)
  rw [e, iv_eq l (by omega)]
  congr 1
  rw [BitVec.toNat_mul, BitVec.toNat_ofNat, BitVec.toNat_ofNat]
  omega

/-- Every index in range: what the kernel asks of a chunk's windows holds. -/
theorem chk_of_range (l g : BitVec 32) (hlg : l.toNat ≤ g.toNat) (hg : g.toNat < 10000) : k0_chk1 l g := by
  have hi1 : (BitVec.ofNat 32 (l.toNat / 64)).toInt = (l.toNat / 64 : ℕ) := StableHlo.Predicate.toInt_ofNat_small _ (by omega)
  have h1 : (1#32 : BitVec 32).toInt = 1 := by decide
  have hz : (k0_t2_loop l g).trips = 0 := Scf.rem_trips _ _
  refine ⟨?_, ?_, Scf.rem_ok .., fun k => absurd k.isLt (by omega)⟩
  · have := trips_eq l g hlg hg
    show Scf.OK _ _ _
    unfold Scf.OK
    show _ ∧ _ + ((k0_t1_loop l g).trips : ℤ) * _ < _
    rw [this, loop_eq l g hlg hg]
    show 0 < (1#32 : BitVec 32).toInt ∧ (BitVec.ofNat 32 (l.toNat / 64)).toInt + _ * (1#32 : BitVec 32).toInt < _
    rw [h1, hi1]
    omega
  · intro k
    have hk : k.val < g.toNat / 64 + 1 - l.toNat / 64 := lt_of_lt_of_eq k.isLt (trips_eq l g hlg hg)
    rw [off1_eq l g hlg hg]
    intro a
    fin_cases a
    · show 64 * (l.toNat / 64 + k.val) + 64 ≤ 10048
      omega
    · show 0 + 128 ≤ 128
      omega

theorem minsi_def (a b : BitVec 32) : IntOp.minsi a b = if a.slt b then a else b := rfl
theorem maxsi_def (a b : BitVec 32) : IntOp.maxsi a b = if b.slt a then a else b := rfl

/-- Folding the signed minimum over words below 2^31 is at most each of them. -/
theorem fold_min {ι : Type} [DecidableEq ι] (S : Finset ι) (x : ι → BitVec 32) (hx : ∀ i ∈ S, (x i).toNat < 10000) :
    (S.fold IntOp.minsi 2147483647#32 x).toNat < 2 ^ 31 ∧ ∀ i ∈ S, (S.fold IntOp.minsi 2147483647#32 x).toNat ≤ (x i).toNat := by
  induction S using Finset.induction_on with
  | empty => simp
  | insert a S ha ih =>
    rw [Finset.fold_insert ha]
    obtain ⟨h1, h2⟩ := ih fun i hi => hx i (Finset.mem_insert_of_mem hi)
    have hxa := hx a (Finset.mem_insert_self ..)
    rw [minsi_def]
    have hb := StableHlo.Predicate.slt_bool_iff_toNat (a := x a) (b := S.fold IntOp.minsi 2147483647#32 x) (by omega) h1
    rw [StableHlo.Predicate.ofBool_eq_one_iff] at hb
    split
    · rename_i hs
      refine ⟨by omega, fun i hi => ?_⟩
      rcases Finset.mem_insert.1 hi with rfl | hi
      · exact le_refl _
      · exact (hb.1 hs).le.trans (h2 i hi)
    · rename_i hs
      have hs' := mt hb.2 hs
      refine ⟨h1, fun i hi => ?_⟩
      rcases Finset.mem_insert.1 hi with rfl | hi
      · omega
      · exact h2 i hi

/-- Folding the signed maximum over words in range is in range, and at least each of them. -/
theorem fold_max {ι : Type} [DecidableEq ι] (S : Finset ι) (x : ι → BitVec 32) (hx : ∀ i ∈ S, (x i).toNat < 10000) :
    (S = ∅ ∧ S.fold IntOp.maxsi 2147483648#32 x = 2147483648#32) ∨ ((S.fold IntOp.maxsi 2147483648#32 x).toNat < 10000
      ∧ ∀ i ∈ S, (x i).toNat ≤ (S.fold IntOp.maxsi 2147483648#32 x).toNat) := by
  induction S using Finset.induction_on with
  | empty => simp
  | insert a S ha ih =>
    right
    rw [Finset.fold_insert ha]
    have hxa := hx a (Finset.mem_insert_self ..)
    rw [maxsi_def]
    rcases ih fun i hi => hx i (Finset.mem_insert_of_mem hi) with ⟨rfl, he⟩ | ⟨h1, h2⟩
    · rw [he]
      have hb : (2147483648#32).slt (x a) = true := by
        rw [BitVec.slt_iff_toInt_lt, StableHlo.Predicate.toInt_eq_toNat_of_lt (a := x a) (by omega)]
        have : (2147483648#32).toInt = -2147483648 := by decide
        omega
      rw [if_pos hb]
      exact ⟨hxa, fun i hi => by rcases Finset.mem_insert.1 hi with rfl | hi; exact le_refl _; simp at hi⟩
    · have hb := StableHlo.Predicate.slt_bool_iff_toNat (a := S.fold IntOp.maxsi 2147483648#32 x) (b := x a) (by omega) (by omega)
      rw [StableHlo.Predicate.ofBool_eq_one_iff] at hb
      split
      · rename_i hs
        refine ⟨hxa, fun i hi => ?_⟩
        rcases Finset.mem_insert.1 hi with rfl | hi
        · exact le_refl _
        · exact (h2 i hi).trans (hb.1 hs).le
      · rename_i hs
        have hs' := mt hb.2 hs
        refine ⟨h1, fun i hi => ?_⟩
        rcases Finset.mem_insert.1 hi with rfl | hi
        · omega
        · exact h2 i hi

instance : Subsingleton S1.Idx := ⟨fun a b => funext fun i => by fin_cases i; exact Subsingleton.elim (α := Fin 1) _ _⟩

/-- The least index is at most every index. -/
theorem lo_le (idx : Vec F S1x1x1600 .i32) (h : ∀ j, (idx j).toNat < 10000) (j : S1x1x1600.Idx) :
    (lo (F := F) idx).toNat ≤ (idx j).toNat := by
  have e : lo (F := F) idx = _ := multiReductionI_eq_fold .minsi (shapeCast S1x1600 (k0_pay15 idx) shapeCasts_S1600_S1x1600) 2147483647#32
    reduces_S1x1600_S1 rfl _
  rw [e]
  refine ((fold_min _ _ fun i _ => ?_).2 ((Shape.reshapeEquiv shapeCasts_S1600_S1x1600).symm ((Shape.reshapeEquiv shapeCasts_S1x1x1600_S1600).symm j)) ?_).trans (le_of_eq ?_)
  · exact h _
  · exact Finset.mem_filter.2 ⟨Finset.mem_univ _, Subsingleton.elim _ _⟩
  · simp [shapeCast, k0_pay15]

/-- The greatest index is in range and at least every index. -/
theorem hi_le (idx : Vec F S1x1x1600 .i32) (h : ∀ j, (idx j).toNat < 10000) :
    (hi (F := F) idx).toNat < 10000 ∧ ∀ j, (idx j).toNat ≤ (hi (F := F) idx).toNat := by
  have e : hi (F := F) idx = _ := multiReductionI_eq_fold .maxsi (shapeCast S1x1600 (k0_pay15 idx) shapeCasts_S1600_S1x1600) 2147483648#32
    reduces_S1x1600_S1 rfl _
  have hm : ∀ j, (Shape.reshapeEquiv shapeCasts_S1600_S1x1600).symm ((Shape.reshapeEquiv shapeCasts_S1x1x1600_S1600).symm j)
      ∈ Finset.univ.filter fun i => reduces_S1x1600_S1.drop i = Shape.reshapeEquiv shapeCasts_S1_S1x1 fun a => ⟨![0, 0] a, inpos_S1x1_p0_0 a⟩ :=
    fun j => Finset.mem_filter.2 ⟨Finset.mem_univ _, Subsingleton.elim _ _⟩
  rw [e]
  rcases fold_max (Finset.univ.filter fun i => reduces_S1x1600_S1.drop i = Shape.reshapeEquiv shapeCasts_S1_S1x1 fun a => ⟨![0, 0] a, inpos_S1x1_p0_0 a⟩)
    (shapeCast S1x1600 (k0_pay15 idx) shapeCasts_S1600_S1x1600) fun i _ => h _ with ⟨h0, _⟩ | ⟨h1, h2⟩
  · have := hm fun a => ⟨0, by fin_cases a <;> decide⟩
    rw [h0] at this
    simp at this
  · refine ⟨h1, fun j => (le_of_eq ?_).trans (h2 _ (hm j))⟩
    simp [shapeCast, k0_pay15]

/-- Every index of a chunk in range: its windows are as the kernel asks. -/
theorem chk_range (idx : Vec F S1x1x1600 .i32) (h : ∀ j, (idx j).toNat < 10000) :
    k0_chk1 (lo (F := F) idx) (hi (F := F) idx) := by
  let h0 : S1x1x1600.Idx := fun a => ⟨0, by fin_cases a <;> decide⟩
  exact chk_of_range _ _ ((lo_le idx h h0).trans ((hi_le idx h).2 h0)) (hi_le idx h).1

end Cert.KernelIdeal.Seg
end
-- ==== Proof.SegPoint.lean ====
/-
  One grid point of the segment-sum kernel, run: from its blocks of the index, row and weight arrays and the four sums
  as the previous point left them, to the four sums it leaves.
-/
module

public import proofs.«01_k».proof.Proof.SegRun
public import proofs.«01_k».proof.Proof.SegRange

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A sum after the chunk at offsets `o1`, `o2`, `o3` of a point's blocks; `g` makes, of the chunk's rows and weights, the rows
    that go into the sum. -/
def chunkAt (g : Vec F S1600x128 .f32 → Vec F S1600x1 .f32 → FVec F S1600x128 .f32)
    (x1 : Vec F S1x1x8000 .i32) (hx : ∀ j, (x1 j).toNat < 10000) (x2 : Vec F S8000x128 .f32) (x3 : Vec F S8000x1 .f32)
    (o1 : Fin 3 → Nat) (o2 o3 : Fin 2 → Nat)
    (h1 : ∀ a, o1 a + S1x1x1600.size a ≤ S1x1x8000.size a) (h2 : ∀ a, o2 a + S1600x128.size a ≤ S8000x128.size a)
    (h3 : ∀ a, o3 a + S1600x1.size a ≤ S8000x1.size a) (w : Vec F S10048x128 .f32) : Vec F S10048x128 .f32 :=
  chunkSt (VecWindow.window x1 o1 S1x1x1600.size h1) (chk_range _ fun j => hx _)
    (g (VecWindow.window x2 o2 S1600x128.size h2) (VecWindow.window x3 o3 S1600x1.size h3)) w

/-- A sum after a point's five chunks. -/
def restSt (g : Vec F S1600x128 .f32 → Vec F S1600x1 .f32 → FVec F S1600x128 .f32)
    (x1 : Vec F S1x1x8000 .i32) (hx : ∀ j, (x1 j).toNat < 10000) (x2 : Vec F S8000x128 .f32) (x3 : Vec F S8000x1 .f32)
    (w : Vec F S10048x128 .f32) : Vec F S10048x128 .f32 :=
  chunkAt g x1 hx x2 x3 ![0, 0, 6400] ![6400, 0] ![6400, 0] inb_S1x1x8000_S1x1x1600_0_0_6400 inb_S8000x128_S1600x128_6400_0 inb_S8000x1_S1600x1_6400_0 <|
  chunkAt g x1 hx x2 x3 ![0, 0, 4800] ![4800, 0] ![4800, 0] inb_S1x1x8000_S1x1x1600_0_0_4800 inb_S8000x128_S1600x128_4800_0 inb_S8000x1_S1600x1_4800_0 <|
  chunkAt g x1 hx x2 x3 ![0, 0, 3200] ![3200, 0] ![3200, 0] inb_S1x1x8000_S1x1x1600_0_0_3200 inb_S8000x128_S1600x128_3200_0 inb_S8000x1_S1600x1_3200_0 <|
  chunkAt g x1 hx x2 x3 ![0, 0, 1600] ![1600, 0] ![1600, 0] inb_S1x1x8000_S1x1x1600_0_0_1600 inb_S8000x128_S1600x128_1600_0 inb_S8000x1_S1600x1_1600_0 <|
  chunkAt g x1 hx x2 x3 ![0, 0, 0] ![0, 0] ![0, 0] inb_S1x1x8000_S1x1x1600_0_0_0 inb_S8000x128_S1600x128_0_0 inb_S8000x1_S1600x1_0_0 w

/-- A sum after a point: the first point starts it at zero. -/
def pointSt (i : grid0.Coords) (g : Vec F S1600x128 .f32 → Vec F S1600x1 .f32 → FVec F S1600x128 .f32)
    (x1 : Vec F S1x1x8000 .i32) (hx : ∀ j, (x1 j).toNat < 10000) (x2 : Vec F S8000x128 .f32) (x3 : Vec F S8000x1 .f32)
    (w : Vec F S10048x128 .f32) : Vec F S10048x128 .f32 :=
  restSt g x1 hx x2 x3 (if isFirst i = 1#1 then k0_pay11 else w)

/-- The rows of the first sum: each row times its weight. -/
def gXY (y : Vec F S1600x128 .f32) (wt : Vec F S1600x1 .f32) : FVec F S1600x128 .f32 := k0_pay16 y wt
/-- The rows of the second sum: the rows themselves. -/
def gX (y : Vec F S1600x128 .f32) (wt : Vec F S1600x1 .f32) : FVec F S1600x128 .f32 := y
/-- The rows of the third sum: each row times itself. -/
def gXX (y : Vec F S1600x128 .f32) (wt : Vec F S1600x1 .f32) : FVec F S1600x128 .f32 := k0_pay17 y
/-- The rows of the fourth sum: the weight in column 0, one in column 1, else zero. -/
def gY (y : Vec F S1600x128 .f32) (wt : Vec F S1600x1 .f32) : FVec F S1600x128 .f32 := k0_pay18 wt

local notation "𝕄G" => MT nD τ sig Unit (Elt F) ℕ (UR sig nD τ) ℕ

variable (𝒱 : Variants) (c : Dev nD) (bd : Option 𝒱.V) (E : Set ℕ)
variable (a1 : Memref sig .tc .vmem S1x1x8000 .i32) (a2 : Memref sig .tc .vmem S8000x128 .f32) (a3 : Memref sig .tc .vmem S8000x1 .f32)
variable (a4 a5 a6 a7 : Memref sig .tc .vmem S10048x128 .f32)

/-- The blocks and the four sums, held. -/
abbrev allHeld (x1 : Vec F S1x1x8000 .i32) (x2 : Vec F S8000x128 .f32) (x3 : Vec F S8000x1 .f32) (w4 w5 w6 w7 : Vec F S10048x128 .f32) : sProp 𝕄G :=
  iprop(held c a1 x1 ∗ held c a2 x2 ∗ held c a3 x3 ∗ held c a4 w4 ∗ held c a5 w5 ∗ held c a6 w6 ∗ held c a7 w7)

/-- A chunk, then whatever follows it. -/
theorem chunk_then (x1 : Vec F S1x1x8000 .i32) (hx : ∀ j, (x1 j).toNat < 10000) (x2 : Vec F S8000x128 .f32) (x3 : Vec F S8000x1 .f32)
    (o1 : Fin 3 → Nat) (o2 o3 : Fin 2 → Nat)
    (h1 : ∀ a, o1 a + S1x1x1600.size a ≤ S1x1x8000.size a) (h2 : ∀ a, o2 a + S1600x128.size a ≤ S8000x128.size a)
    (h3 : ∀ a, o3 a + S1600x1.size a ≤ S8000x1.size a) (w4 w5 w6 w7 : Vec F S10048x128 .f32)
    (k : PUnit → Prog (TpuEff nD τ sig (Elt F) Λ₀ .tc) PUnit) (Q : PUnit → sProp 𝕄G)
    (hk : allHeld c a1 a2 a3 a4 a5 a6 a7 x1 x2 x3 (chunkAt gXY x1 hx x2 x3 o1 o2 o3 h1 h2 h3 w4) (chunkAt gX x1 hx x2 x3 o1 o2 o3 h1 h2 h3 w5)
        (chunkAt gXX x1 hx x2 x3 o1 o2 o3 h1 h2 h3 w6) (chunkAt gY x1 hx x2 x3 o1 o2 o3 h1 h2 h3 w7)
      ⊢ wp frame (wpE (defs₀ (F := F)) 𝒱 (c : Thread nD τ) bd) E (k ⟨⟩) Q) :
    allHeld c a1 a2 a3 a4 a5 a6 a7 x1 x2 x3 w4 w5 w6 w7
      ⊢ wp frame (wpE (defs₀ (F := F)) 𝒱 (c : Thread nD τ) bd) E (chunk a1 a2 a3 a4 a5 a6 a7 o1 o2 o3 h1 h2 h3 >>= k) Q := by
  have h := chunk_run 𝒱 c bd E a4 a5 a6 a7 a1 a2 a3 o1 o2 o3 h1 h2 h3 x1 x2 x3 (chk_range _ fun j => hx _) w4 w5 w6 w7
  rw [wp_bind]
  iintro H
  iapply (wp_wand_r Idealize.ShloMosaic.frame (wpE (defs₀ (F := F)) 𝒱 (c : Thread nD τ) bd) E)
  isplitl [H]
  · iapply h; iexact H
  · iintro %u H
    iapply hk; iexact H

/-- A point's five chunks. -/
theorem rest_run (x1 : Vec F S1x1x8000 .i32) (hx : ∀ j, (x1 j).toNat < 10000) (x2 : Vec F S8000x128 .f32) (x3 : Vec F S8000x1 .f32)
    (w4 w5 w6 w7 : Vec F S10048x128 .f32) :
    allHeld c a1 a2 a3 a4 a5 a6 a7 x1 x2 x3 w4 w5 w6 w7
      ⊢ wp frame (wpE (defs₀ (F := F)) 𝒱 (c : Thread nD τ) bd) E (rest a1 a2 a3 a4 a5 a6 a7)
        (fun _ => allHeld c a1 a2 a3 a4 a5 a6 a7 x1 x2 x3 (restSt gXY x1 hx x2 x3 w4) (restSt gX x1 hx x2 x3 w5)
          (restSt gXX x1 hx x2 x3 w6) (restSt gY x1 hx x2 x3 w7)) := by
  unfold rest
  refine chunk_then 𝒱 c bd E a1 a2 a3 a4 a5 a6 a7 x1 hx x2 x3 _ _ _ _ _ _ _ _ _ _ _ _ ?_
  refine chunk_then 𝒱 c bd E a1 a2 a3 a4 a5 a6 a7 x1 hx x2 x3 _ _ _ _ _ _ _ _ _ _ _ _ ?_
  refine chunk_then 𝒱 c bd E a1 a2 a3 a4 a5 a6 a7 x1 hx x2 x3 _ _ _ _ _ _ _ _ _ _ _ _ ?_
  refine chunk_then 𝒱 c bd E a1 a2 a3 a4 a5 a6 a7 x1 hx x2 x3 _ _ _ _ _ _ _ _ _ _ _ _ ?_
  refine chunk_then 𝒱 c bd E a1 a2 a3 a4 a5 a6 a7 x1 hx x2 x3 _ _ _ _ _ _ _ _ _ _ _ _ ?_
  iintro H
  sl_step
  iexact H

/-- A point of the kernel: the first point zeroes the sums, then every point adds its rows. -/
theorem point_run (i : grid0.Coords) (x1 : Vec F S1x1x8000 .i32) (hx : ∀ j, (x1 j).toNat < 10000) (x2 : Vec F S8000x128 .f32) (x3 : Vec F S8000x1 .f32)
    (w4 w5 w6 w7 : Vec F S10048x128 .f32) :
    allHeld c a1 a2 a3 a4 a5 a6 a7 x1 x2 x3 w4 w5 w6 w7
      ⊢ wp frame (wpE (defs₀ (F := F)) 𝒱 (c : Thread nD τ) bd) E (point i a1 a2 a3 a4 a5 a6 a7)
        (fun _ => allHeld c a1 a2 a3 a4 a5 a6 a7 x1 x2 x3 (pointSt i gXY x1 hx x2 x3 w4) (pointSt i gX x1 hx x2 x3 w5)
          (pointSt i gXX x1 hx x2 x3 w6) (pointSt i gY x1 hx x2 x3 w7)) := by
  unfold point pointSt
  by_cases hi : isFirst i = 1#1
  · simp only [if_pos hi]
    rw [wp_bind]
    iintro ⟨H1, H2, H3, H4, H5, H6, H7⟩
    iapply (wp_wand_r Idealize.ShloMosaic.frame (wpE (defs₀ (F := F)) 𝒱 (c : Thread nD τ) bd) E)
    isplitl [H4 H5 H6 H7]
    · iapply (zero_run 𝒱 c bd E a4 a5 a6 a7 w4 w5 w6 w7)
      isplitl [H4]; · iexact H4
      isplitl [H5]; · iexact H5
      isplitl [H6]; · iexact H6
      iexact H7
    · iintro %u ⟨H4, H5, H6, H7⟩
      iapply (rest_run 𝒱 c bd E a1 a2 a3 a4 a5 a6 a7 x1 hx x2 x3 _ _ _ _)
      isplitl [H1]; · iexact H1
      isplitl [H2]; · iexact H2
      isplitl [H3]; · iexact H3
      isplitl [H4]; · iexact H4
      isplitl [H5]; · iexact H5
      isplitl [H6]; · iexact H6
      iexact H7
  · simp only [if_neg hi]
    exact rest_run 𝒱 c bd E a1 a2 a3 a4 a5 a6 a7 x1 hx x2 x3 _ _ _ _

end Cert.KernelIdeal.Seg
end
-- ==== Proof.SegData.lean ====
/-
  The segment-sum kernel's pipeline: what its staging buffers hold before and after each grid point, and the proof that
  the body takes the one to the other.
-/
module

public import proofs.«01_k».proof.Proof.SegPoint
public import proofs.«01_k».proof.Proof.Gen.KernelIdeal.Points
public import proofs.«01_k».proof.Proof.Gen.KernelIdeal.Regions

@[expose] public section

noncomputable section

namespace Cert.KernelIdeal.Seg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- The buffers when the region is entered. -/
abbrev Bufs (F : FTy → Type) [FloatOps F] := Dev nD → Valuation τ sig (Elt F)

/-- Every segment number names a row of the sums. -/
def InRange (V : Bufs F) : Prop := ∀ (c : Dev nD) (j : S40x1x8000.Idx), ((V c main_v0 : Vec F S40x1x8000 .i32) j).toNat < 10000

variable (V : Bufs F) (hV : InRange V) (c : Dev nD)

/-- The block window `w` stages at point `t`. -/
abbrev stg (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The segment numbers of point `t`. -/
abbrev nums (t : Fin cfg0.N) : Vec F S1x1x8000 .i32 := stg V c 0 t
/-- The rows of point `t`. -/
abbrev rows (t : Fin cfg0.N) : Vec F S8000x128 .f32 := stg V c 1 t
/-- The weights of point `t`. -/
abbrev wts (t : Fin cfg0.N) : Vec F S8000x1 .f32 := stg V c 2 t

include hV in
theorem nums_lt (t : Fin cfg0.N) (j : S1x1x8000.Idx) : (nums V c t j).toNat < 10000 := hV c _

/-- A sum after the first `n` points. -/
def acc (g : Vec F S1600x128 .f32 → Vec F S1600x1 .f32 → FVec F S1600x128 .f32) : ℕ → Vec F S10048x128 .f32
  | 0 => k0_pay11
  | n + 1 => if h : n < cfg0.N then
      pointSt (grid0.coords ⟨n, h⟩) g (nums V c ⟨n, h⟩) (nums_lt V hV c ⟨n, h⟩) (rows V c ⟨n, h⟩) (wts V c ⟨n, h⟩) (acc g n)
    else acc g n

theorem acc_succ (g : Vec F S1600x128 .f32 → Vec F S1600x1 .f32 → FVec F S1600x128 .f32) (t : Fin cfg0.N) :
    acc V hV c g (t.val + 1) = pointSt (grid0.coords t) g (nums V c t) (nums_lt V hV c t) (rows V c t) (wts V c t) (acc V hV c g t.val) :=
  dif_pos t.isLt

/-- The pipeline's proof data: inputs as fetched, each sum as the points so far leave it. -/
def dat (c : Dev nD) : Dat τ (Elt F) Unit ℕ (UR sig nD τ) ℕ cfg0 c where
  A w := V c (Pipeline.arrRef spec0 w)
  after w t := match w with
    | ⟨0, _⟩ => stg V c 0 t
    | ⟨1, _⟩ => stg V c 1 t
    | ⟨2, _⟩ => stg V c 2 t
    | ⟨3, _⟩ => acc V hV c gXY (t.val + 1)
    | ⟨4, _⟩ => acc V hV c gX (t.val + 1)
    | ⟨5, _⟩ => acc V hV c gXX (t.val + 1)
    | ⟨6, _⟩ => acc V hV c gY (t.val + 1)
  Φ _ := Pipeline.scopedRest (Ix := Unit) (Name := ℕ) (U := UR sig nD τ) (Lvl := ℕ) (Val := Elt F) spec0 c
  q _ := fullShare
  owed _ := 0

theorem A_eq (w : Fin cfg0.W) : (dat V hV c).A w = V c (Pipeline.arrRef spec0 w) := by dsimp only [dat]

/-- Only the first point starts the sums. -/
theorem isFirst_zero (t : Fin cfg0.N) (h : t.val = 0) : isFirst (grid0.coords t) = 1#1 := by
  obtain ⟨n, hn⟩ := t; subst h
  have e : (grid0.coords ⟨0, hn⟩ 0).val = 0 := (congrArg (· % _) (Nat.zero_div _)).trans (Nat.zero_mod _)
  unfold isFirst
  rw [e]
  decide

theorem point_first (t : Fin cfg0.N) (h : t.val = 0) (g : Vec F S1600x128 .f32 → Vec F S1600x1 .f32 → FVec F S1600x128 .f32)
    (w w' : Vec F S10048x128 .f32) (x1 : Vec F S1x1x8000 .i32) (hx : ∀ j, (x1 j).toNat < 10000) (x2 : Vec F S8000x128 .f32) (x3 : Vec F S8000x1 .f32) :
    pointSt (grid0.coords t) g x1 hx x2 x3 w = pointSt (grid0.coords t) g x1 hx x2 x3 w' := by
  unfold pointSt; rw [if_pos (isFirst_zero t h), if_pos (isFirst_zero t h)]

theorem before_0 (t : Fin cfg0.N) (d) : (dat V hV c).before 0 t d = nums V c t := by
  unfold Dat.before; rw [if_pos (fetch0_0 t)]; rfl
theorem before_1 (t : Fin cfg0.N) (d) : (dat V hV c).before 1 t d = rows V c t := by
  unfold Dat.before; rw [if_pos (fetch0_1 t)]; rfl
theorem before_2 (t : Fin cfg0.N) (d) : (dat V hV c).before 2 t d = wts V c t := by
  unfold Dat.before; rw [if_pos (fetch0_2 t)]; rfl

theorem mid_point (t : Fin cfg0.N) (h : t.val ≠ 0) : (t.val - 1) % 40 ≠ 39 := by
  have : t.val < 40 := lt_of_lt_of_eq t.isLt N_0
  omega

/-- What the body makes of a sum it finds is the sum after the point. -/
theorem next (t : Fin cfg0.N) (g : Vec F S1600x128 .f32 → Vec F S1600x1 .f32 → FVec F S1600x128 .f32) (w : Vec F S10048x128 .f32)
    (hw : t.val ≠ 0 → w = acc V hV c g t.val) :
    pointSt (grid0.coords t) g (nums V c t) (nums_lt V hV c t) (rows V c t) (wts V c t) w = acc V hV c g (t.val + 1) := by
  rw [acc_succ]
  by_cases h : t.val = 0
  · exact point_first t h g _ _ _ _ _ _
  · rw [hw h]

theorem before_3 (t : Fin cfg0.N) (h : t.val ≠ 0) (d) : (dat V hV c).before 3 t d = acc V hV c gXY t.val := by
  rw [Dat.before_of_pos _ 3 t h rfl, if_neg (fun e => mid_point t h ((flush0_3 _).mp e))]
  show acc V hV c gXY (t.val - 1 + 1) = _
  rw [Nat.sub_add_cancel (Nat.pos_of_ne_zero h)]
theorem before_4 (t : Fin cfg0.N) (h : t.val ≠ 0) (d) : (dat V hV c).before 4 t d = acc V hV c gX t.val := by
  rw [Dat.before_of_pos _ 4 t h rfl, if_neg (fun e => mid_point t h ((flush0_4 _).mp e))]
  show acc V hV c gX (t.val - 1 + 1) = _
  rw [Nat.sub_add_cancel (Nat.pos_of_ne_zero h)]
theorem before_5 (t : Fin cfg0.N) (h : t.val ≠ 0) (d) : (dat V hV c).before 5 t d = acc V hV c gXX t.val := by
  rw [Dat.before_of_pos _ 5 t h rfl, if_neg (fun e => mid_point t h ((flush0_5 _).mp e))]
  show acc V hV c gXX (t.val - 1 + 1) = _
  rw [Nat.sub_add_cancel (Nat.pos_of_ne_zero h)]
theorem before_6 (t : Fin cfg0.N) (h : t.val ≠ 0) (d) : (dat V hV c).before 6 t d = acc V hV c gY t.val := by
  rw [Dat.before_of_pos _ 6 t h rfl, if_neg (fun e => mid_point t h ((flush0_6 _).mp e))]
  show acc V hV c gY (t.val - 1 + 1) = _
  rw [Nat.sub_add_cancel (Nat.pos_of_ne_zero h)]

/-- Holding a memref at contents, the two ways of saying it. -/
theorem held_of_owns {S : Shape} {e : EltTy} (a : Memref sig .tc .vmem S e) (w : Vec F S e) :
    (owns (c : Thread nD τ) a fullShare w : sProp 𝕄G) ⊢ held c a w := by
  unfold owns
  iintro ⟨%f, %hf, H⟩
  iexists f
  isplitl [H]; · iexact H
  ipureintro; exact hf

theorem owns_of_held {S : Shape} {e : EltTy} (a : Memref sig .tc .vmem S e) (w : Vec F S e) :
    (held c a w : sProp 𝕄G) ⊢ owns (c : Thread nD τ) a fullShare w := by
  unfold owns
  iintro ⟨%f, H, %hf⟩
  iexists f
  isplitr; · ipureintro; exact hf
  iexact H

theorem owns_eq {S : Shape} {e : EltTy} (a : Memref sig .tc .vmem S e) (w w' : Vec F S e) (h : w = w') :
    (held c a w : sProp 𝕄G) ⊢ owns (c : Thread nD τ) a fullShare w' := h ▸ owns_of_held c a w

/-- The body at every point. -/
theorem body_obligation : BodyObligation (dat V hV c) (defs₀ (F := F)) Variants.none () Set.univ := fun t => by
  rw [bigSep_W0, bigSep_W0]
  rw [show (dat V hV c).Φ t.castSucc = (dat V hV c).Φ t.succ from rfl]
  unfold Dat.owesAt Pipeline.owesWithin
  rw [show (dat V hV c).owed t.castSucc = 0 from rfl, show (dat V hV c).owed t.succ = 0 from rfl]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩⟩
  rw [before_0, before_1, before_2]
  have hrun := point_run Variants.none c none Set.univ (st0_0 t) (st0_1 t) (st0_2 t) (st0_3 t) (st0_4 t) (st0_5 t) (st0_6 t) (grid0.coords t)
    (nums V c t) (nums_lt V hV c t) (rows V c t) (wts V c t)
    ((dat V hV c).before 3 t d3) ((dat V hV c).before 4 t d4) ((dat V hV c).before 5 t d5) ((dat V hV c).before 6 t d6)
  have hbody : (defs₀ (F := F)) .tc cfg0.body (cfg0.bodyArgs t (cfg0.slots t))
      = point (grid0.coords t) (st0_0 t) (st0_1 t) (st0_2 t) (st0_3 t) (st0_4 t) (st0_5 t) (st0_6 t) := by
    refine Eq.trans (b := bodyAt0 t) rfl ?_
    exact kernel_eq ..
  rw [hbody]
  iapply (wp_wand_r Idealize.ShloMosaic.frame (wpE (defs₀ (F := F)) Variants.none (c : Thread nD τ) none) Set.univ)
  isplitl [H0 H1 H2 H3 H4 H5 H6]
  · iapply hrun
    isplitl [H0]; · iapply (held_of_owns c _ _); iexact H0
    isplitl [H1]; · iapply (held_of_owns c _ _); iexact H1
    isplitl [H2]; · iapply (held_of_owns c _ _); iexact H2
    isplitl [H3]; · iapply (held_of_owns c _ _); iexact H3
    isplitl [H4]; · iapply (held_of_owns c _ _); iexact H4
    isplitl [H5]; · iapply (held_of_owns c _ _); iexact H5
    iapply (held_of_owns c _ _); iexact H6
  iintro %u ⟨H0, H1, H2, H3, H4, H5, H6⟩
  isplitl [HΦ]; · iexact HΦ
  isplitl [HO]
  · iexists W; isplitr; · ipureintro; exact hW
    iexact HO
  isplitl [H0]; · iapply (owns_of_held c _ _); iexact H0
  isplitl [H1]; · iapply (owns_of_held c _ _); iexact H1
  isplitl [H2]; · iapply (owns_of_held c _ _); iexact H2
  isplitl [H3]; · iapply (owns_eq c _ _ _ (next V hV c t gXY _ fun h => before_3 V hV c t h d3)); iexact H3
  isplitl [H4]; · iapply (owns_eq c _ _ _ (next V hV c t gX _ fun h => before_4 V hV c t h d4)); iexact H4
  isplitl [H5]; · iapply (owns_eq c _ _ _ (next V hV c t gXX _ fun h => before_5 V hV c t h d5)); iexact H5
  iapply (owns_eq c _ _ _ (next V hV c t gY _ fun h => before_6 V hV c t h d6)); iexact H6

end Cert.KernelIdeal.Seg
end
-- ==== Proof.HeadData.lean ====
/-
  The head kernel's pipeline: what its staging buffers hold before and after each grid point, and the proof that the body
  takes the one to the other.
-/
module

public import proofs.«01_k».proof.Proof.HeadRun
public import proofs.«01_k».proof.Proof.SegData

@[expose] public section

noncomputable section

namespace Cert.KernelIdeal.Head

open Cert.KernelIdeal Cert.KernelIdeal.Gen Cert.KernelIdeal.Seg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (V : Bufs F) (c : Dev nD)

/-- The block window `w` stages at point `t`. -/
abbrev blkAt (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Point `t`'s block of the first sum. -/
abbrev inp0 (t : Fin cfg1.N) : Vec F S1000x128 .f32 :=
  (cfg1.win 0).fill (cfg1.grid.coords t) (fun _ => (Scalar.ofBits .f32 0#32 : F .f32)) (blkAt V c 0 t)
theorem uncut_0 : ∀ (t : Fin cfg1.N) (a), (cfg1.win 0).clip (cfg1.grid.coords t) a = none := by
  show ∀ (t : Fin grid1.N) (a : Fin 2), win1_0.clip (grid1.coords t) a = none
  decide
/-- Point `t`'s block of the second sum. -/
abbrev inp1 (t : Fin cfg1.N) : Vec F S1000x128 .f32 :=
  (cfg1.win 1).fill (cfg1.grid.coords t) (fun _ => (Scalar.ofBits .f32 0#32 : F .f32)) (blkAt V c 1 t)
theorem uncut_1 : ∀ (t : Fin cfg1.N) (a), (cfg1.win 1).clip (cfg1.grid.coords t) a = none := by
  show ∀ (t : Fin grid1.N) (a : Fin 2), win1_1.clip (grid1.coords t) a = none
  decide
/-- Point `t`'s block of the third sum. -/
abbrev inp2 (t : Fin cfg1.N) : Vec F S1000x128 .f32 :=
  (cfg1.win 2).fill (cfg1.grid.coords t) (fun _ => (Scalar.ofBits .f32 0#32 : F .f32)) (blkAt V c 2 t)
theorem uncut_2 : ∀ (t : Fin cfg1.N) (a), (cfg1.win 2).clip (cfg1.grid.coords t) a = none := by
  show ∀ (t : Fin grid1.N) (a : Fin 2), win1_2.clip (grid1.coords t) a = none
  decide
/-- Point `t`'s block of the fourth sum. -/
abbrev inp3 (t : Fin cfg1.N) : Vec F S1000x128 .f32 :=
  (cfg1.win 3).fill (cfg1.grid.coords t) (fun _ => (Scalar.ofBits .f32 0#32 : F .f32)) (blkAt V c 3 t)
theorem uncut_3 : ∀ (t : Fin cfg1.N) (a), (cfg1.win 3).clip (cfg1.grid.coords t) a = none := by
  show ∀ (t : Fin grid1.N) (a : Fin 2), win1_3.clip (grid1.coords t) a = none
  decide
/-- Point `t`'s block of the anchors' rows. -/
abbrev inp4 (t : Fin cfg1.N) : Vec F S1000x128 .f32 := blkAt V c 4 t
/-- Point `t`'s block of the anchors' weights. -/
abbrev inp5 (t : Fin cfg1.N) : Vec F S1000x1 .f32 := blkAt V c 5 t
/-- The first matrix, staged once. -/
abbrev inp6 : Vec F S128x256 .f32 := blkAt V c 6 t1_0
/-- The first offsets, staged once. -/
abbrev inp7 : Vec F S1x256 .f32 := blkAt V c 7 t1_0
/-- The second matrix, staged once. -/
abbrev inp8 : Vec F S256x18 .f32 := blkAt V c 8 t1_0
/-- The second offsets, staged once. -/
abbrev inp9 : Vec F S1x18 .f32 := blkAt V c 9 t1_0
/-- What point `t` leaves in result 0's block. -/
abbrev res0 (t : Fin cfg1.N) : Vec F S1000x128 .f32 := repOut (inp0 V c t) (inp1 V c t) (inp2 V c t) (inp3 V c t) (inp4 V c t) (inp5 V c t)
/-- What point `t` leaves in result 1's block. -/
abbrev res1 (t : Fin cfg1.N) : Vec F S1000x16 .f32 := mixOut (inp0 V c t) (inp1 V c t) (inp2 V c t) (inp3 V c t) (inp4 V c t) (inp5 V c t) (inp6 V c) (inp7 V c) (inp8 V c) (inp9 V c)
/-- What point `t` leaves in result 2's block. -/
abbrev res2 (t : Fin cfg1.N) : Vec F S1000x1 .f32 := sigOut (inp0 V c t) (inp1 V c t) (inp2 V c t) (inp3 V c t) (inp4 V c t) (inp5 V c t) (inp6 V c) (inp7 V c) (inp8 V c) (inp9 V c)
/-- What point `t` leaves in result 3's block. -/
abbrev res3 (t : Fin cfg1.N) : Vec F S1000x1 .f32 := alphaOut (inp0 V c t) (inp1 V c t) (inp2 V c t) (inp3 V c t) (inp4 V c t) (inp5 V c t) (inp6 V c) (inp7 V c) (inp8 V c) (inp9 V c)
/-- What point `t` leaves in result 4's block. -/
abbrev res4 (t : Fin cfg1.N) : Vec F S1000x1 .f32 := betaOut (inp0 V c t) (inp1 V c t) (inp2 V c t) (inp3 V c t) (inp4 V c t) (inp5 V c t) (inp6 V c) (inp7 V c) (inp8 V c) (inp9 V c)

/-- The pipeline's proof data: inputs as fetched, results as computed from them. -/
def dat (c : Dev nD) : Dat τ (Elt F) Unit ℕ (UR sig nD τ) ℕ cfg1 c where
  A w := V c (Pipeline.arrRef spec1 w)
  after w t := match w with
    | ⟨0, _⟩ => inp0 V c t
    | ⟨1, _⟩ => inp1 V c t
    | ⟨2, _⟩ => inp2 V c t
    | ⟨3, _⟩ => inp3 V c t
    | ⟨4, _⟩ => inp4 V c t
    | ⟨5, _⟩ => inp5 V c t
    | ⟨6, _⟩ => inp6 V c
    | ⟨7, _⟩ => inp7 V c
    | ⟨8, _⟩ => inp8 V c
    | ⟨9, _⟩ => inp9 V c
    | ⟨10, _⟩ => res0 V c t
    | ⟨11, _⟩ => res1 V c t
    | ⟨12, _⟩ => res2 V c t
    | ⟨13, _⟩ => res3 V c t
    | ⟨14, _⟩ => res4 V c t
  Φ _ := Pipeline.scopedRest (Ix := Unit) (Name := ℕ) (U := UR sig nD τ) (Lvl := ℕ) (Val := Elt F) spec1 c
  q _ := fullShare
  owed _ := 0

theorem A_eq (w : Fin cfg1.W) : (dat V c).A w = V c (Pipeline.arrRef spec1 w) := by dsimp only [dat]

theorem before_0 (t : Fin cfg1.N) (d) : (dat V c).before 0 t d = inp0 V c t := by
  unfold Dat.before; rw [if_pos (fetch1_0 t)]; exact Dat.fetched_of_clip_none _ 0 t (uncut_0 t) _ _
theorem before_1 (t : Fin cfg1.N) (d) : (dat V c).before 1 t d = inp1 V c t := by
  unfold Dat.before; rw [if_pos (fetch1_1 t)]; exact Dat.fetched_of_clip_none _ 1 t (uncut_1 t) _ _
theorem before_2 (t : Fin cfg1.N) (d) : (dat V c).before 2 t d = inp2 V c t := by
  unfold Dat.before; rw [if_pos (fetch1_2 t)]; exact Dat.fetched_of_clip_none _ 2 t (uncut_2 t) _ _
theorem before_3 (t : Fin cfg1.N) (d) : (dat V c).before 3 t d = inp3 V c t := by
  unfold Dat.before; rw [if_pos (fetch1_3 t)]; exact Dat.fetched_of_clip_none _ 3 t (uncut_3 t) _ _
theorem before_4 (t : Fin cfg1.N) (d) : (dat V c).before 4 t d = inp4 V c t := by
  unfold Dat.before; rw [if_pos (fetch1_4 t)]; rfl
theorem before_5 (t : Fin cfg1.N) (d) : (dat V c).before 5 t d = inp5 V c t := by
  unfold Dat.before; rw [if_pos (fetch1_5 t)]; rfl

theorem later_point (t : Fin cfg1.N) (h : t.val ≠ 0) : t.val % 10 ≠ 0 := by
  have : t.val < 10 := lt_of_lt_of_eq t.isLt N_1
  omega

theorem before_6 (t : Fin cfg1.N) (d) : (dat V c).before 6 t d = inp6 V c := by
  by_cases h : t.val = 0
  · obtain rfl : t = t1_0 := Fin.ext h
    unfold Dat.before; rw [if_pos ((fetch1_6 t1_0).mpr rfl)]; rfl
  · rw [Dat.before_of_pos _ 6 t h (Bool.eq_false_iff.mpr fun e => later_point t h ((fetch1_6 t).mp e))]
    rfl
theorem before_7 (t : Fin cfg1.N) (d) : (dat V c).before 7 t d = inp7 V c := by
  by_cases h : t.val = 0
  · obtain rfl : t = t1_0 := Fin.ext h
    unfold Dat.before; rw [if_pos ((fetch1_7 t1_0).mpr rfl)]; rfl
  · rw [Dat.before_of_pos _ 7 t h (Bool.eq_false_iff.mpr fun e => later_point t h ((fetch1_7 t).mp e))]
    rfl
theorem before_8 (t : Fin cfg1.N) (d) : (dat V c).before 8 t d = inp8 V c := by
  by_cases h : t.val = 0
  · obtain rfl : t = t1_0 := Fin.ext h
    unfold Dat.before; rw [if_pos ((fetch1_8 t1_0).mpr rfl)]; rfl
  · rw [Dat.before_of_pos _ 8 t h (Bool.eq_false_iff.mpr fun e => later_point t h ((fetch1_8 t).mp e))]
    rfl
theorem before_9 (t : Fin cfg1.N) (d) : (dat V c).before 9 t d = inp9 V c := by
  by_cases h : t.val = 0
  · obtain rfl : t = t1_0 := Fin.ext h
    unfold Dat.before; rw [if_pos ((fetch1_9 t1_0).mpr rfl)]; rfl
  · rw [Dat.before_of_pos _ 9 t h (Bool.eq_false_iff.mpr fun e => later_point t h ((fetch1_9 t).mp e))]
    rfl

set_option maxRecDepth 4096 in
/-- The body at every point. -/
theorem body_obligation : BodyObligation (dat V c) (defs₀ (F := F)) Variants.none () Set.univ := fun t => by
  rw [bigSep_W1, bigSep_W1]
  rw [show (dat V c).Φ t.castSucc = (dat V c).Φ t.succ from rfl]
  unfold Dat.owesAt Pipeline.owesWithin
  rw [show (dat V c).owed t.castSucc = 0 from rfl, show (dat V c).owed t.succ = 0 from rfl]
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [before_0, before_1, before_2, before_3, before_4, before_5, before_6, before_7, before_8, before_9]
  have hrun := head_run Variants.none c none Set.univ (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14))
    (inp0 V c t) (inp1 V c t) (inp2 V c t) (inp3 V c t) (inp4 V c t) (inp5 V c t) (inp6 V c) (inp7 V c) (inp8 V c) (inp9 V c)
    ((dat V c).before 10 t d10) ((dat V c).before 11 t d11) ((dat V c).before 12 t d12) ((dat V c).before 13 t d13) ((dat V c).before 14 t d14)
  rw [show (defs₀ (F := F)) .tc cfg1.body (cfg1.bodyArgs t (cfg1.slots t)) = bodyAt1 t from rfl]
  iapply (wp_wand_r Idealize.ShloMosaic.frame (wpE (defs₀ (F := F)) Variants.none (c : Thread nD τ) none) Set.univ)
  isplitl [H0 H1 H2 H3 H4 H5 H6 H7 H8 H9 H10 H11 H12 H13 H14]
  · iapply hrun
    isplitl [H0]; · iapply (held_of_owns c _ _); iexact H0
    isplitl [H1]; · iapply (held_of_owns c _ _); iexact H1
    isplitl [H2]; · iapply (held_of_owns c _ _); iexact H2
    isplitl [H3]; · iapply (held_of_owns c _ _); iexact H3
    isplitl [H4]; · iapply (held_of_owns c _ _); iexact H4
    isplitl [H5]; · iapply (held_of_owns c _ _); iexact H5
    isplitl [H6]; · iapply (held_of_owns c _ _); iexact H6
    isplitl [H7]; · iapply (held_of_owns c _ _); iexact H7
    isplitl [H8]; · iapply (held_of_owns c _ _); iexact H8
    isplitl [H9]; · iapply (held_of_owns c _ _); iexact H9
    isplitl [H10]; · iapply (held_of_owns c _ _); iexact H10
    isplitl [H11]; · iapply (held_of_owns c _ _); iexact H11
    isplitl [H12]; · iapply (held_of_owns c _ _); iexact H12
    isplitl [H13]; · iapply (held_of_owns c _ _); iexact H13
    iapply (held_of_owns c _ _); iexact H14
  iintro %u ⟨H0, H1, H2, H3, H4, H5, H6, H7, H8, H9, H10, H11, H12, H13, H14⟩
  isplitl [HΦ]; · iexact HΦ
  isplitl [HO]
  · iexists W; isplitr; · ipureintro; exact hW
    iexact HO
  isplitl [H0]; · iapply (owns_of_held c _ _); iexact H0
  isplitl [H1]; · iapply (owns_of_held c _ _); iexact H1
  isplitl [H2]; · iapply (owns_of_held c _ _); iexact H2
  isplitl [H3]; · iapply (owns_of_held c _ _); iexact H3
  isplitl [H4]; · iapply (owns_of_held c _ _); iexact H4
  isplitl [H5]; · iapply (owns_of_held c _ _); iexact H5
  isplitl [H6]; · iapply (owns_of_held c _ _); iexact H6
  isplitl [H7]; · iapply (owns_of_held c _ _); iexact H7
  isplitl [H8]; · iapply (owns_of_held c _ _); iexact H8
  isplitl [H9]; · iapply (owns_of_held c _ _); iexact H9
  isplitl [H10]; · iapply (owns_of_held c _ _); iexact H10
  isplitl [H11]; · iapply (owns_of_held c _ _); iexact H11
  isplitl [H12]; · iapply (owns_of_held c _ _); iexact H12
  isplitl [H13]; · iapply (owns_of_held c _ _); iexact H13
  iapply (owns_of_held c _ _); iexact H14

end Cert.KernelIdeal.Head
end
-- ==== Proof.RunMain.lean ====
/-
  The whole program, run: the index array reshaped, the segment-sum kernel, two reshapes of parameters, the head kernel.
  Every execution ends with the arguments as they were and each result at what the pipelines leave in it.
-/
module

public import proofs.«01_k».proof.Proof.HeadData
public import Idealize.ShloMosaic.Lib.Pipeline.RegionsLoop

@[expose] public section

noncomputable section

namespace Cert.KernelIdeal.RunMain

open Cert.KernelIdeal Cert.KernelIdeal.Gen Cert.KernelIdeal.Seg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- Every segment number given names a row of the sums. -/
def ArgInRange : Prop := ∀ (c : Dev nD) (j : S320000.Idx), ((m ((c : Thread nD τ).loc main_arg0) : Vec F S320000 .i32) j).toNat < 10000

/-- The segment numbers in their reshaped array are those given. -/
theorem V1_v0 (c : Dev nD) : (V1 m c main_v0 : Vec F S40x1x8000 .i32)
    = shapeCast S40x1x8000 (m ((c : Thread nD τ).loc main_arg0) : Vec F S320000 .i32) shapeCasts_S320000_S40x1x8000 := rfl

theorem V1_range (hm : ArgInRange m) : InRange (V1 m) := fun c j => by
  rw [V1_v0]; exact hm c _

variable (hm : ArgInRange m)

/-- The first region's proof data. -/
abbrev dat0 (c : Dev nD) : Dat τ (Elt F) Unit ℕ (UR sig nD τ) ℕ cfg0 c := Seg.dat (V1 m) (V1_range m hm) c

/-- What the first region leaves. -/
def outs0 : Outs (F := F) := fun _ r c =>
  (Function.update (Function.update (Function.update (Function.update (V1 m c) (Proc.devRef .tc main_v1_0) ((dat0 m hm c).arrAt 3 cfg0.N))
    (Proc.devRef .tc main_v1_1) ((dat0 m hm c).arrAt 4 cfg0.N)) (Proc.devRef .tc main_v1_2) ((dat0 m hm c).arrAt 5 cfg0.N))
    (Proc.devRef .tc main_v1_3) ((dat0 m hm c).arrAt 6 cfg0.N)) (Proc.devRef .tc r)

/-- The second region's proof data. -/
abbrev dat1 (c : Dev nD) : Dat τ (Elt F) Unit ℕ (UR sig nD τ) ℕ cfg1 c := Head.dat (V3 m (outs0 m hm)) c

/-- What the two regions leave. -/
def outs : Outs (F := F) := fun n r c =>
  if n = 4 then (Function.update (Function.update (Function.update (Function.update (Function.update (V3 m (outs0 m hm) c)
      (Proc.devRef .tc main_v4_0) ((dat1 m hm c).arrAt 10 cfg1.N))
      (Proc.devRef .tc main_v4_1) ((dat1 m hm c).arrAt 11 cfg1.N)) (Proc.devRef .tc main_v4_2) ((dat1 m hm c).arrAt 12 cfg1.N))
      (Proc.devRef .tc main_v4_3) ((dat1 m hm c).arrAt 13 cfg1.N)) (Proc.devRef .tc main_v4_4) ((dat1 m hm c).arrAt 14 cfg1.N)) (Proc.devRef .tc r)
  else outs0 m hm n r c

/-- The buffers after the first region are set by that region's results alone. -/
theorem V2_congr {o o' : Outs (F := F)} (c : Dev nD) (h : ∀ r, o 2 r c = o' 2 r c) : V2 m o c = V2 m o' c := by
  simp only [V2, h]

theorem outs_two (r : Ref sig .tc) (c : Dev nD) : outs m hm 2 r c = outs0 m hm 2 r c := if_neg (by decide)

theorem V2_outs (c : Dev nD) : V2 m (outs m hm) c = V2 m (outs0 m hm) c := V2_congr m c fun r => outs_two m hm r c
theorem V3_outs (c : Dev nD) : V3 m (outs m hm) c = V3 m (outs0 m hm) c := by
  unfold V3; rw [V2_outs]

/-- Two TensorCore references that differ are different buffers. -/
theorem ne_of {r r' : Ref sig .tc} (h : r ≠ r') : (Proc.devRef .tc r : DevRef τ sig) ≠ Proc.devRef .tc r' := StableHlo.devRef_ne_of_ne h

/-! ## The buffers after each region -/

theorem V2_main_v1_0 (c : Dev nD) : V2 m (outs0 m hm) c main_v1_0 = (dat0 m hm c).arrAt 3 cfg0.N := by
  simp only [V2, outs0, Function.update_of_ne (ne_of (show main_v1_0 ≠ main_v1_1 from by decide)), Function.update_of_ne (ne_of (show main_v1_0 ≠ main_v1_2 from by decide)), Function.update_of_ne (ne_of (show main_v1_0 ≠ main_v1_3 from by decide)), Function.update_self]
theorem V2_main_v1_1 (c : Dev nD) : V2 m (outs0 m hm) c main_v1_1 = (dat0 m hm c).arrAt 4 cfg0.N := by
  simp only [V2, outs0, Function.update_of_ne (ne_of (show main_v1_1 ≠ main_v1_2 from by decide)), Function.update_of_ne (ne_of (show main_v1_1 ≠ main_v1_3 from by decide)), Function.update_self]
theorem V2_main_v1_2 (c : Dev nD) : V2 m (outs0 m hm) c main_v1_2 = (dat0 m hm c).arrAt 5 cfg0.N := by
  simp only [V2, outs0, Function.update_of_ne (ne_of (show main_v1_2 ≠ main_v1_3 from by decide)), Function.update_self]
theorem V2_main_v1_3 (c : Dev nD) : V2 m (outs0 m hm) c main_v1_3 = (dat0 m hm c).arrAt 6 cfg0.N := by
  simp only [V2, outs0, Function.update_self]

theorem V4_main_v4_0 (c : Dev nD) : V4 m (outs m hm) c main_v4_0 = (dat1 m hm c).arrAt 10 cfg1.N := by
  simp only [V4, outs, if_true, Function.update_of_ne (ne_of (show main_v4_0 ≠ main_v4_1 from by decide)), Function.update_of_ne (ne_of (show main_v4_0 ≠ main_v4_2 from by decide)), Function.update_of_ne (ne_of (show main_v4_0 ≠ main_v4_3 from by decide)), Function.update_of_ne (ne_of (show main_v4_0 ≠ main_v4_4 from by decide)), Function.update_self]
theorem V4_main_v4_1 (c : Dev nD) : V4 m (outs m hm) c main_v4_1 = (dat1 m hm c).arrAt 11 cfg1.N := by
  simp only [V4, outs, if_true, Function.update_of_ne (ne_of (show main_v4_1 ≠ main_v4_2 from by decide)), Function.update_of_ne (ne_of (show main_v4_1 ≠ main_v4_3 from by decide)), Function.update_of_ne (ne_of (show main_v4_1 ≠ main_v4_4 from by decide)), Function.update_self]
theorem V4_main_v4_2 (c : Dev nD) : V4 m (outs m hm) c main_v4_2 = (dat1 m hm c).arrAt 12 cfg1.N := by
  simp only [V4, outs, if_true, Function.update_of_ne (ne_of (show main_v4_2 ≠ main_v4_3 from by decide)), Function.update_of_ne (ne_of (show main_v4_2 ≠ main_v4_4 from by decide)), Function.update_self]
theorem V4_main_v4_3 (c : Dev nD) : V4 m (outs m hm) c main_v4_3 = (dat1 m hm c).arrAt 13 cfg1.N := by
  simp only [V4, outs, if_true, Function.update_of_ne (ne_of (show main_v4_3 ≠ main_v4_4 from by decide)), Function.update_self]
theorem V4_main_v4_4 (c : Dev nD) : V4 m (outs m hm) c main_v4_4 = (dat1 m hm c).arrAt 14 cfg1.N := by
  simp only [V4, outs, if_true, Function.update_self]

/-- The first region leaves its arrays where the next stretch finds them. -/
theorem arrs0 (c : Dev nD) : ∀ w : Fin cfg0.W, (dat0 m hm c).arrAt w cfg0.N = V2 m (outs m hm) c (Pipeline.arrRef spec0 w)
  | ⟨0, _⟩ => ((dat0 m hm c).arrAt_in 0 rfl _).trans (V2_of m (outs m hm) c main_v0 (by decide)).symm
  | ⟨1, _⟩ => ((dat0 m hm c).arrAt_in 1 rfl _).trans (V2_of m (outs m hm) c main_arg1 (by decide)).symm
  | ⟨2, _⟩ => ((dat0 m hm c).arrAt_in 2 rfl _).trans (V2_of m (outs m hm) c main_arg2 (by decide)).symm
  | ⟨3, _⟩ => ((congrFun (V2_outs m hm c) _).trans (V2_main_v1_0 m hm c)).symm
  | ⟨4, _⟩ => ((congrFun (V2_outs m hm c) _).trans (V2_main_v1_1 m hm c)).symm
  | ⟨5, _⟩ => ((congrFun (V2_outs m hm c) _).trans (V2_main_v1_2 m hm c)).symm
  | ⟨6, _⟩ => ((congrFun (V2_outs m hm c) _).trans (V2_main_v1_3 m hm c)).symm

/-- An array the second region only reads is as it was. -/
theorem arr1_in (c : Dev nD) (w : Fin cfg1.W) (ho : (cfg1.win w).isOut = false)
    (hr : Pipeline.arrRef spec1 w ∉ [main_v4_0, main_v4_1, main_v4_2, main_v4_3, main_v4_4]) :
    (dat1 m hm c).arrAt w cfg1.N = V4 m (outs m hm) c (Pipeline.arrRef spec1 w) := by
  rw [V4_of m (outs m hm) c _ hr, V3_outs]
  exact ((dat1 m hm c).arrAt_in w ho _).trans (Head.A_eq _ c w)

/-- The second region leaves its arrays where the end finds them. -/
theorem arrs1 (c : Dev nD) : ∀ w : Fin cfg1.W, (dat1 m hm c).arrAt w cfg1.N = V4 m (outs m hm) c (Pipeline.arrRef spec1 w)
  | ⟨0, _⟩ => arr1_in m hm c 0 rfl (by decide)
  | ⟨1, _⟩ => arr1_in m hm c 1 rfl (by decide)
  | ⟨2, _⟩ => arr1_in m hm c 2 rfl (by decide)
  | ⟨3, _⟩ => arr1_in m hm c 3 rfl (by decide)
  | ⟨4, _⟩ => arr1_in m hm c 4 rfl (by decide)
  | ⟨5, _⟩ => arr1_in m hm c 5 rfl (by decide)
  | ⟨6, _⟩ => arr1_in m hm c 6 rfl (by decide)
  | ⟨7, _⟩ => arr1_in m hm c 7 rfl (by decide)
  | ⟨8, _⟩ => arr1_in m hm c 8 rfl (by decide)
  | ⟨9, _⟩ => arr1_in m hm c 9 rfl (by decide)
  | ⟨10, _⟩ => (V4_main_v4_0 m hm c).symm
  | ⟨11, _⟩ => (V4_main_v4_1 m hm c).symm
  | ⟨12, _⟩ => (V4_main_v4_2 m hm c).symm
  | ⟨13, _⟩ => (V4_main_v4_3 m hm c).symm
  | ⟨14, _⟩ => (V4_main_v4_4 m hm c).symm

/-- Off its arrays region 0 changes nothing. -/
theorem rest0 (c : Dev nD) (b : Ref sig .tc) (hb : b ∉ Finset.univ.image (Pipeline.arrRef spec0)) : V2 m (outs m hm) c b = V1 m c b := by
  refine V2_of m (outs m hm) c b fun h => hb ?_
  simp only [List.mem_cons, List.not_mem_nil, or_false] at h
  rcases h with rfl | rfl | rfl | rfl
  · exact Finset.mem_image.mpr ⟨(3 : Fin cfg0.W), Finset.mem_univ _, rfl⟩
  · exact Finset.mem_image.mpr ⟨(4 : Fin cfg0.W), Finset.mem_univ _, rfl⟩
  · exact Finset.mem_image.mpr ⟨(5 : Fin cfg0.W), Finset.mem_univ _, rfl⟩
  · exact Finset.mem_image.mpr ⟨(6 : Fin cfg0.W), Finset.mem_univ _, rfl⟩

/-- Off its arrays region 1 changes nothing. -/
theorem rest1 (c : Dev nD) (b : Ref sig .tc) (hb : b ∉ Finset.univ.image (Pipeline.arrRef spec1)) : V4 m (outs m hm) c b = V3 m (outs m hm) c b := by
  refine V4_of m (outs m hm) c b fun h => hb ?_
  simp only [List.mem_cons, List.not_mem_nil, or_false] at h
  rcases h with rfl | rfl | rfl | rfl | rfl
  · exact Finset.mem_image.mpr ⟨(10 : Fin cfg1.W), Finset.mem_univ _, rfl⟩
  · exact Finset.mem_image.mpr ⟨(11 : Fin cfg1.W), Finset.mem_univ _, rfl⟩
  · exact Finset.mem_image.mpr ⟨(12 : Fin cfg1.W), Finset.mem_univ _, rfl⟩
  · exact Finset.mem_image.mpr ⟨(13 : Fin cfg1.W), Finset.mem_univ _, rfl⟩
  · exact Finset.mem_image.mpr ⟨(14 : Fin cfg1.W), Finset.mem_univ _, rfl⟩

/-! ## The regions -/

/-- The proof data of both pipelines. -/
def dats : (p : Fin 2) → (c : Dev nD) → Dat τ (Elt F) Unit ℕ (UR sig nD τ) ℕ (cfgs p) c
  | 0 => fun c => dat0 m hm c
  | 1 => fun c => dat1 m hm c

/-- No core owes another anything: no level is assigned. -/
abbrev L : GSem nD τ sig → Finset Unit := fun _ => ∅
abbrev lv : GSem nD τ sig → Unit → ℕ := fun _ _ => 0

/-- What rides beside the buffers: what the core owes, which is nothing. -/
abbrev R (c : Dev nD) : sProp 𝕄G := iprop(∃ W, owes (c : Thread nD τ) (0 : CellTallies nD τ sig Unit) W)

/-- Neither kernel has a semaphore of its own. -/
abbrev noSem : PEmpty → SemLoc sig := fun k => k.elim

theorem noSems (c : Dev nD) :
    (Pipeline.ownSems0 (Ix := Unit) (Name := ℕ) (U := UR sig nD τ) (Lvl := ℕ) (Val := Elt F) (τ := τ) noSem c : sProp 𝕄G) = BI.emp := by
  unfold Pipeline.ownSems0
  rw [show (Finset.univ : Finset PEmpty) = ∅ from rfl, BI.bigSep_empty]

/-- Between points the scoped buffers no window stages ride at any contents. -/
theorem rides0 (c : Dev nD) (t) : (dats m hm 0 c).Φ t = Pipeline.scopedRest (Ix := Unit) (Name := ℕ) (U := UR sig nD τ) (Lvl := ℕ) (Val := Elt F) spec0 c := rfl
theorem rides1 (c : Dev nD) (t) : (dats m hm 1 c).Φ t = Pipeline.scopedRest (Ix := Unit) (Name := ℕ) (U := UR sig nD τ) (Lvl := ℕ) (Val := Elt F) spec1 c := rfl

set_option backward.isDefEq.respectTransparency.types false in
/-- Region 0: its arrays go into the pipeline and come back at their final contents; every other buffer passes by. -/
def reg0 : Pipeline.RegionSeg (pcfgs (F := F)) Gen.adm (dats m hm) () defs₀ Variants.none L lv 0 where
  win := launch0.win.to₀
  block_pos := launch0.block_pos
  stage_whole := launch0.stage_whole
  K := PEmpty
  osem := noSem
  ho := Pipeline.OwnSemFacts.none _
  hbody c := (Seg.body_obligation (V1 m) (V1_range m hm) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m hm) c) ∗ R c)
  X c := iprop(emp)
  Y c := iprop(emp)
  Z c := Pipeline.unscopedRest (Ix := Unit) (Name := ℕ) (U := UR sig nD τ) (Lvl := ℕ) spec0 c (fun b => V1 m c (Proc.devRef .tc b))
  hentry c := by
    rw [show StableHlo.held (c : Thread nD τ) (Pipeline.ucRefs τ sig) (V1 m c) = unscopedBufs c (fun b => V1 m c (Proc.devRef .tc b)) from
      (Pipeline.unscopedBufs_held (Ix := Unit) (Name := ℕ) (U := UR sig nD τ) (Lvl := ℕ) c (V1 m c)).symm]
    have hsplit := Pipeline.arrays_of_unscopedBufs (p := 0) (pcfgs (F := F)) Gen.adm (dats m hm) launch0.win launch0.arr_whole c
      ((dats m hm 0 c).share_full fun _ => rfl) (fun b => V1 m c (Proc.devRef .tc b)) (fun w => Seg.A_eq (V1 m) (V1_range m hm) c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [rides0]
    iintro ⟨-, -, Hr⟩
    iexact Hr
  hout c := by
    rw [noSems, rides0]
    iintro Hr
    isplitr; · iempintro
    isplitr; · iempintro
    iexact Hr
  hexit c := by
    rw [show StableHlo.held (c : Thread nD τ) (Pipeline.ucRefs τ sig) (V2 m (outs m hm) c) = unscopedBufs c (fun b => V2 m (outs m hm) c (Proc.devRef .tc b)) from
      (Pipeline.unscopedBufs_held (Ix := Unit) (Name := ℕ) (U := UR sig nD τ) (Lvl := ℕ) c (V2 m (outs m hm) c)).symm]
    have hjoin := Pipeline.unscopedBufs_of_arrays (p := 0) (pcfgs (F := F)) Gen.adm (Ix := Unit) (Name := ℕ) (U := UR sig nD τ) (Lvl := ℕ)
      launch0.win launch0.arr_whole c (dats m hm) ((dats m hm 0 c).share_full fun _ => rfl)
      (fun b => V1 m c (Proc.devRef .tc b)) (fun b => V2 m (outs m hm) c (Proc.devRef .tc b)) ((dats m hm 0 c).arrAt · cfg0.N)
      (fun w => arrs0 m hm c w) (fun b hb => rest0 m hm c b hb)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1: its arrays go into the pipeline and come back at their final contents; every other buffer passes by. -/
def reg1 : Pipeline.RegionSeg (pcfgs (F := F)) Gen.adm (dats m hm) () defs₀ Variants.none L lv 1 where
  win := launch1.win.to₀
  block_pos := launch1.block_pos
  stage_whole := launch1.stage_whole
  K := PEmpty
  osem := noSem
  ho := Pipeline.OwnSemFacts.none _
  hbody c := (Head.body_obligation (V3 m (outs0 m hm)) c).loose
  hwaits := Pipeline.hwaits_of_owed_zero _ _ _ _ L lv 1 fun _ _ => rfl
  pre c := iprop(StableHlo.held (c : Thread nD τ) (Pipeline.ucRefs τ sig) (V3 m (outs m hm) c) ∗ R c)
  post c := iprop(StableHlo.held (c : Thread nD τ) (Pipeline.ucRefs τ sig) (V4 m (outs m hm) c) ∗ R c)
  X c := iprop(emp)
  Y c := iprop(emp)
  Z c := Pipeline.unscopedRest (Ix := Unit) (Name := ℕ) (U := UR sig nD τ) (Lvl := ℕ) spec1 c (fun b => V3 m (outs m hm) c (Proc.devRef .tc b))
  hentry c := by
    rw [show StableHlo.held (c : Thread nD τ) (Pipeline.ucRefs τ sig) (V3 m (outs m hm) c) = unscopedBufs c (fun b => V3 m (outs m hm) c (Proc.devRef .tc b)) from
      (Pipeline.unscopedBufs_held (Ix := Unit) (Name := ℕ) (U := UR sig nD τ) (Lvl := ℕ) c (V3 m (outs m hm) c)).symm]
    have hsplit := Pipeline.arrays_of_unscopedBufs (p := 1) (pcfgs (F := F)) Gen.adm (dats m hm) launch1.win launch1.arr_whole c
      ((dats m hm 1 c).share_full fun _ => rfl) (fun b => V3 m (outs m hm) c (Proc.devRef .tc b)) (fun w => (Head.A_eq (V3 m (outs0 m hm)) c w).trans (congrFun (V3_outs m hm c).symm _))
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [rides1]
    iintro ⟨-, -, Hr⟩
    iexact Hr
  hout c := by
    rw [noSems, rides1]
    iintro Hr
    isplitr; · iempintro
    isplitr; · iempintro
    iexact Hr
  hexit c := by
    rw [show StableHlo.held (c : Thread nD τ) (Pipeline.ucRefs τ sig) (V4 m (outs m hm) c) = unscopedBufs c (fun b => V4 m (outs m hm) c (Proc.devRef .tc b)) from
      (Pipeline.unscopedBufs_held (Ix := Unit) (Name := ℕ) (U := UR sig nD τ) (Lvl := ℕ) c (V4 m (outs m hm) c)).symm]
    have hjoin := Pipeline.unscopedBufs_of_arrays (p := 1) (pcfgs (F := F)) Gen.adm (Ix := Unit) (Name := ℕ) (U := UR sig nD τ) (Lvl := ℕ)
      launch1.win launch1.arr_whole c (dats m hm) ((dats m hm 1 c).share_full fun _ => rfl)
      (fun b => V3 m (outs m hm) c (Proc.devRef .tc b)) (fun b => V4 m (outs m hm) c (Proc.devRef .tc b)) ((dats m hm 1 c).arrAt · cfg1.N)
      (fun w => arrs1 m hm c w) (fun b hb => rest1 m hm c b hb)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- What a final state holds on core `c`: the arguments as launched, the results as the head kernel's pipeline leaves them. -/
def Post (c : Dev nD) (s : MemSt nD τ sig (Elt F)) : Prop :=
  (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
  ∧ s.mem ((c.tc : Thread nD τ).loc main_v4_0) = (dat1 m hm c).arrAt 10 cfg1.N ∧ s.mem ((c.tc : Thread nD τ).loc main_v4_1) = (dat1 m hm c).arrAt 11 cfg1.N ∧ s.mem ((c.tc : Thread nD τ).loc main_v4_2) = (dat1 m hm c).arrAt 12 cfg1.N ∧ s.mem ((c.tc : Thread nD τ).loc main_v4_3) = (dat1 m hm c).arrAt 13 cfg1.N ∧ s.mem ((c.tc : Thread nD τ).loc main_v4_4) = (dat1 m hm c).arrAt 14 cfg1.N

set_option backward.isDefEq.respectTransparency.types false in
/-- Every weakly fair execution of the program terminates, the arguments unchanged, the results computed, every
    semaphore counter at zero. -/
theorem run_main : θ_run defs (onTc (τ := τ) (main (F := F))) ⟨m, fun _ => 0, ρ⟩ (fun r => (∀ c : Dev nD, Post m hm c r.2) ∧ r.2.sem = fun _ => 0) := by
  refine Pipeline.θ_run_regions_kit_dev_sems (pcfgs (F := F)) Gen.adm (dats m hm) () cellOf_inj emb₁ defs₀ Variants.none L lv m ρ main
    (segs m (outs m hm) Variants.none L lv (fun _ c => R c) () (dats m hm) (reg0 m hm) (reg1 m hm))
    (fun c Q => by
      rewrite [main_chain c, Pipeline.Seg.run_eq_chain,
        show (segs m (outs m hm) Variants.none L lv (fun _ c => R c) () (dats m hm) (reg0 m hm) (reg1 m hm) c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl)
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V4 m (outs m hm) c))
    (hch := fun c => ⟨.rfl, .rfl, .rfl, .rfl, .rfl⟩)
    (hinit := ?_) (QY := fun c s => Post m hm c s)
    (hfin := fun c s' => ?_) (hQ := fun _ h hz => ⟨h, funext fun g => hz g (.inr (regions_no_unscoped g.2))⟩)
  · rw [show (ownU (initOf (Pipeline.cells cfgs cellOf_inj) (Pipeline.launchToks cfgs cellOf_inj)) : sProp 𝕄G)
      = BI.own ((emb₁ : Emb (UR sig nD τ) 𝕄G) (initOf (Pipeline.cells (Pipeline.pin pcfgs Gen.adm) cellOf_inj) (Pipeline.launchToks (Pipeline.pin pcfgs Gen.adm) cellOf_inj))) from rfl]
    iintro Hu
    imodintro
    isplitl [Hu]; · iexact Hu
    iapply (show (BI.emp : sProp 𝕄G) ⊢ bigSep Finset.univ (fun _ : Dev nD => (BI.emp : sProp 𝕄G)) from by rw [BI.bigSep_emp_const])
    iempintro
  · refine Pipeline.initEach L lv fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m hm) c) s') $$ [Hh HSI]
    · isplitl [Hh] <;> iassumption
    icases Hr with ⟨%h, HSI⟩
    imodintro
    isplitr
    · ipureintro
      have hr : ∀ r : Ref sig .tc, r.isScoped = false → s'.mem.mem ((c.tc : Thread nD τ).loc r) = V4 m (outs m hm) c r := fun r hs =>
        h (Proc.devRef .tc r) (Finset.mem_filter.mpr ⟨StableHlo.devRef_mem_tcRefs r, by simpa using hs⟩)
      exact ⟨⟨(hr main_arg0 (by decide)).trans (V4_main_arg0 m (outs m hm) c), (hr main_arg1 (by decide)).trans (V4_main_arg1 m (outs m hm) c), (hr main_arg2 (by decide)).trans (V4_main_arg2 m (outs m hm) c), (hr main_arg3 (by decide)).trans (V4_main_arg3 m (outs m hm) c), (hr main_arg4 (by decide)).trans (V4_main_arg4 m (outs m hm) c), (hr main_arg5 (by decide)).trans (V4_main_arg5 m (outs m hm) c), (hr main_arg6 (by decide)).trans (V4_main_arg6 m (outs m hm) c), (hr main_arg7 (by decide)).trans (V4_main_arg7 m (outs m hm) c), (hr main_arg8 (by decide)).trans (V4_main_arg8 m (outs m hm) c)⟩,
        (hr main_v4_0 (by decide)).trans (V4_main_v4_0 m hm c), (hr main_v4_1 (by decide)).trans (V4_main_v4_1 m hm c), (hr main_v4_2 (by decide)).trans (V4_main_v4_2 m hm c), (hr main_v4_3 (by decide)).trans (V4_main_v4_3 m hm c), (hr main_v4_4 (by decide)).trans (V4_main_v4_4 m hm c)⟩
    · iexact HSI

end Cert.KernelIdeal.RunMain
end
-- ==== Proof.SameProgram.lean ====
/-
  The kernel and the kernel as idealized are one program: nothing was rewritten, so what is proved of the second for any
  floating-point values holds of the first.
-/
module

public import proofs.«01_k».proof.Kernel
public import proofs.«01_k».proof.KernelIdeal

@[expose] public section

noncomputable section

namespace Cert.SameProgram

open Idealize.ShloMosaic Idealize.SL.Sem

variable [h1 : Cert.Kernel.Facts] [h2 : Cert.KernelIdeal.Facts] {F : FTy → Type} [FloatOps F]

set_option maxRecDepth 100000
set_option maxHeartbeats 2000000

/-- The segment-sum kernels agree. -/
theorem k0_eq : @Cert.Kernel.cc0__segsum_kernel F _ h1 = @Cert.KernelIdeal.cc0__segsum_kernel F _ h2 := rfl

/-- The head kernels agree. -/
theorem k1_eq : @Cert.Kernel.cc1__head_kernel F _ h1 = @Cert.KernelIdeal.cc1__head_kernel F _ h2 := rfl

/-- The bodies the grid points call agree. -/
theorem bodies_eq : (Cert.Kernel.defs₀ (F := F)) = Cert.KernelIdeal.defs₀ (F := F) := by
  unfold Cert.Kernel.defs₀ Cert.KernelIdeal.defs₀
  rw [k0_eq, k1_eq]
  refine congrArg Defs.onTc (funext fun l => funext fun a => ?_)
  match l, a with
  | 0, (t, s) => rfl
  | 1, (t, s) => rfl

/-- The pipelines and the bodies they call agree. -/
theorem defs_eq : (Cert.Kernel.defs (F := F)) = Cert.KernelIdeal.defs (F := F) :=
  congrArg (Pipeline.defs (Cert.KernelIdeal.pcfgs (F := F))) bodies_eq

/-- The whole programs agree. -/
theorem main_eq : (Cert.Kernel.main (F := F)) = Cert.KernelIdeal.main (F := F) := rfl

end Cert.SameProgram
end
-- ==== Proof.PreRead.lean ====
/-
  The range precondition, read: what the printed predicate says of the segment numbers.
-/
module

public import proofs.«01_k».proof.Pre_index_in_range
public import Idealize.ShloMosaic.PureOps.Ideal
public import Idealize.ShloMosaic.Lib.ReduceAll
public import Idealize.ShloMosaic.Lib.StableHlo.Predicate
public import Idealize.ShloMosaic.Lib.ValueIdx
public import Idealize.ShloMosaic.Lib.ValueLayoutCasts
public import Idealize.ShloMosaic.Lib.Pipeline.Value

@[expose] public section

noncomputable section

namespace Cert.PreRead

open Idealize.ShloMosaic Idealize.ShloMosaic.ValueIdx

/-- The first predicate's side conditions hold. -/
instance rangeFacts : Cert.Pre_index_in_range.Facts where
  bcast_S_S320000 := by decide

/-- A conjunction of two bits is one only when both are. -/
theorem both {a b : BitVec 1} (h : IntOp.andi a b = 1#1) : a = 1#1 ∧ b = 1#1 := by
  revert h; revert a b; unfold IntOp.andi; decide

/-- A word that is at least 0 and below 10000, read signed, is below 10000 read unsigned. -/
theorem word_in_range (w : BitVec 32) (h0 : IntOp.cmpi .sge w 0#32 = 1#1) (h1 : IntOp.cmpi .slt w 10000#32 = 1#1) : w.toNat < 10000 := by
  simp only [IntOp.cmpi, StableHlo.Predicate.ofBool_eq_one_iff, BitVec.sle, BitVec.slt, decide_eq_true_eq] at h0 h1
  have e0 : (0#32 : BitVec 32).toInt = 0 := by decide
  have e1 : (10000#32 : BitVec 32).toInt = 10000 := by decide
  have e := BitVec.toInt_eq_toNat_cond w
  split at e <;> omega

section
variable {F : FTy → Type} [FloatOps F]
open Cert.Pre_index_in_range

/-- The first predicate all ones: every segment number names a row. -/
theorem index_lt (a0 : IVec S320000 32) (a1 : FVec F S320000x128 .f32) (a2 : FVec F S320000x1 .f32) (a3 : FVec F S10000x128 .f32)
    (a4 : FVec F S10000x1 .f32) (a5 : FVec F S128x256 .f32) (a6 : FVec F S256 .f32) (a7 : FVec F S256x18 .f32) (a8 : FVec F S18 .f32)
    (h : fn a0 a1 a2 a3 a4 a5 a6 a7 a8 = fun _ => 1#1) (j : S320000.Idx) : (a0 j).toNat < 10000 := by
  have e := both (congrFun h j)
  exact word_in_range _ e.1 e.2
end

end Cert.PreRead
end
-- ==== Proof.Frames.lean ====
/-
  The frames: the kernel, the kernel read at the extended reals, and the reference all run to the end, leave their
  arguments unchanged and every semaphore counter at zero.
-/
module

public import proofs.«01_k».proof.Defs
public import proofs.«01_k».proof.Proof.RunMain
public import proofs.«01_k».proof.Proof.SameProgram
public import proofs.«01_k».proof.Proof.PreRead
public import proofs.«01_k».proof.Proof.Gen.Kernel
public import proofs.«01_k».proof.Proof.Gen.ReferenceIdeal
public import proofs.«01_k».proof.Proof.RefValue

@[expose] public section

noncomputable section

namespace Cert.Frames

open Idealize.ShloMosaic Idealize.SL.Sem Cert.PreRead

/-- The kernel as written, at the machine's floats, from segment numbers in range. -/
theorem kernel : Cert.quiescent_Kernel := by
  intro m g hpre
  have hm : Cert.KernelIdeal.RunMain.ArgInRange (F := Bits) m := fun c j => index_lt _ _ _ _ _ _ _ _ _ (hpre c) j
  rw [SameProgram.defs_eq, SameProgram.main_eq]
  exact (θ_run _ _ _).mono (fun r h => ⟨fun c => (h.1 c).1, h.2⟩) (Cert.KernelIdeal.RunMain.run_main m g hm)

/-- The kernel at the extended reals, from segment numbers in range. -/
theorem kernelIdeal : Cert.quiescent_KernelIdeal := by
  intro m g hpre
  have hm : Cert.KernelIdeal.RunMain.ArgInRange (F := Ideal) m := fun c j => index_lt _ _ _ _ _ _ _ _ _ (hpre c) j
  exact (θ_run _ _ _).mono (fun r h => ⟨fun c => (h.1 c).1, h.2⟩) (Cert.KernelIdeal.RunMain.run_main m g hm)

/-- The reference, which has no semaphore. -/
theorem reference : Cert.quiescent_ReferenceIdeal := by
  intro m g _
  exact (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m g)

end Cert.Frames
end
-- ==== Proof.PreFinite.lean ====
/-
  The second precondition, read: segment numbers in range, and the arrays whose finiteness the values' equality needs.
-/
module

public import proofs.«01_k».proof.Proof.PreRead
public import proofs.«01_k».proof.Pre_range_and_finite
public import Idealize.ShloMosaic.Lib.ValueLayoutCasts

@[expose] public section

noncomputable section

namespace Cert.PreRead

open Idealize.ShloMosaic Idealize.ShloMosaic.ValueIdx

/-- The second predicate's side conditions hold. -/
instance finiteFacts : Cert.Pre_range_and_finite.Facts where
  bcast_S_S320000 := by decide
  reducesTo_S320000_S_d0 := by decide
  h_S_ := by decide
  bcast_S_S320000x1 := by decide
  reducesTo_S320000x1_S_d0_1 := by decide
  bcast_S_S10000x1 := by decide
  reducesTo_S10000x1_S_d0_1 := by decide
  slices_S256x18_S256x1_0_0 := by decide
  shapeCasts_S256x1_S256 := by decide
  bcast_S_S256 := by decide
  reducesTo_S256_S_d0 := by decide
  slices_S18_S1_0 := by decide
  shapeCasts_S1_S_ := by decide

section
open Cert.Pre_range_and_finite

/-- The bits of +∞ read at the extended reals are ⊤. -/
theorem inf_bits : (FloatOps.ofBits .f32 0x7F800000#32 : Ideal .f32) = (⊤ : EReal) := by
  simp [Ideal.ofBits, Ideal.ieee]

/-- An absolute value below ⊤ belongs to a finite number. -/
theorem finite_of_abs (x : EReal) (h : max x (-x) < ⊤) : ∃ r : ℝ, x = r := by
  induction x with
  | bot => simp at h
  | coe r => exact ⟨r, rfl⟩
  | top => simp at h

/-- What the second predicate says at the extended reals. -/
theorem range_finite (a0 : IVec S320000 32) (a1 : FVec Ideal S320000x128 .f32) (a2 : FVec Ideal S320000x1 .f32) (a3 : FVec Ideal S10000x128 .f32)
    (a4 : FVec Ideal S10000x1 .f32) (a5 : FVec Ideal S128x256 .f32) (a6 : FVec Ideal S256 .f32) (a7 : FVec Ideal S256x18 .f32) (a8 : FVec Ideal S18 .f32)
    (h : fn a0 a1 a2 a3 a4 a5 a6 a7 a8 = fun _ => 1#1) :
    (∀ j, (a0 j).toNat < 10000) ∧ (∀ j, ∃ r : ℝ, (a2 j : EReal) = r) ∧ (∀ j, ∃ r : ℝ, (a4 j : EReal) = r)
      ∧ (∀ k : Fin 256, ∃ r : ℝ, (a7 (ix2 k 0) : EReal) = r) ∧ ∃ r : ℝ, (a8 (ix1 0) : EReal) = r := by
  have e := congrFun h default
  unfold fn fn_part1 at e
  obtain ⟨e, h8⟩ := both e
  obtain ⟨e, h7⟩ := both e
  obtain ⟨e, h4⟩ := both e
  obtain ⟨h0, h2⟩ := both e
  have fin1 : ∀ x : EReal, FloatOps.cmpf (F := Ideal) (φ := .f32) .olt (max x (-x)) (FloatOps.ofBits .f32 0x7F800000#32) = 1#1 → ∃ r : ℝ, x = r := fun x hx => by
    refine finite_of_abs x ?_
    rw [inf_bits] at hx
    have hx' : Ideal.cmp .olt (max x (-x)) (⊤ : EReal) = 1#1 := hx
    simp only [Ideal.cmp, StableHlo.Predicate.ofBool_eq_one_iff, decide_eq_true_eq] at hx'
    exact hx'
  haveI : Subsingleton S_.Idx := ⟨fun a b => funext fun i => i.elim0⟩
  refine ⟨fun j => ?_, fun j => ?_, fun j => ?_, fun k => ?_, ?_⟩
  · have w := both (Host.reduce_andi_all _ _ _ _ _ h0 j)
    exact word_in_range _ w.1 w.2
  · exact fin1 _ (Host.reduce_andi_all _ _ _ _ _ h2 j)
  · exact fin1 _ (Host.reduce_andi_all _ _ _ _ _ h4 j)
  · obtain ⟨r, hr⟩ := fin1 _ (Host.reduce_andi_all _ _ _ _ _ h7 (ix1 k))
    refine ⟨r, Eq.trans ?_ hr⟩
    refine Eq.symm ((shapeCast_apply _ _ _ (ix2 k (0 : Fin 1)) ?_).trans (extractStridedSlice_apply _ _ _ _ _ ?_))
    · rw [Shape.rowMajor_val_two, Shape.rowMajor_val_one]; simp
    · intro a; fin_cases a <;> simp
  · obtain ⟨r, hr⟩ := fin1 _ h8
    refine ⟨r, Eq.trans ?_ hr⟩
    refine Eq.symm ((shapeCast_apply _ _ _ (ix1 (0 : Fin 1)) ?_).trans (extractStridedSlice_apply _ _ _ _ _ ?_))
    · exact congrArg Fin.val (Subsingleton.elim (α := Fin 1) _ _)
    · intro a; fin_cases a; simp
end

end Cert.PreRead
end
-- ==== Proof.FramesFinite.lean ====
/-
  The frames under the second precondition.
-/
module

public import proofs.«01_k».proof.Proof.Frames
public import proofs.«01_k».proof.Proof.PreFinite

@[expose] public section

noncomputable section

namespace Cert.Frames

open Idealize.ShloMosaic Idealize.SL.Sem Cert.PreRead

/-- The second precondition has the segment numbers in range. -/
theorem range_of_finite (m : (ℓ : Loc Cert.KernelIdeal.nD Cert.KernelIdeal.τ Cert.KernelIdeal.sig) → Buf (Elt Ideal) ℓ)
    (hpre : Cert.Pre_KernelIdeal_range_and_finite m) : Cert.KernelIdeal.RunMain.ArgInRange (F := Ideal) m :=
  fun c j => (range_finite _ _ _ _ _ _ _ _ _ (hpre c)).1 j

/-- The kernel at the extended reals, from the second precondition. -/
theorem kernelIdeal_finite : Cert.quiescent_KernelIdeal_pre_range_and_finite := by
  intro m g hpre
  exact (θ_run _ _ _).mono (fun r h => ⟨fun c => (h.1 c).1, h.2⟩) (Cert.KernelIdeal.RunMain.run_main m g (range_of_finite m hpre))

/-- The reference under the second precondition. -/
theorem reference_finite : Cert.quiescent_ReferenceIdeal_pre_range_and_finite := fun m g _ => reference m g trivial

end Cert.Frames
end
-- ==== Proof.SegValue.lean ====
/-
  The segment-sum kernel at the extended reals: a chunk adds to row `r` of a sum the chunk's rows numbered `r`.
-/
module

public import proofs.«01_k».proof.Proof.SegData
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.IdealHost
public import Idealize.ShloMosaic.Lib.Pipeline.ValueKit.Geometry
public import Idealize.ShloMosaic.Lib.StableHlo.Predicate

@[expose] public section

noncomputable section

namespace Cert.KernelIdeal.Seg

open Cert.KernelIdeal Cert.KernelIdeal.Gen
open Idealize.ShloMosaic Idealize.ShloMosaic.ValueIdx

/-- An entry of a plain product of an `m × k` and a `k × n` matrix, added to `acc`: the sum over the inner index. -/
theorem plain_matmul {m k n : Nat} {prec : Option ContractPrecision} (d : DotDims ⟨2, ![m, k]⟩ ⟨2, ![k, n]⟩ ⟨2, ![m, n]⟩) (hr : d.contr.rank = 1)
    (hs : d.contr.size ⟨0, by omega⟩ = k)
    (hl : ∀ (i : Fin m) (j : Fin n) (q), d.lhsIdx (ix2 i j) q = ix2 i (contrEquiv1 d k hr hs q))
    (hR : ∀ (i : Fin m) (j : Fin n) (q), d.rhsIdx (ix2 i j) q = ix2 (contrEquiv1 d k hr hs q) j)
    (l : FVec Ideal ⟨2, ![m, k]⟩ .f32) (x : FVec Ideal ⟨2, ![k, n]⟩ .f32) (acc : FVec Ideal ⟨2, ![m, n]⟩ .f32) (i : Fin m) (j : Fin n) :
    (matmul d prec l x acc (ix2 i j) : EReal) = acc (ix2 i j) + ∑ q : Fin k, (l (ix2 i q) : EReal) * x (ix2 q j) := by
  have e : (matmul d prec l x acc (ix2 i j) : EReal)
      = acc (ix2 i j) + ∑ q : d.contr.Idx, (l (d.lhsIdx (ix2 i j) q) : EReal) * x (d.rhsIdx (ix2 i j) q) := Ideal.matmul_apply d prec l x acc _
  rw [e, ← (contrEquiv1 d k hr hs).sum_comp]
  exact congrArg (_ + ·) (Finset.sum_congr rfl fun q _ => by rw [hl, hR])

/-- An entry of the one-hot matrix of window `W`. -/
theorem oneHot_apply (idx : Vec Ideal S1x1x1600 .i32) (W : ℕ) (hW : W < 157) (b : Fin 64) (k : Fin 1600) :
    (oneHot idx (BitVec.ofNat 32 W) (ix2 b k) : EReal) = if (idx (ix3 0 0 k)).toNat = 64 * W + b.val then 1 else 0 := by
  have e : (oneHot idx (BitVec.ofNat 32 W) (ix2 b k) : EReal)
      = ((((IntOp.cmpi .eq (k0_pay19 (F := Ideal) idx (ix2 b k)) (IntOp.addi (iota .tc S64x1600 32 [0] iota_S64x1600_d0_w32 (ix2 b k))
          (Scalar.muli (BitVec.ofNat 32 W) 64#32))).setWidth 32).toInt : ℝ) : EReal) := rfl
  have e1 : k0_pay19 (F := Ideal) idx (ix2 b k) = idx (ix3 0 0 k) := by
    unfold k0_pay19 k0_pay15
    rw [broadcastTo_1b_ab_apply, shapeCast_self, shapeCast_a_1a_apply]
    refine shapeCast_apply _ _ _ _ ?_
    rw [Shape.rowMajor_val_one, Shape.rowMajor_val_three]; simp
  have e2 : iota .tc S64x1600 32 [0] iota_S64x1600_d0_w32 (ix2 b k) = BitVec.ofNat 32 b.val := by
    rw [iota_single_apply]
  have e3 : IntOp.addi (BitVec.ofNat 32 b.val) (Scalar.muli (BitVec.ofNat 32 W) 64#32) = BitVec.ofNat 32 (64 * W + b.val) := by
    show BitVec.ofNat 32 b.val + BitVec.ofNat 32 W * 64#32 = _
    apply BitVec.eq_of_toNat_eq
    simp only [BitVec.toNat_add, BitVec.toNat_mul, BitVec.toNat_ofNat]
    omega
  rw [e, e1, e2, e3]
  by_cases h : (idx (ix3 0 0 k)).toNat = 64 * W + b.val
  · rw [if_pos h, StableHlo.Predicate.cmpi_eq_iff.mpr (show idx (ix3 0 0 k) = BitVec.ofNat 32 (64 * W + b.val) from by
      rw [← h, BitVec.ofNat_toNat, BitVec.setWidth_eq])]
    simp
  · have hne : IntOp.cmpi .eq (idx (ix3 0 0 k)) (BitVec.ofNat 32 (64 * W + b.val)) = 0#1 := by
      rcases BitVec.eq_zero_or_eq_one (IntOp.cmpi .eq (idx (ix3 0 0 k)) (BitVec.ofNat 32 (64 * W + b.val))) with h0 | h1
      · exact h0
      · refine absurd ?_ h
        rw [StableHlo.Predicate.cmpi_eq_iff.mp h1, BitVec.toNat_ofNat]
        omega
    rw [if_neg h, hne]
    simp

/-- A window's rows with the product added. -/
theorem upd_apply (idx : Vec Ideal S1x1x1600 .i32) (W : ℕ) (hW : W < 157) (f : FVec Ideal S1600x128 .f32) (v : Vec Ideal S64x128 .f32)
    (b : Fin 64) (d : Fin 128) :
    (upd idx (BitVec.ofNat 32 W) f v (ix2 b d) : EReal)
      = (v (ix2 b d) : EReal) + ∑ k : Fin 1600, if (idx (ix3 0 0 k)).toNat = 64 * W + b.val then (f (ix2 k d) : EReal) else 0 := by
  have e := plain_matmul (prec := none) dot_S64x1600_S1600x128_S64x128_1_0_0_1_n_n rfl rfl
    (fun i j q => by funext a; fin_cases a <;> rfl) (fun i j q => by funext a; fin_cases a <;> rfl)
    (oneHot idx (BitVec.ofNat 32 W)) f (constant S64x128 .f32 0x00000000#32) b d
  have e' : (upd idx (BitVec.ofNat 32 W) f v (ix2 b d) : EReal)
      = (shapeCast S64x128 v shapeCasts_S64x128_S64x128 (ix2 b d) : EReal)
        + matmul dot_S64x1600_S1600x128_S64x128_1_0_0_1_n_n none (oneHot idx (BitVec.ofNat 32 W)) f (constant S64x128 .f32 0x00000000#32) (ix2 b d) := rfl
  rw [e', e, shapeCast_self]
  refine congrArg (_ + ·) ?_
  rw [show ((constant S64x128 .f32 0x00000000#32 : FVec Ideal S64x128 .f32) (ix2 b d) : EReal) = 0 from Ideal.ofBits_zero_f32, zero_add]
  refine Finset.sum_congr rfl fun k _ => ?_
  rw [oneHot_apply idx W hW b k]
  split <;> simp

/-- What a chunk holds of row `r`. -/
def rowSum (idx : Vec Ideal S1x1x1600 .i32) (f : FVec Ideal S1600x128 .f32) (r : ℕ) (d : Fin 128) : EReal :=
  ∑ k : Fin 1600, if (idx (ix3 0 0 k)).toNat = r then (f (ix2 k d) : EReal) else 0

/-- A window put back updated, at a row. -/
theorem putUpd_apply (idx : Vec Ideal S1x1x1600 .i32) (W : ℕ) (hW : W < 157) (f : FVec Ideal S1600x128 .f32) (off : Fin 2 → Nat)
    (ho : off = ![64 * W, 0]) (inb : ∀ a, off a + S64x128.size a ≤ S10048x128.size a) (w : Vec Ideal S10048x128 .f32) (r : Fin 10048) (d : Fin 128) :
    (putUpd idx (BitVec.ofNat 32 W) f off inb w (ix2 r d) : EReal)
      = (w (ix2 r d) : EReal) + if r.val / 64 = W then rowSum idx f r.val d else 0 := by
  subst ho
  unfold putUpd VecWindow.put
  by_cases h : r.val / 64 = W
  · have hb : r.val - 64 * W < 64 := by omega
    have hh : ∀ a, (![64 * W, 0] : Fin 2 → Nat) a ≤ ((ix2 r d : S10048x128.Idx) a).val
        ∧ ((ix2 r d : S10048x128.Idx) a).val < (![64 * W, 0] : Fin 2 → Nat) a + S64x128.size a := by
      intro a; fin_cases a
      · show 64 * W ≤ r.val ∧ r.val < 64 * W + 64; omega
      · show 0 ≤ d.val ∧ d.val < 0 + 128; omega
    rw [dif_pos hh, if_pos h]
    have eidx : (Rect.unitLocal (s := S10048x128) (off := ![64 * W, 0]) (size := S64x128.size) (ix2 r d) hh : S64x128.Idx) = ix2 ⟨r.val - 64 * W, hb⟩ d := by
      funext a; fin_cases a <;> rfl
    refine (congrArg _ eidx).trans ((upd_apply idx W hW f _ ⟨r.val - 64 * W, hb⟩ d).trans ?_)
    have ew : (VecWindow.window w ![64 * W, 0] S64x128.size inb (ix2 ⟨r.val - 64 * W, hb⟩ d) : EReal) = w (ix2 r d) := by
      unfold VecWindow.window
      refine congrArg w (funext fun a => Fin.ext ?_)
      rw [ValueKit.rect_emb_unit_val]
      fin_cases a
      · show 64 * W + (r.val - 64 * W) = r.val; omega
      · show 0 + d.val = d.val; omega
    have er : 64 * W + (r.val - 64 * W) = r.val := by omega
    rw [ew]
    unfold rowSum
    simp only [er]
  · have hh : ¬ ∀ a, (![64 * W, 0] : Fin 2 → Nat) a ≤ ((ix2 r d : S10048x128.Idx) a).val
        ∧ ((ix2 r d : S10048x128.Idx) a).val < (![64 * W, 0] : Fin 2 → Nat) a + S64x128.size a := by
      intro hh
      have := hh 0
      have h' : 64 * W ≤ r.val ∧ r.val < 64 * W + 64 := this
      omega
    rw [dif_neg hh, if_neg h, add_zero]

/-- A sum after `n` of a chunk's windows, at a row. -/
theorem winSt_apply (idx : Vec Ideal S1x1x1600 .i32) (hx : ∀ j, (idx j).toNat < 10000) (hw : k0_chk1 (lo idx) (hi idx))
    (f : FVec Ideal S1600x128 .f32) (w : Vec Ideal S10048x128 .f32) (r : Fin 10048) (d : Fin 128) :
    ∀ n, n ≤ (k0_t1_loop (lo idx) (hi idx)).trips → (winSt idx hw f w n (ix2 r d) : EReal)
      = (w (ix2 r d) : EReal) + if (lo idx).toNat / 64 ≤ r.val / 64 ∧ r.val / 64 < (lo idx).toNat / 64 + n then rowSum idx f r.val d else 0
  | 0, _ => by
    rw [if_neg (by omega), add_zero]; rfl
  | n + 1, hn => by
    have hlh : (lo idx).toNat ≤ (hi idx).toNat := (lo_le idx hx (ix3 0 0 0)).trans ((hi_le idx hx).2 _)
    have hh := (hi_le idx hx).1
    have ht := trips_eq (lo idx) (hi idx) hlh hh
    rw [winSt_succ idx hw f w ⟨n, hn⟩, iv_eq (lo idx) (by omega) n,
      putUpd_apply idx ((lo idx).toNat / 64 + n) (by omega) f _ (off1_eq (lo idx) (hi idx) hlh hh ⟨n, hn⟩) _ _ r d,
      winSt_apply idx hx hw f w r d n (by omega), add_assoc]
    refine congrArg (_ + ·) ?_
    by_cases h1 : r.val / 64 = (lo idx).toNat / 64 + n
    · rw [if_neg (by omega), if_pos h1, if_pos (by omega), zero_add]
    · rw [if_neg h1, add_zero]
      exact if_congr (by omega) rfl rfl

/-- A sum after a chunk, at a row. -/
theorem chunkSt_apply (idx : Vec Ideal S1x1x1600 .i32) (hx : ∀ j, (idx j).toNat < 10000) (hw : k0_chk1 (lo idx) (hi idx))
    (f : FVec Ideal S1600x128 .f32) (w : Vec Ideal S10048x128 .f32) (r : Fin 10048) (d : Fin 128) :
    (chunkSt idx hw f w (ix2 r d) : EReal) = (w (ix2 r d) : EReal) + rowSum idx f r.val d := by
  have hlh : (lo idx).toNat ≤ (hi idx).toNat := (lo_le idx hx (ix3 0 0 0)).trans ((hi_le idx hx).2 _)
  have hh := (hi_le idx hx).1
  have ht := trips_eq (lo idx) (hi idx) hlh hh
  unfold chunkSt
  rw [winSt_apply idx hx hw f w r d _ le_rfl]
  refine congrArg (_ + ·) ?_
  by_cases h : (lo idx).toNat / 64 ≤ r.val / 64 ∧ r.val / 64 < (lo idx).toNat / 64 + (k0_t1_loop (lo idx) (hi idx)).trips
  · rw [if_pos h]
  · rw [if_neg h]
    unfold rowSum
    refine (Finset.sum_eq_zero fun k _ => if_neg fun e => h ?_).symm
    have h1 := lo_le idx hx (ix3 0 0 k)
    have h2 := (hi_le idx hx).2 (ix3 0 0 k)
    omega

/-- A choice of rows that is made entry by entry: of a row's entry, its weight and the column. -/
def Entrywise (g : Vec Ideal S1600x128 .f32 → Vec Ideal S1600x1 .f32 → FVec Ideal S1600x128 .f32) (G : EReal → EReal → Fin 128 → EReal) : Prop :=
  ∀ x y (k : Fin 1600) (d : Fin 128), (g x y (ix2 k d) : EReal) = G (x (ix2 k d)) (y (ix2 k 0)) d

/-- A column of weights broadcast over the lanes reads the row's weight. -/
theorem spread_apply (y : Vec Ideal S1600x1 .f32) (k : Fin 1600) (d : Fin 128) :
    broadcastTo S1600x128 y broadcasts_S1600x1_S1600x128 (ix2 k d) = y (ix2 k 0) := by
  refine broadcastTo_apply _ _ _ _ fun a => ?_
  fin_cases a
  · rfl
  · rfl

/-- Comparing a lane's number with a small constant. -/
theorem lane_cmp (d : Fin 128) (n : ℕ) (hn : n < 128) : IntOp.cmpi .eq (BitVec.ofNat 32 d.val) (BitVec.ofNat 32 n) = 1#1 ↔ d.val = n := by
  rw [StableHlo.Predicate.cmpi_eq_iff]
  constructor
  · intro h
    have := congrArg BitVec.toNat h
    simp only [BitVec.toNat_ofNat] at this
    omega
  · rintro rfl; rfl

theorem entry_gX : Entrywise gX fun a _ _ => a := fun _ _ _ _ => rfl
theorem entry_gXX : Entrywise gXX fun a _ _ => a * a := fun _ _ _ _ => rfl
theorem entry_gXY : Entrywise gXY fun a b _ => a * b := fun x y k d => by
  have e : (gXY x y (ix2 k d) : EReal) = (x (ix2 k d) : EReal) * broadcastTo S1600x128 y broadcasts_S1600x1_S1600x128 (ix2 k d) := rfl
  rw [e, spread_apply]
theorem entry_gY : Entrywise gY fun _ b d => (if d.val = 0 then b else 0) + if d.val = 1 then 1 else 0 := fun x y k d => by
  have e : (gY x y (ix2 k d) : EReal)
      = (if IntOp.cmpi .eq (iota .tc S1600x128 32 [1] iota_S1600x128_d1_w32 (ix2 k d)) 0#32 = 1#1
          then broadcastTo S1600x128 (shapeCast S1600x1 y shapeCasts_S1600x1_S1600x1) broadcasts_S1600x1_S1600x128 (ix2 k d)
          else (Ideal.ofBits .f32 0x00000000#32 : EReal))
        + (if IntOp.cmpi .eq (iota .tc S1600x128 32 [1] iota_S1600x128_d1_w32 (ix2 k d)) 1#32 = 1#1
          then (Ideal.ofBits .f32 0x3F800000#32 : EReal) else Ideal.ofBits .f32 0x00000000#32) := rfl
  rw [e, shapeCast_self, spread_apply, iota_single_apply, Ideal.ofBits_zero_f32, Ideal.ofBits_one_f32]
  exact congrArg₂ (· + ·) (if_congr (lane_cmp d 0 (by omega)) rfl rfl) (if_congr (lane_cmp d 1 (by omega)) rfl rfl)

/-- A point's chunk at offset `o`, at a row. -/
theorem chunkAt_apply (g : Vec Ideal S1600x128 .f32 → Vec Ideal S1600x1 .f32 → FVec Ideal S1600x128 .f32) (G : EReal → EReal → Fin 128 → EReal)
    (hg : Entrywise g G) (x1 : Vec Ideal S1x1x8000 .i32) (hx : ∀ j, (x1 j).toNat < 10000) (x2 : Vec Ideal S8000x128 .f32) (x3 : Vec Ideal S8000x1 .f32)
    (o : ℕ) (ho : o + 1600 ≤ 8000)
    (h1 : ∀ a, (![0, 0, o] : Fin 3 → ℕ) a + S1x1x1600.size a ≤ S1x1x8000.size a) (h2 : ∀ a, (![o, 0] : Fin 2 → ℕ) a + S1600x128.size a ≤ S8000x128.size a)
    (h3 : ∀ a, (![o, 0] : Fin 2 → ℕ) a + S1600x1.size a ≤ S8000x1.size a) (w : Vec Ideal S10048x128 .f32) (r : Fin 10048) (d : Fin 128) :
    (chunkAt g x1 hx x2 x3 ![0, 0, o] ![o, 0] ![o, 0] h1 h2 h3 w (ix2 r d) : EReal)
      = (w (ix2 r d) : EReal) + ∑ k : Fin 1600, if (x1 (ix3 0 0 ⟨o + k.val, by omega⟩)).toNat = r.val
          then G (x2 (ix2 ⟨o + k.val, by omega⟩ d)) (x3 (ix2 ⟨o + k.val, by omega⟩ 0)) d else 0 := by
  unfold chunkAt
  rw [chunkSt_apply (VecWindow.window x1 ![0, 0, o] S1x1x1600.size h1) (fun j => hx _)]
  unfold rowSum
  refine congrArg (_ + ·) (Finset.sum_congr rfl fun k _ => ?_)
  rw [hg]
  have e1 : VecWindow.window x1 ![0, 0, o] S1x1x1600.size h1 (ix3 0 0 k) = x1 (ix3 0 0 ⟨o + k.val, by omega⟩) :=
    congrArg x1 (funext fun a => Fin.ext (by
      rw [ValueKit.rect_emb_unit_val]
      fin_cases a
      · rfl
      · rfl
      · rfl))
  have e2 : VecWindow.window x2 ![o, 0] S1600x128.size h2 (ix2 k d) = x2 (ix2 ⟨o + k.val, by omega⟩ d) :=
    congrArg x2 (funext fun a => Fin.ext (by
      rw [ValueKit.rect_emb_unit_val]
      fin_cases a
      · rfl
      · exact Nat.zero_add _))
  have e3 : VecWindow.window x3 ![o, 0] S1600x1.size h3 (ix2 k 0) = x3 (ix2 ⟨o + k.val, by omega⟩ 0) :=
    congrArg x3 (funext fun a => Fin.ext (by
      rw [ValueKit.rect_emb_unit_val]
      fin_cases a
      · rfl
      · rfl))
  rw [e1, e2, e3]

/-- A sum over 8000 rows, chunk by chunk. -/
theorem sum_chunks (T : Fin 8000 → EReal) : ∑ j, T j = ∑ c : Fin 5, ∑ k : Fin 1600, T ⟨1600 * c.val + k.val, by omega⟩ := by
  rw [← (finProdFinEquiv (m := 5) (n := 1600)).sum_comp T, Fintype.sum_prod_type]
  refine Finset.sum_congr rfl fun c _ => Finset.sum_congr rfl fun k _ => congrArg T (Fin.ext ?_)
  show k.val + 1600 * c.val = 1600 * c.val + k.val
  omega

/-- A sum after a point's five chunks, at a row. -/
theorem restSt_apply (g : Vec Ideal S1600x128 .f32 → Vec Ideal S1600x1 .f32 → FVec Ideal S1600x128 .f32) (G : EReal → EReal → Fin 128 → EReal)
    (hg : Entrywise g G) (x1 : Vec Ideal S1x1x8000 .i32) (hx : ∀ j, (x1 j).toNat < 10000) (x2 : Vec Ideal S8000x128 .f32) (x3 : Vec Ideal S8000x1 .f32)
    (w : Vec Ideal S10048x128 .f32) (r : Fin 10048) (d : Fin 128) :
    (restSt g x1 hx x2 x3 w (ix2 r d) : EReal)
      = (w (ix2 r d) : EReal) + ∑ j : Fin 8000, if (x1 (ix3 0 0 j)).toNat = r.val then G (x2 (ix2 j d)) (x3 (ix2 j 0)) d else 0 := by
  unfold restSt
  rw [chunkAt_apply g G hg x1 hx x2 x3 6400 (by omega), chunkAt_apply g G hg x1 hx x2 x3 4800 (by omega),
    chunkAt_apply g G hg x1 hx x2 x3 3200 (by omega), chunkAt_apply g G hg x1 hx x2 x3 1600 (by omega), chunkAt_apply g G hg x1 hx x2 x3 0 (by omega),
    sum_chunks, Fin.sum_univ_five, add_assoc, add_assoc, add_assoc, add_assoc]
  simp only [← add_assoc]
  rfl

end Cert.KernelIdeal.Seg
end
-- ==== Proof.SegArr.lean ====
/-
  The segment-sum kernel's four arrays after all its points: row `r` of each is the sum, over the 320000 rows numbered
  `r`, of what the row contributes.
-/
module

public import proofs.«01_k».proof.Proof.SegValue

@[expose] public section

noncomputable section

namespace Cert.KernelIdeal.Seg

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : Bufs Ideal) (hV : InRange V) (c : Dev nD)

/-- The three arrays the kernel reads. -/
abbrev numArr : Vec Ideal S40x1x8000 .i32 := V c main_v0
abbrev rowArr : Vec Ideal S320000x128 .f32 := V c main_arg1
abbrev wtArr : Vec Ideal S320000x1 .f32 := V c main_arg2

theorem index_0 : ∀ t : Fin cfg0.N, win0_0.index t = ![t.val, 0, 0] := (by decide +kernel : ∀ t : Fin grid0.N, win0_0.index t = ![t.val, 0, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_6 : ∀ t : Fin cfg0.N, win0_6.index t = ![0, 0] := (by decide +kernel : ∀ t : Fin grid0.N, win0_6.index t = ![0, 0])

theorem lt_40 (t : Fin cfg0.N) : t.val < 40 := lt_of_lt_of_eq t.isLt N_0

/-- A point's segment numbers, rows and weights are the arrays' at 8000 times the point. -/
theorem nums_apply (t : Fin cfg0.N) (j : Fin 8000) : nums V c t (ix3 0 0 j) = numArr V c (ix3 ⟨t.val, lt_40 t⟩ 0 j) := by
  show numArr V c ((win0_0.blk t).view.emb (ix3 0 0 j)) = _
  refine congrArg (numArr V c) ?_
  blk_ext [index_0]
theorem rows_apply (t : Fin cfg0.N) (j : Fin 8000) (d : Fin 128) :
    rows V c t (ix2 j d) = rowArr V c (ix2 ⟨8000 * t.val + j.val, by have := lt_40 t; omega⟩ d) := by
  show rowArr V c ((win0_1.blk t).view.emb (ix2 j d)) = _
  refine congrArg (rowArr V c) ?_
  blk_ext [index_1]
  show t.val * 8000 + j.val = _
  omega
theorem wts_apply (t : Fin cfg0.N) (j : Fin 8000) :
    wts V c t (ix2 j 0) = wtArr V c (ix2 ⟨8000 * t.val + j.val, by have := lt_40 t; omega⟩ 0) := by
  show wtArr V c ((win0_2.blk t).view.emb (ix2 j 0)) = _
  refine congrArg (wtArr V c) ?_
  blk_ext [index_2]
  show t.val * 8000 + j.val = _
  omega

/-- What row `j` of 320000 contributes to row `r` of a sum. -/
def term (G : EReal → EReal → Fin 128 → EReal) (r : ℕ) (d : Fin 128) (t : ℕ) (j : Fin 8000) : EReal :=
  if h : t < 40 then
    if (numArr V c (ix3 ⟨t, h⟩ 0 j)).toNat = r then
      G (rowArr V c (ix2 ⟨8000 * t + j.val, by omega⟩ d)) (wtArr V c (ix2 ⟨8000 * t + j.val, by omega⟩ 0)) d
    else 0
  else 0

theorem not_first : ∀ t : Fin cfg0.N, t.val ≠ 0 → ¬ isFirst (grid0.coords t) = 1#1 :=
  (by decide +kernel : ∀ t : Fin grid0.N, t.val ≠ 0 → ¬ isFirst (grid0.coords t) = 1#1)

/-- A point from the sum so far is its five chunks. -/
theorem point_rest (t : Fin cfg0.N) (g : Vec Ideal S1600x128 .f32 → Vec Ideal S1600x1 .f32 → FVec Ideal S1600x128 .f32) :
    acc V hV c g (t.val + 1) = restSt g (nums V c t) (nums_lt V hV c t) (rows V c t) (wts V c t) (acc V hV c g t.val) := by
  rw [acc_succ]
  unfold pointSt
  by_cases h : t.val = 0
  · rw [if_pos (isFirst_zero t h), h]; rfl
  · rw [if_neg (not_first t h)]

/-- A sum after `n` points, at a row. -/
theorem acc_apply (g : Vec Ideal S1600x128 .f32 → Vec Ideal S1600x1 .f32 → FVec Ideal S1600x128 .f32) (G : EReal → EReal → Fin 128 → EReal)
    (hg : Entrywise g G) (r : Fin 10048) (d : Fin 128) : ∀ n, n ≤ 40 →
    (acc V hV c g n (ix2 r d) : EReal) = ∑ t ∈ Finset.range n, ∑ j, term V c G r.val d t j
  | 0, _ => by
    rw [Finset.range_zero, Finset.sum_empty]
    exact Ideal.ofBits_zero_f32
  | n + 1, hn => by
    have hn' : n < cfg0.N := lt_of_lt_of_eq hn N_0.symm
    rw [point_rest V hV c ⟨n, hn'⟩ g, restSt_apply g G hg, acc_apply g G hg r d n (by omega), Finset.sum_range_succ]
    refine congrArg (_ + ·) (Finset.sum_congr rfl fun j _ => ?_)
    rw [nums_apply, rows_apply, wts_apply]
    unfold term
    rw [dif_pos (by omega : n < 40)]

/-- The segment number of row `j` of 320000. -/
def numAt (j : Fin 320000) : ℕ := (numArr V c (ix3 ⟨j.val / 8000, by omega⟩ 0 ⟨j.val % 8000, by omega⟩)).toNat

/-- A whole sum at a row: over all the rows numbered `r`. -/
def segSum (G : EReal → EReal → Fin 128 → EReal) (r : ℕ) (d : Fin 128) : EReal :=
  ∑ j : Fin 320000, if numAt V c j = r then G (rowArr V c (ix2 j d)) (wtArr V c (ix2 j 0)) d else 0

theorem acc_last (g : Vec Ideal S1600x128 .f32 → Vec Ideal S1600x1 .f32 → FVec Ideal S1600x128 .f32) (G : EReal → EReal → Fin 128 → EReal)
    (hg : Entrywise g G) (r : Fin 10048) (d : Fin 128) : (acc V hV c g 40 (ix2 r d) : EReal) = segSum V c G r.val d := by
  rw [acc_apply V hV c g G hg r d 40 le_rfl, Finset.sum_range]
  unfold segSum
  rw [← (finProdFinEquiv (m := 40) (n := 8000)).sum_comp, Fintype.sum_prod_type]
  refine Finset.sum_congr rfl fun t _ => Finset.sum_congr rfl fun j _ => ?_
  have e : finProdFinEquiv (m := 40) (n := 8000) (t, j) = ⟨8000 * t.val + j.val, by omega⟩ := Fin.ext (Nat.add_comm _ _)
  rw [e]
  unfold term numAt
  rw [dif_pos t.isLt]
  have e1 : (⟨(8000 * t.val + j.val) / 8000, by omega⟩ : Fin 40) = t := Fin.ext (by simp only []; omega)
  have e2 : (⟨(8000 * t.val + j.val) % 8000, by omega⟩ : Fin 8000) = j := Fin.ext (by simp only []; omega)
  show _ = if (numArr V c (ix3 ⟨(8000 * t.val + j.val) / 8000, _⟩ 0 ⟨(8000 * t.val + j.val) % 8000, _⟩)).toNat = r.val then _ else _
  rw [e1, e2]

theorem flush_last (w : Fin cfg0.W) (hw : 3 ≤ w.val) (t : Fin cfg0.N) (h : (cfg0.win w).flush t = true) : t.val + 1 = 40 := by
  revert h
  obtain ⟨w, hw'⟩ := w
  have hw2 : w < 7 := hw'
  have : w = 3 ∨ w = 4 ∨ w = 5 ∨ w = 6 := by simp only [] at hw; omega
  rcases this with rfl | rfl | rfl | rfl
  · exact fun h => (by decide +kernel : ∀ t : Fin grid0.N, win0_3.flush t = true → t.val + 1 = 40) t h
  · exact fun h => (by decide +kernel : ∀ t : Fin grid0.N, win0_4.flush t = true → t.val + 1 = 40) t h
  · exact fun h => (by decide +kernel : ∀ t : Fin grid0.N, win0_5.flush t = true → t.val + 1 = 40) t h
  · exact fun h => (by decide +kernel : ∀ t : Fin grid0.N, win0_6.flush t = true → t.val + 1 = 40) t h

/-- The four arrays after the run. -/
theorem arr_3 : ((dat V hV c).arrAt 3 cfg0.N : Vec Ideal S10048x128 .f32) = acc V hV c gXY 40 := by
  refine (dat V hV c).arrAt_eq_of_covers 3 _ (by decide +kernel) fun t hf y => ?_
  blk_simp
  show acc V hV c gXY (t.val + 1) y = _
  rw [flush_last 3 le_rfl t hf]
  refine congrArg (acc V hV c gXY 40) ?_
  blk_ext [index_3]
theorem arr_4 : ((dat V hV c).arrAt 4 cfg0.N : Vec Ideal S10048x128 .f32) = acc V hV c gX 40 := by
  refine (dat V hV c).arrAt_eq_of_covers 4 _ (by decide +kernel) fun t hf y => ?_
  blk_simp
  show acc V hV c gX (t.val + 1) y = _
  rw [flush_last 4 (by decide) t hf]
  refine congrArg (acc V hV c gX 40) ?_
  blk_ext [index_4]
theorem arr_5 : ((dat V hV c).arrAt 5 cfg0.N : Vec Ideal S10048x128 .f32) = acc V hV c gXX 40 := by
  refine (dat V hV c).arrAt_eq_of_covers 5 _ (by decide +kernel) fun t hf y => ?_
  blk_simp
  show acc V hV c gXX (t.val + 1) y = _
  rw [flush_last 5 (by decide) t hf]
  refine congrArg (acc V hV c gXX 40) ?_
  blk_ext [index_5]
theorem arr_6 : ((dat V hV c).arrAt 6 cfg0.N : Vec Ideal S10048x128 .f32) = acc V hV c gY 40 := by
  refine (dat V hV c).arrAt_eq_of_covers 6 _ (by decide +kernel) fun t hf y => ?_
  blk_simp
  show acc V hV c gY (t.val + 1) y = _
  rw [flush_last 6 (by decide) t hf]
  refine congrArg (acc V hV c gY 40) ?_
  blk_ext [index_6]

end Cert.KernelIdeal.Seg
end
-- ==== Proof.Row.lean ====
/-
  One row of the computation, as functions of extended reals: what both programs compute of a segment once its sums are
  known. `c1`, `c128`, … are the programs' float constants.
-/
module

public import Idealize.ShloMosaic.PureOps.Ideal.Laws
public import Idealize.ShloMosaic.Lib.IdealHost

@[expose] public section

noncomputable section

namespace Cert.Row

open Idealize.ShloMosaic

/-- The constant one as both programs write it. -/
def c1 : EReal := Ideal.ofBits .f32 0x3F800000#32
/-- The width of a row, as both programs write it. -/
def c128 : EReal := Ideal.ofBits .f32 0x43000000#32
/-- One minus the smallest shape parameter, as both programs write it. -/
def cScale : EReal := Ideal.ofBits .f32 0x3F7FBE77#32
/-- The smallest shape parameter, as both programs write it. -/
def cEps : EReal := Ideal.ofBits .f32 0x3A83126F#32
/-- The start of a maximum, as both programs write it. -/
def cBot : EReal := Ideal.ofBits .f32 0xFF800000#32

/-- The reciprocal of a segment's variance, of its count of elements, their sum and the sum of their squares. -/
def invVar (cnt s q : EReal) : EReal :=
  Ideal.div c1 (Ideal.div (q - cnt * Ideal.div s (max cnt c1) * Ideal.div s (max cnt c1)) (max (cnt - c1) c1))

/-- A hidden unit of the perceptron on a row. -/
def hidden (rep : Fin 128 → EReal) (w1 : Fin 128 → Fin 256 → EReal) (b1 : Fin 256 → EReal) (h : Fin 256) : EReal :=
  Ideal.tanh ((∑ d, rep d * w1 d h) + b1 h)

/-- An output of the perceptron on a row. -/
def output (rep : Fin 128 → EReal) (w1 : Fin 128 → Fin 256 → EReal) (b1 : Fin 256 → EReal) (w2 : Fin 256 → Fin 18 → EReal)
    (b2 : Fin 18 → EReal) (o : Fin 18) : EReal :=
  (∑ h, hidden rep w1 b1 h * w2 h o) + b2 o

/-- The softplus of a value. -/
def soft (v : EReal) : EReal := max v 0 + Ideal.log1p (Ideal.exp (-(max v (-v))))

/-- A shape parameter of a value: its softplus, scaled and moved off zero. -/
def shapePar (v : EReal) : EReal := soft v * cScale + cEps

/-- A mixture weight of 16 values: its exponential's share, the values taken below their maximum. -/
def mixture (v : Fin 16 → EReal) (k : Fin 16) : EReal :=
  Ideal.div (Ideal.exp (v k - (Finset.univ : Finset (Fin 16)).fold max cBot v))
    (∑ l, Ideal.exp (v l - (Finset.univ : Finset (Fin 16)).fold max cBot v))

/-- The sum, over the rows numbered `r`, of what each contributes. -/
def over {n : ℕ} (num : Fin n → ℕ) (r : ℕ) (f : Fin n → EReal) : EReal := ∑ j, if num j = r then f j else 0

/-- Only the rows numbered `r` matter. -/
theorem over_congr {n : ℕ} {num : Fin n → ℕ} {r : ℕ} {f g : Fin n → EReal} (h : ∀ j, num j = r → f j = g j) : over num r f = over num r g := by
  unfold over
  refine Finset.sum_congr rfl fun j _ => ?_
  by_cases e : num j = r
  · rw [if_pos e, if_pos e, h j e]
  · rw [if_neg e, if_neg e]

/-- The kernel's product sum of a row, about the anchor. -/
def kRep (sxy sx : EReal) (sy n ax ay : EReal) : EReal := sxy - ay * sx - sy * ax + n * (ax * ay)
/-- The kernel's sum of a row, about the anchor. -/
def kSum (sx ax : Fin 128 → EReal) (n : EReal) : EReal := (∑ d, sx d) - n * ∑ d, ax d
/-- The kernel's sum of squares of a row, about the anchor. -/
def kSq (sx sq ax : Fin 128 → EReal) (n : EReal) : EReal :=
  (∑ d, sq d) - Ideal.ofBits .f32 0x40000000#32 * (∑ d, ax d * sx d) + n * ∑ d, ax d * ax d

end Cert.Row
end
-- ==== Proof.HeadValue.lean ====
/-
  The head kernel's block results at the extended reals, row by row: each row of a result is the row function
  (`Row.lean`) of the row's sums and anchors.
-/
module

public import proofs.«01_k».proof.Proof.Row
public import proofs.«01_k».proof.Proof.HeadData
public import proofs.«01_k».proof.Proof.SegValue

@[expose] public section

noncomputable section

namespace Cert.KernelIdeal.Head

open Cert.KernelIdeal Cert.KernelIdeal.Gen
open Idealize.ShloMosaic Idealize.ShloMosaic.TcCoe Idealize.ShloMosaic.ValueIdx

/-- A column taken out of a block. -/
theorem column_apply {n : ℕ} (k : ℕ) (hk : k < n) (v : (⟨2, ![1000, n]⟩ : Shape).Idx → EReal)
    (h : (⟨2, ![1000, n]⟩ : Shape).Slices ![0, k] S1000x1) (i : Fin 1000) :
    extractStridedSlice S1000x1 ![0, k] v h (ix2 i 0) = v (ix2 i ⟨k, hk⟩) :=
  extractStridedSlice_apply _ _ _ _ _ fun a => by
    fin_cases a
    · exact (Nat.zero_add _).symm
    · rfl

/-- A column broadcast over the lanes. -/
theorem spread_apply {n : ℕ} (y : S1000x1.Idx → EReal) (h : S1000x1.Broadcasts (⟨2, ![1000, n]⟩ : Shape)) (i : Fin 1000) (d : Fin n) :
    broadcastTo (⟨2, ![1000, n]⟩ : Shape) y h (ix2 i d) = y (ix2 i 0) :=
  broadcastTo_apply _ _ _ _ fun a => by
    fin_cases a
    · rfl
    · rfl

theorem lift_row {n : ℕ} (h : (⟨2, ![1000, n]⟩ : Shape).Reduces [1] S1000) (i : Fin 1000) (k : Fin n) : h.lift (ix1 i) k = ix2 i k := by
  funext c; apply Fin.ext
  fin_cases c <;> rfl

/-- A block's row sums, as a column. -/
def sums128 (v : FVec Ideal S1000x128 .f32) : FVec Ideal S1000x1 .f32 :=
  shapeCast S1000x1 (multiReduction .add [1] S1000 v 0x00000000#32 reduces_S1000x128_S1000 (.inl rfl) rfl) shapeCasts_S1000_S1000x1
theorem sums128_apply (v : FVec Ideal S1000x128 .f32) (i : Fin 1000) : (sums128 v (ix2 i 0) : EReal) = ∑ d : Fin 128, (v (ix2 i d) : EReal) := by
  unfold sums128
  rw [shapeCast_a_a1_apply]
  refine (Ideal.multiReduction_add_single _ _ _ _ _ _).trans ?_
  exact Finset.sum_congr rfl fun k _ => congrArg v (lift_row reduces_S1000x128_S1000 i k)

/-- The row sums of a block of 16 columns, as a column. -/
def sums16 (v : FVec Ideal S1000x16 .f32) : FVec Ideal S1000x1 .f32 :=
  shapeCast S1000x1 (multiReduction .add [1] S1000 v 0x00000000#32 reduces_S1000x16_S1000 (.inl rfl) rfl) shapeCasts_S1000_S1000x1
theorem sums16_apply (v : FVec Ideal S1000x16 .f32) (i : Fin 1000) : (sums16 v (ix2 i 0) : EReal) = ∑ d : Fin 16, (v (ix2 i d) : EReal) := by
  unfold sums16
  rw [shapeCast_a_a1_apply]
  refine (Ideal.multiReduction_add_single _ _ _ _ _ _).trans ?_
  exact Finset.sum_congr rfl fun k _ => congrArg v (lift_row reduces_S1000x16_S1000 i k)

/-- The row maxima of a block of 16 columns, as a column. -/
def maxs16 (v : FVec Ideal S1000x16 .f32) : FVec Ideal S1000x1 .f32 :=
  shapeCast S1000x1 (multiReduction .maximumf [1] S1000 v 0xFF800000#32 reduces_S1000x16_S1000 (.inl rfl) rfl) shapeCasts_S1000_S1000x1
theorem maxs16_apply (v : FVec Ideal S1000x16 .f32) (i : Fin 1000) :
    (maxs16 v (ix2 i 0) : EReal) = (Finset.univ : Finset (Fin 16)).fold max Row.cBot fun d => (v (ix2 i d) : EReal) := by
  unfold maxs16
  rw [shapeCast_a_a1_apply]
  refine (Ideal.multiReduction_maximumf_single _ _ _ _ _ _).trans ?_
  exact congrArg (fun f => (Finset.univ : Finset (Fin 16)).fold max Row.cBot f) (funext fun k => congrArg v (lift_row reduces_S1000x16_S1000 i k))

variable (x0 x1 x2 x3 x4 : Vec Ideal S1000x128 .f32) (x5 : Vec Ideal S1000x1 .f32)
  (x6 : Vec Ideal S128x256 .f32) (x7 : Vec Ideal S1x256 .f32) (x8 : Vec Ideal S256x18 .f32) (x9 : Vec Ideal S1x18 .f32)

theorem pay7_apply (i : Fin 1000) : (k1_pay7 x3 (ix2 i 0) : EReal) = x3 (ix2 i 1) := by
  unfold k1_pay7 k1_pay6
  rw [column_apply 1 (by decide), shapeCast_self]
  rfl

theorem pay8_apply (i : Fin 1000) (d : Fin 128) : (k1_pay8 x0 x1 x3 x4 x5 (ix2 i d) : EReal)
    = Row.kRep (x0 (ix2 i d)) (x1 (ix2 i d)) (x3 (ix2 i 0)) (x3 (ix2 i 1)) (x4 (ix2 i d)) (x5 (ix2 i 0)) := by
  have e : (k1_pay8 x0 x1 x3 x4 x5 (ix2 i d) : EReal)
      = ((shapeCast S1000x128 x0 shapeCasts_S1000x128_S1000x128 (ix2 i d) : EReal)
          - (broadcastTo S1000x128 x5 broadcasts_S1000x1_S1000x128 (ix2 i d) : EReal) * (shapeCast S1000x128 x1 shapeCasts_S1000x128_S1000x128 (ix2 i d) : EReal)
          - (broadcastTo S1000x128 (extractStridedSlice S1000x1 ![0, 0] (shapeCast S1000x128 x3 shapeCasts_S1000x128_S1000x128) slices_S1000x128_o0_0_S1000x1) broadcasts_S1000x1_S1000x128 (ix2 i d) : EReal) * (x4 (ix2 i d) : EReal))
        + (broadcastTo S1000x128 (k1_pay7 x3) broadcasts_S1000x1_S1000x128 (ix2 i d) : EReal)
          * ((x4 (ix2 i d) : EReal) * (broadcastTo S1000x128 x5 broadcasts_S1000x1_S1000x128 (ix2 i d) : EReal)) := rfl
  rw [e, spread_apply, spread_apply, spread_apply, column_apply 0 (by decide), shapeCast_self, shapeCast_self, shapeCast_self, pay7_apply]
  rfl

theorem pay9_apply (i : Fin 1000) : (k1_pay9 x3 (ix2 i 0) : EReal) = (x3 (ix2 i 1) : EReal) * Row.c128 := by
  have e : (k1_pay9 x3 (ix2 i 0) : EReal) = (k1_pay7 x3 (ix2 i 0) : EReal) * Row.c128 := rfl
  rw [e, pay7_apply]

theorem pay10_apply (i : Fin 1000) : (k1_pay10 x1 x3 x4 (ix2 i 0) : EReal)
    = Row.kSum (fun d => x1 (ix2 i d)) (fun d => x4 (ix2 i d)) (x3 (ix2 i 1)) := by
  have e : (k1_pay10 x1 x3 x4 (ix2 i 0) : EReal)
      = (sums128 (shapeCast S1000x128 x1 shapeCasts_S1000x128_S1000x128 : FVec Ideal S1000x128 .f32) (ix2 i 0) : EReal)
        - (k1_pay7 x3 (ix2 i 0) : EReal)
          * (sums128 (x4 : FVec Ideal S1000x128 .f32) (ix2 i 0) : EReal) := rfl
  rw [e, sums128_apply, sums128_apply, pay7_apply, shapeCast_self]
  rfl

theorem pay11_apply (i : Fin 1000) : (k1_pay11 x1 x2 x4 (ix2 i 0) : EReal)
    = (∑ d, (x2 (ix2 i d) : EReal)) - Ideal.ofBits .f32 0x40000000#32 * ∑ d, (x4 (ix2 i d) : EReal) * x1 (ix2 i d) := by
  have e : (k1_pay11 x1 x2 x4 (ix2 i 0) : EReal)
      = (sums128 (shapeCast S1000x128 x2 shapeCasts_S1000x128_S1000x128 : FVec Ideal S1000x128 .f32) (ix2 i 0) : EReal)
        - Ideal.ofBits .f32 0x40000000#32
          * (sums128 (mulf x4 (shapeCast S1000x128 x1 shapeCasts_S1000x128_S1000x128) : FVec Ideal S1000x128 .f32) (ix2 i 0) : EReal) := rfl
  rw [e, sums128_apply, sums128_apply, shapeCast_self, shapeCast_self]
  rfl

theorem pay13_apply (v11 : FVec Ideal S1000x1 .f32) (v24 : FVec Ideal S1000x128 .f32) (v26 v32 v38 : FVec Ideal S1000x1 .f32) (v39 : FVec Ideal S1000x128 .f32)
    (i : Fin 1000) (d : Fin 128) : (k1_pay13 v11 v24 v26 v32 v38 v39 (ix2 i d) : EReal)
    = Row.invVar (v26 (ix2 i 0)) (v32 (ix2 i 0)) ((v38 (ix2 i 0) : EReal) + (v11 (ix2 i 0) : EReal) * ∑ d, (v39 (ix2 i d) : EReal)) * (v24 (ix2 i d) : EReal) := by
  have e : (k1_pay13 v11 v24 v26 v32 v38 v39 (ix2 i d) : EReal)
      = broadcastTo S1000x128 (fun j => Row.invVar (v26 j) (v32 j) ((v38 j : EReal) + (v11 j : EReal)
          * (sums128 v39 j : EReal)))
        broadcasts_S1000x1_S1000x128 (ix2 i d) * (v24 (ix2 i d) : EReal) := rfl
  rw [e, spread_apply, sums128_apply]

/-- The row function of the block's rows: a segment's representation. -/
def repRow (i : Fin 1000) (d : Fin 128) : EReal :=
  Row.invVar ((x3 (ix2 i 1) : EReal) * Row.c128) (Row.kSum (fun d => x1 (ix2 i d)) (fun d => x4 (ix2 i d)) (x3 (ix2 i 1)))
      (Row.kSq (fun d => x1 (ix2 i d)) (fun d => x2 (ix2 i d)) (fun d => x4 (ix2 i d)) (x3 (ix2 i 1)))
    * Row.kRep (x0 (ix2 i d)) (x1 (ix2 i d)) (x3 (ix2 i 0)) (x3 (ix2 i 1)) (x4 (ix2 i d)) (x5 (ix2 i 0))

theorem repOut_apply (i : Fin 1000) (d : Fin 128) : (repOut x0 x1 x2 x3 x4 x5 (ix2 i d) : EReal) = repRow x0 x1 x2 x3 x4 x5 i d := by
  unfold repOut
  rw [pay13_apply, pay7_apply, pay8_apply, pay9_apply, pay10_apply, pay11_apply]
  rfl

/-- The perceptron's outputs on the block's rows. -/
def rawRow (i : Fin 1000) (o : Fin 18) : EReal :=
  Row.output (repRow x0 x1 x2 x3 x4 x5 i) (fun d h => x6 (ix2 d h)) (fun h => x7 (ix2 0 h)) (fun h o => x8 (ix2 h o)) (fun o => x9 (ix2 0 o)) o

theorem product256 (l : FVec Ideal S1000x128 .f32) (r : FVec Ideal S128x256 .f32) (i : Fin 1000) (h : Fin 256) :
    (matmul dot_S1000x128_S128x256_S1000x256_1_0_0_1_n_n none l r (constant S1000x256 .f32 0x00000000#32) (ix2 i h) : EReal)
      = ∑ d : Fin 128, (l (ix2 i d) : EReal) * r (ix2 d h) := by
  have e := Seg.plain_matmul (prec := none) dot_S1000x128_S128x256_S1000x256_1_0_0_1_n_n rfl rfl
    (fun i j q => by funext a; fin_cases a <;> rfl) (fun i j q => by funext a; fin_cases a <;> rfl)
    l r (constant S1000x256 .f32 0x00000000#32) i h
  rw [e, show ((constant S1000x256 .f32 0x00000000#32 : FVec Ideal S1000x256 .f32) (ix2 i h) : EReal) = 0 from Ideal.ofBits_zero_f32, zero_add]

theorem product18 (l : FVec Ideal S1000x256 .f32) (r : FVec Ideal S256x18 .f32) (i : Fin 1000) (o : Fin 18) :
    (matmul dot_S1000x256_S256x18_S1000x18_1_0_0_1_n_n none l r (constant S1000x18 .f32 0x00000000#32) (ix2 i o) : EReal)
      = ∑ h : Fin 256, (l (ix2 i h) : EReal) * r (ix2 h o) := by
  have e := Seg.plain_matmul (prec := none) dot_S1000x256_S256x18_S1000x18_1_0_0_1_n_n rfl rfl
    (fun i j q => by funext a; fin_cases a <;> rfl) (fun i j q => by funext a; fin_cases a <;> rfl)
    l r (constant S1000x18 .f32 0x00000000#32) i o
  rw [e, show ((constant S1000x18 .f32 0x00000000#32 : FVec Ideal S1000x18 .f32) (ix2 i o) : EReal) = 0 from Ideal.ofBits_zero_f32, zero_add]

/-- The hidden layer of a block. -/
def hid (rep : FVec Ideal S1000x128 .f32) : FVec Ideal S1000x256 .f32 :=
  tanh (addf (matmul (φ₁ := .f32) (φ₂ := .f32) dot_S1000x128_S128x256_S1000x256_1_0_0_1_n_n none rep (x6 : FVec Ideal S128x256 .f32) (constant S1000x256 .f32 0x00000000#32))
    (broadcastTo S1000x256 (shapeCast S1x256 x7 shapeCasts_S1x256_S1x256) broadcasts_S1x256_S1000x256))

theorem hid_apply (rep : FVec Ideal S1000x128 .f32) (i : Fin 1000) (h : Fin 256) :
    (hid x6 x7 rep (ix2 i h) : EReal) = Row.hidden (fun d => rep (ix2 i d)) (fun d h => x6 (ix2 d h)) (fun h => x7 (ix2 0 h)) h := by
  have e : (hid x6 x7 rep (ix2 i h) : EReal)
      = Ideal.tanh ((matmul (φ₁ := .f32) (φ₂ := .f32) dot_S1000x128_S128x256_S1000x256_1_0_0_1_n_n none rep (x6 : FVec Ideal S128x256 .f32) (constant S1000x256 .f32 0x00000000#32) (ix2 i h) : EReal)
        + (broadcastTo S1000x256 (shapeCast S1x256 x7 shapeCasts_S1x256_S1x256) broadcasts_S1x256_S1000x256 (ix2 i h) : EReal)) := rfl
  rw [e, product256, broadcastTo_1b_ab_apply, shapeCast_self]
  rfl

theorem rawOut_apply (i : Fin 1000) (o : Fin 18) : (rawOut x0 x1 x2 x3 x4 x5 x6 x7 x8 x9 (ix2 i o) : EReal) = rawRow x0 x1 x2 x3 x4 x5 x6 x7 x8 x9 i o := by
  have e : (rawOut x0 x1 x2 x3 x4 x5 x6 x7 x8 x9 (ix2 i o) : EReal)
      = (matmul (φ₁ := .f32) (φ₂ := .f32) dot_S1000x256_S256x18_S1000x18_1_0_0_1_n_n none (hid x6 x7 (repOut x0 x1 x2 x3 x4 x5)) (x8 : FVec Ideal S256x18 .f32)
          (constant S1000x18 .f32 0x00000000#32) (ix2 i o) : EReal)
        + (broadcastTo S1000x18 (shapeCast S1x18 x9 shapeCasts_S1x18_S1x18) broadcasts_S1x18_S1000x18 (ix2 i o) : EReal) := rfl
  rw [e, product18, broadcastTo_1b_ab_apply, shapeCast_self]
  unfold rawRow Row.output
  refine congrArg (fun s : EReal => s + (x9 (ix2 0 o) : EReal)) (Finset.sum_congr rfl fun h _ => ?_)
  rw [hid_apply]
  exact congrArg (fun r => Row.hidden r (fun d h => x6 (ix2 d h)) (fun h => x7 (ix2 0 h)) h * (x8 (ix2 h o) : EReal))
    (funext fun d => repOut_apply x0 x1 x2 x3 x4 x5 i d)

/-- A shape parameter as the kernel writes it. -/
def kPar (v : EReal) : EReal :=
  (max v (Ideal.ofBits .f32 0x00000000#32) + Ideal.log1p (Ideal.exp (Ideal.ofBits .f32 0x00000000#32 - max v (-v)))) * Row.cScale + Row.cEps
theorem kPar_eq (v : EReal) : kPar v = Row.shapePar v := by
  unfold kPar
  rw [Ideal.ofBits_zero_f32, zero_sub]; rfl

theorem alphaOut_apply (i : Fin 1000) : (alphaOut x0 x1 x2 x3 x4 x5 x6 x7 x8 x9 (ix2 i 0) : EReal)
    = Row.shapePar (rawRow x0 x1 x2 x3 x4 x5 x6 x7 x8 x9 i 0) := by
  have e : (alphaOut x0 x1 x2 x3 x4 x5 x6 x7 x8 x9 (ix2 i 0) : EReal)
      = kPar
        (extractStridedSlice S1000x1 ![0, 0] (rawOut x0 x1 x2 x3 x4 x5 x6 x7 x8 x9) slices_S1000x18_o0_0_S1000x1 (ix2 i 0)) := rfl
  rw [e, column_apply 0 (by decide), kPar_eq]
  exact congrArg Row.shapePar (rawOut_apply x0 x1 x2 x3 x4 x5 x6 x7 x8 x9 i 0)

theorem betaOut_apply (i : Fin 1000) : (betaOut x0 x1 x2 x3 x4 x5 x6 x7 x8 x9 (ix2 i 0) : EReal)
    = Row.shapePar (rawRow x0 x1 x2 x3 x4 x5 x6 x7 x8 x9 i 1) := by
  have e : (betaOut x0 x1 x2 x3 x4 x5 x6 x7 x8 x9 (ix2 i 0) : EReal)
      = kPar
        (extractStridedSlice S1000x1 ![0, 1] (rawOut x0 x1 x2 x3 x4 x5 x6 x7 x8 x9) slices_S1000x18_o0_1_S1000x1 (ix2 i 0)) := rfl
  rw [e, column_apply 1 (by decide), kPar_eq]
  exact congrArg Row.shapePar (rawOut_apply x0 x1 x2 x3 x4 x5 x6 x7 x8 x9 i 1)

theorem sigOut_apply (i : Fin 1000) : (sigOut x0 x1 x2 x3 x4 x5 x6 x7 x8 x9 (ix2 i 0) : EReal)
    = Ideal.sqrt (Ideal.div (Row.shapePar (rawRow x0 x1 x2 x3 x4 x5 x6 x7 x8 x9 i 1)) (Row.shapePar (rawRow x0 x1 x2 x3 x4 x5 x6 x7 x8 x9 i 0))) := by
  have e : (sigOut x0 x1 x2 x3 x4 x5 x6 x7 x8 x9 (ix2 i 0) : EReal)
      = Ideal.sqrt (Ideal.div (betaOut x0 x1 x2 x3 x4 x5 x6 x7 x8 x9 (ix2 i 0)) (alphaOut x0 x1 x2 x3 x4 x5 x6 x7 x8 x9 (ix2 i 0))) := rfl
  rw [e, betaOut_apply, alphaOut_apply]

/-- The columns of the mixture. -/
def mixCols (v : FVec Ideal S1000x18 .f32) : FVec Ideal S1000x16 .f32 := extractStridedSlice S1000x16 ![0, 2] v slices_S1000x18_o0_2_S1000x16
theorem mixCols_apply (v : FVec Ideal S1000x18 .f32) (i : Fin 1000) (k : Fin 16) : (mixCols v (ix2 i k) : EReal) = v (ix2 i ⟨k.val + 2, by omega⟩) :=
  extractStridedSlice_apply _ _ _ _ _ fun a => by
    fin_cases a
    · exact (Nat.zero_add _).symm
    · exact Nat.add_comm _ _

/-- The exponentials of the mixture, the columns taken below their maximum. -/
def mixExp (m : FVec Ideal S1000x16 .f32) : FVec Ideal S1000x16 .f32 := exp (subf m (broadcastTo S1000x16 (maxs16 m) broadcasts_S1000x1_S1000x16))
theorem mixExp_apply (m : FVec Ideal S1000x16 .f32) (i : Fin 1000) (k : Fin 16) : (mixExp m (ix2 i k) : EReal)
    = Ideal.exp ((m (ix2 i k) : EReal) - (Finset.univ : Finset (Fin 16)).fold max Row.cBot fun d => (m (ix2 i d) : EReal)) := by
  have e : (mixExp m (ix2 i k) : EReal) = Ideal.exp ((m (ix2 i k) : EReal) - (broadcastTo S1000x16 (maxs16 m) broadcasts_S1000x1_S1000x16 (ix2 i k) : EReal)) := rfl
  rw [e, spread_apply, maxs16_apply]

theorem mixOut_apply (i : Fin 1000) (k : Fin 16) : (mixOut x0 x1 x2 x3 x4 x5 x6 x7 x8 x9 (ix2 i k) : EReal)
    = Row.mixture (fun k => rawRow x0 x1 x2 x3 x4 x5 x6 x7 x8 x9 i ⟨k.val + 2, by omega⟩) k := by
  have e : (mixOut x0 x1 x2 x3 x4 x5 x6 x7 x8 x9 (ix2 i k) : EReal)
      = Ideal.div (mixExp (mixCols (rawOut x0 x1 x2 x3 x4 x5 x6 x7 x8 x9)) (ix2 i k))
        (broadcastTo S1000x16 (sums16 (mixExp (mixCols (rawOut x0 x1 x2 x3 x4 x5 x6 x7 x8 x9)))) broadcasts_S1000x1_S1000x16 (ix2 i k)) := rfl
  rw [e, spread_apply, sums16_apply]
  simp only [mixExp_apply, mixCols_apply, rawOut_apply]
  rfl

end Cert.KernelIdeal.Head
end
-- ==== Proof.HeadArr.lean ====
/-
  The head kernel's results as whole arrays at the extended reals: row `r` of each is the row function of rows `r` of the
  arrays the kernel reads.
-/
module

public import proofs.«01_k».proof.Proof.HeadValue

@[expose] public section

noncomputable section

namespace Cert.KernelIdeal.Head

open Cert.KernelIdeal Cert.KernelIdeal.Gen
open Cert.KernelIdeal.Seg (Bufs)
open Idealize.ShloMosaic Idealize.ShloMosaic.TcCoe Idealize.ShloMosaic.ValueIdx
open Idealize.SL Idealize.SL.Sem
open Idealize.ShloMosaic.Pipeline (Dat Cfg Window)

variable (V : Bufs Ideal) (c : Dev nD)

theorem index_0 : ∀ t : Fin cfg1.N, win1_0.index t = ![t.val, 0] := (by decide +kernel : ∀ t : Fin grid1.N, win1_0.index t = ![t.val, 0])
theorem index_1 : ∀ t : Fin cfg1.N, win1_1.index t = ![t.val, 0] := (by decide +kernel : ∀ t : Fin grid1.N, win1_1.index t = ![t.val, 0])
theorem index_2 : ∀ t : Fin cfg1.N, win1_2.index t = ![t.val, 0] := (by decide +kernel : ∀ t : Fin grid1.N, win1_2.index t = ![t.val, 0])
theorem index_3 : ∀ t : Fin cfg1.N, win1_3.index t = ![t.val, 0] := (by decide +kernel : ∀ t : Fin grid1.N, win1_3.index t = ![t.val, 0])
theorem index_4 : ∀ t : Fin cfg1.N, win1_4.index t = ![t.val, 0] := (by decide +kernel : ∀ t : Fin grid1.N, win1_4.index t = ![t.val, 0])
theorem index_5 : ∀ t : Fin cfg1.N, win1_5.index t = ![t.val, 0] := (by decide +kernel : ∀ t : Fin grid1.N, win1_5.index t = ![t.val, 0])
theorem index_6 : ∀ t : Fin cfg1.N, win1_6.index t = ![0, 0] := (by decide +kernel : ∀ t : Fin grid1.N, win1_6.index t = ![0, 0])
theorem index_7 : ∀ t : Fin cfg1.N, win1_7.index t = ![0, 0] := (by decide +kernel : ∀ t : Fin grid1.N, win1_7.index t = ![0, 0])
theorem index_8 : ∀ t : Fin cfg1.N, win1_8.index t = ![0, 0] := (by decide +kernel : ∀ t : Fin grid1.N, win1_8.index t = ![0, 0])
theorem index_9 : ∀ t : Fin cfg1.N, win1_9.index t = ![0, 0] := (by decide +kernel : ∀ t : Fin grid1.N, win1_9.index t = ![0, 0])
theorem index_10 : ∀ t : Fin cfg1.N, win1_10.index t = ![t.val, 0] := (by decide +kernel : ∀ t : Fin grid1.N, win1_10.index t = ![t.val, 0])
theorem index_11 : ∀ t : Fin cfg1.N, win1_11.index t = ![t.val, 0] := (by decide +kernel : ∀ t : Fin grid1.N, win1_11.index t = ![t.val, 0])
theorem index_12 : ∀ t : Fin cfg1.N, win1_12.index t = ![t.val, 0] := (by decide +kernel : ∀ t : Fin grid1.N, win1_12.index t = ![t.val, 0])
theorem index_13 : ∀ t : Fin cfg1.N, win1_13.index t = ![t.val, 0] := (by decide +kernel : ∀ t : Fin grid1.N, win1_13.index t = ![t.val, 0])
theorem index_14 : ∀ t : Fin cfg1.N, win1_14.index t = ![t.val, 0] := (by decide +kernel : ∀ t : Fin grid1.N, win1_14.index t = ![t.val, 0])

/-- The array of product sums. -/
abbrev prodArr : Vec Ideal S10048x128 .f32 := V c main_v1_0
/-- The array of sums. -/
abbrev sumArr : Vec Ideal S10048x128 .f32 := V c main_v1_1
/-- The array of sums of squares. -/
abbrev sqArr : Vec Ideal S10048x128 .f32 := V c main_v1_2
/-- The array of targets' sums and of counts. -/
abbrev cntArr : Vec Ideal S10048x128 .f32 := V c main_v1_3
/-- The anchors' rows. -/
abbrev ancArr : Vec Ideal S10000x128 .f32 := V c main_arg3
/-- The anchors' targets. -/
abbrev tgtArr : Vec Ideal S10000x1 .f32 := V c main_arg4
/-- The first matrix. -/
abbrev w1Arr : Vec Ideal S128x256 .f32 := V c main_arg5
/-- The first offsets. -/
abbrev b1Arr : Vec Ideal S1x256 .f32 := V c main_v2
/-- The second matrix. -/
abbrev w2Arr : Vec Ideal S256x18 .f32 := V c main_arg7
/-- The second offsets. -/
abbrev b2Arr : Vec Ideal S1x18 .f32 := V c main_v3

theorem pt_lt (t : Fin cfg1.N) : t.val < 10 := lt_of_lt_of_eq t.isLt N_1
/-- The whole array's row that point `t` stages as row `i`. -/
def row (t : Fin cfg1.N) (i : Fin 1000) : Fin 10000 := ⟨t.val * 1000 + i.val, by have := pt_lt t; omega⟩
/-- A segment's row among the padded sums' rows. -/
def pad (r : Fin 10000) : Fin 10048 := ⟨r.val, by omega⟩

theorem moved_of (w : Fin cfg1.W) (t : Fin cfg1.N) (h : ∀ a, (cfg1.win w).clip (cfg1.grid.coords t) a = none) (j : (cfg1.win w).block.Idx) :
    (cfg1.win w).moved (cfg1.grid.coords t) j = true :=
  ((cfg1.win w).moved_iff _ j).mpr fun a => by have := (j a).isLt; unfold Window.xsize; rw [h a]; exact this

theorem inp0_apply (t : Fin cfg1.N) (i : Fin 1000) (d : Fin 128) : inp0 V c t (ix2 i d) = prodArr V c (ix2 (pad (row t i)) d) := by
  refine (dif_pos (moved_of 0 t (uncut_0 t) (ix2 i d))).trans (congrArg (V c main_v1_0) ?_)
  blk_ext [index_0]
  rfl
theorem inp1_apply (t : Fin cfg1.N) (i : Fin 1000) (d : Fin 128) : inp1 V c t (ix2 i d) = sumArr V c (ix2 (pad (row t i)) d) := by
  refine (dif_pos (moved_of 1 t (uncut_1 t) (ix2 i d))).trans (congrArg (V c main_v1_1) ?_)
  blk_ext [index_1]
  rfl
theorem inp2_apply (t : Fin cfg1.N) (i : Fin 1000) (d : Fin 128) : inp2 V c t (ix2 i d) = sqArr V c (ix2 (pad (row t i)) d) := by
  refine (dif_pos (moved_of 2 t (uncut_2 t) (ix2 i d))).trans (congrArg (V c main_v1_2) ?_)
  blk_ext [index_2]
  rfl
theorem inp3_apply (t : Fin cfg1.N) (i : Fin 1000) (d : Fin 128) : inp3 V c t (ix2 i d) = cntArr V c (ix2 (pad (row t i)) d) := by
  refine (dif_pos (moved_of 3 t (uncut_3 t) (ix2 i d))).trans (congrArg (V c main_v1_3) ?_)
  blk_ext [index_3]
  rfl
theorem inp4_apply (t : Fin cfg1.N) (i : Fin 1000) (d : Fin 128) : inp4 V c t (ix2 i d) = ancArr V c (ix2 (row t i) d) := by
  show V c main_arg3 ((win1_4.blk t).view.emb (ix2 i d)) = _
  refine congrArg (V c main_arg3) ?_
  blk_ext [index_4]
  rfl
theorem inp5_apply (t : Fin cfg1.N) (i : Fin 1000) (d : Fin 1) : inp5 V c t (ix2 i d) = tgtArr V c (ix2 (row t i) d) := by
  show V c main_arg4 ((win1_5.blk t).view.emb (ix2 i d)) = _
  refine congrArg (V c main_arg4) ?_
  blk_ext [index_5]
  rfl
theorem inp6_apply (i : Fin 128) (d : Fin 256) : inp6 V c (ix2 i d) = w1Arr V c (ix2 i d) := by
  show V c main_arg5 ((win1_6.blk t1_0).view.emb (ix2 i d)) = _
  refine congrArg (V c main_arg5) ?_
  blk_ext [index_6]
theorem inp7_apply (i : Fin 1) (d : Fin 256) : inp7 V c (ix2 i d) = b1Arr V c (ix2 i d) := by
  show V c main_v2 ((win1_7.blk t1_0).view.emb (ix2 i d)) = _
  refine congrArg (V c main_v2) ?_
  blk_ext [index_7]
theorem inp8_apply (i : Fin 256) (d : Fin 18) : inp8 V c (ix2 i d) = w2Arr V c (ix2 i d) := by
  show V c main_arg7 ((win1_8.blk t1_0).view.emb (ix2 i d)) = _
  refine congrArg (V c main_arg7) ?_
  blk_ext [index_8]
theorem inp9_apply (i : Fin 1) (d : Fin 18) : inp9 V c (ix2 i d) = b2Arr V c (ix2 i d) := by
  show V c main_v3 ((win1_9.blk t1_0).view.emb (ix2 i d)) = _
  refine congrArg (V c main_v3) ?_
  blk_ext [index_9]

/-- The representation of segment `r`, of the arrays the kernel reads. -/
def rep (r : Fin 10000) (d : Fin 128) : EReal :=
  Row.invVar ((cntArr V c (ix2 (pad r) 1) : EReal) * Row.c128)
      (Row.kSum (fun d => sumArr V c (ix2 (pad r) d)) (fun d => ancArr V c (ix2 r d)) (cntArr V c (ix2 (pad r) 1)))
      (Row.kSq (fun d => sumArr V c (ix2 (pad r) d)) (fun d => sqArr V c (ix2 (pad r) d)) (fun d => ancArr V c (ix2 r d)) (cntArr V c (ix2 (pad r) 1)))
    * Row.kRep (prodArr V c (ix2 (pad r) d)) (sumArr V c (ix2 (pad r) d)) (cntArr V c (ix2 (pad r) 0)) (cntArr V c (ix2 (pad r) 1))
        (ancArr V c (ix2 r d)) (tgtArr V c (ix2 r 0))

/-- The perceptron outputs of segment `r`, of the arrays the kernel reads. -/
def raw (r : Fin 10000) (o : Fin 18) : EReal :=
  Row.output (rep V c r) (fun d h => w1Arr V c (ix2 d h)) (fun h => b1Arr V c (ix2 0 h)) (fun h o => w2Arr V c (ix2 h o)) (fun o => b2Arr V c (ix2 0 o)) o

theorem repRow_of {x0 x1 x2 x3 x4 : Vec Ideal S1000x128 .f32} {x5 : Vec Ideal S1000x1 .f32} {i : Fin 1000} {f0 f1 f2 f3 f4 : Fin 128 → EReal} {f5 : Fin 1 → EReal}
    (h0 : ∀ d, (x0 (ix2 i d) : EReal) = f0 d) (h1 : ∀ d, (x1 (ix2 i d) : EReal) = f1 d) (h2 : ∀ d, (x2 (ix2 i d) : EReal) = f2 d)
    (h3 : ∀ d, (x3 (ix2 i d) : EReal) = f3 d) (h4 : ∀ d, (x4 (ix2 i d) : EReal) = f4 d) (h5 : ∀ d, (x5 (ix2 i d) : EReal) = f5 d) (d : Fin 128) :
    repRow x0 x1 x2 x3 x4 x5 i d = Row.invVar (f3 1 * Row.c128) (Row.kSum f1 f4 (f3 1)) (Row.kSq f1 f2 f4 (f3 1)) * Row.kRep (f0 d) (f1 d) (f3 0) (f3 1) (f4 d) (f5 0) := by
  unfold repRow
  simp only [h0, h1, h2, h3, h4, h5]

theorem rep_block (t : Fin cfg1.N) (i : Fin 1000) (d : Fin 128) :
    repRow (inp0 V c t) (inp1 V c t) (inp2 V c t) (inp3 V c t) (inp4 V c t) (inp5 V c t) i d = rep V c (row t i) d :=
  repRow_of (inp0_apply V c t i) (inp1_apply V c t i) (inp2_apply V c t i) (inp3_apply V c t i) (inp4_apply V c t i) (inp5_apply V c t i) d

theorem output_of {rep rep' : Fin 128 → EReal} {w1 w1' : Fin 128 → Fin 256 → EReal} {b1 b1' : Fin 256 → EReal} {w2 w2' : Fin 256 → Fin 18 → EReal}
    {b2 b2' : Fin 18 → EReal} (h : ∀ d, rep d = rep' d) (hw1 : ∀ d h, w1 d h = w1' d h) (hb1 : ∀ h, b1 h = b1' h) (hw2 : ∀ h o, w2 h o = w2' h o)
    (hb2 : ∀ o, b2 o = b2' o) (o : Fin 18) : Row.output rep w1 b1 w2 b2 o = Row.output rep' w1' b1' w2' b2' o := by
  rw [funext h, funext fun d => funext (hw1 d), funext hb1, funext fun h => funext (hw2 h), funext hb2]

theorem raw_block (t : Fin cfg1.N) (i : Fin 1000) (o : Fin 18) :
    rawRow (inp0 V c t) (inp1 V c t) (inp2 V c t) (inp3 V c t) (inp4 V c t) (inp5 V c t) (inp6 V c) (inp7 V c) (inp8 V c) (inp9 V c) i o
      = raw V c (row t i) o :=
  output_of (rep_block V c t i) (inp6_apply V c) (inp7_apply V c 0) (inp8_apply V c) (inp9_apply V c 0) o

/-- A rank-2 index by its coordinates. -/
theorem ext2 {a b : ℕ} (k : (⟨2, ![a, b]⟩ : Shape).Idx) : ∃ (i : Fin a) (j : Fin b), k = ix2 i j :=
  ⟨k 0, k 1, by funext c; apply Fin.ext; fin_cases c <;> rfl⟩

/-- The first result. -/
theorem arr_10 : ((dat V c).arrAt 10 cfg1.N : Vec Ideal S10000x128 .f32) = fun k => rep V c (k 0) (k 1) := by
  refine (dat V c).arrAt_eq_of_covers 10 _ (by decide +kernel) fun t hf y => ?_
  blk_simp
  obtain ⟨i, d, rfl⟩ := ext2 (a := 1000) (b := 128) y
  refine (repOut_apply _ _ _ _ _ _ i d).trans ((rep_block V c t i d).trans ?_)
  have e : (win1_10.blk t).view.emb (ix2 i d) = ix2 (row t i) d := by
    blk_ext [index_10]
    rfl
  exact (congrArg (fun k : S10000x128.Idx => rep V c (k 0) (k 1)) e).symm

/-- The second result. -/
theorem arr_11 : ((dat V c).arrAt 11 cfg1.N : Vec Ideal S10000x16 .f32) = fun k => Row.mixture (fun l => raw V c (k 0) ⟨l.val + 2, by omega⟩) (k 1) := by
  refine (dat V c).arrAt_eq_of_covers 11 _ (by decide +kernel) fun t hf y => ?_
  blk_simp
  obtain ⟨i, d, rfl⟩ := ext2 (a := 1000) (b := 16) y
  refine (mixOut_apply _ _ _ _ _ _ _ _ _ _ i d).trans ((congrArg (fun v => Row.mixture v d) (funext fun l => raw_block V c t i ⟨l.val + 2, by omega⟩)).trans ?_)
  have e : (win1_11.blk t).view.emb (ix2 i d) = ix2 (row t i) d := by
    blk_ext [index_11]
    rfl
  exact (congrArg (fun k : S10000x16.Idx => Row.mixture (fun l => raw V c (k 0) ⟨l.val + 2, by omega⟩) (k 1)) e).symm

/-- The third result. -/
theorem arr_12 : ((dat V c).arrAt 12 cfg1.N : Vec Ideal S10000x1 .f32)
    = fun k => Ideal.sqrt (Ideal.div (Row.shapePar (raw V c (k 0) 1)) (Row.shapePar (raw V c (k 0) 0))) := by
  refine (dat V c).arrAt_eq_of_covers 12 _ (by decide +kernel) fun t hf y => ?_
  blk_simp
  obtain ⟨i, d, rfl⟩ := ext2 (a := 1000) (b := 1) y
  obtain rfl : d = 0 := Subsingleton.elim _ _
  refine (sigOut_apply _ _ _ _ _ _ _ _ _ _ i).trans ?_
  rw [raw_block V c t i 0, raw_block V c t i 1]
  have e : (win1_12.blk t).view.emb (ix2 i 0) = ix2 (row t i) 0 := by
    blk_ext [index_12]
    rfl
  exact (congrArg (fun k : S10000x1.Idx => Ideal.sqrt (Ideal.div (Row.shapePar (raw V c (k 0) 1)) (Row.shapePar (raw V c (k 0) 0)))) e).symm

/-- The fourth result. -/
theorem arr_13 : ((dat V c).arrAt 13 cfg1.N : Vec Ideal S10000x1 .f32) = fun k => Row.shapePar (raw V c (k 0) 0) := by
  refine (dat V c).arrAt_eq_of_covers 13 _ (by decide +kernel) fun t hf y => ?_
  blk_simp
  obtain ⟨i, d, rfl⟩ := ext2 (a := 1000) (b := 1) y
  obtain rfl : d = 0 := Subsingleton.elim _ _
  refine (alphaOut_apply _ _ _ _ _ _ _ _ _ _ i).trans ?_
  rw [raw_block V c t i 0]
  have e : (win1_13.blk t).view.emb (ix2 i 0) = ix2 (row t i) 0 := by
    blk_ext [index_13]
    rfl
  exact (congrArg (fun k : S10000x1.Idx => Row.shapePar (raw V c (k 0) 0)) e).symm

/-- The fifth result. -/
theorem arr_14 : ((dat V c).arrAt 14 cfg1.N : Vec Ideal S10000x1 .f32) = fun k => Row.shapePar (raw V c (k 0) 1) := by
  refine (dat V c).arrAt_eq_of_covers 14 _ (by decide +kernel) fun t hf y => ?_
  blk_simp
  obtain ⟨i, d, rfl⟩ := ext2 (a := 1000) (b := 1) y
  obtain rfl : d = 0 := Subsingleton.elim _ _
  refine (betaOut_apply _ _ _ _ _ _ _ _ _ _ i).trans ?_
  rw [raw_block V c t i 1]
  have e : (win1_14.blk t).view.emb (ix2 i 0) = ix2 (row t i) 0 := by
    blk_ext [index_14]
    rfl
  exact (congrArg (fun k : S10000x1.Idx => Row.shapePar (raw V c (k 0) 1)) e).symm

end Cert.KernelIdeal.Head
end
-- ==== Proof.RowMath.lean ====
/-
  The row mathematics: over a segment's rows, the kernel's sums about the anchor are the reference's sums of differences
  from the anchor, and where a value is not finite both take the same limit, so that the two representation rows agree.
-/
module

public import proofs.«01_k».proof.Proof.Row

@[expose] public section

noncomputable section

namespace Cert.Row

open Idealize.ShloMosaic

theorem c1_eq : c1 = ((1 : ℝ) : EReal) := Ideal.ofBits_one_f32.trans EReal.coe_one.symm
theorem c128_eq : c128 = ((128 : ℝ) : EReal) := by
  simp [c128, Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- A value is a real number. -/
def Real' (a : EReal) : Prop := ∃ r : ℝ, a = r

theorem real_or (a : EReal) : Real' a ∨ a = ⊤ ∨ a = ⊥ := by
  induction a with
  | bot => exact .inr (.inr rfl)
  | top => exact .inr (.inl rfl)
  | coe r => exact .inl ⟨r, rfl⟩
theorem not_real_top : ¬ Real' ⊤ := fun ⟨r, h⟩ => EReal.coe_ne_top r h.symm
theorem not_real_bot : ¬ Real' ⊥ := fun ⟨r, h⟩ => EReal.coe_ne_bot r h.symm

/-- A real sum has real terms. -/
theorem real_of_add {a b : EReal} (h : Real' (a + b)) : Real' a ∧ Real' b := by
  rcases real_or a with ha | rfl | rfl
  · refine ⟨ha, ?_⟩
    obtain ⟨r, rfl⟩ := ha
    rcases real_or b with hb | rfl | rfl
    · exact hb
    · rw [EReal.coe_add_top] at h; exact (not_real_top h).elim
    · rw [EReal.add_bot] at h; exact (not_real_bot h).elim
  · rcases real_or b with ⟨s, rfl⟩ | rfl | rfl
    · rw [EReal.top_add_coe] at h; exact (not_real_top h).elim
    · rw [EReal.top_add_top] at h; exact (not_real_top h).elim
    · rw [EReal.add_bot] at h; exact (not_real_bot h).elim
  · rw [EReal.bot_add] at h; exact (not_real_bot h).elim

theorem real_of_neg {a : EReal} (h : Real' (-a)) : Real' a := by
  obtain ⟨r, h⟩ := h
  exact ⟨-r, by rw [EReal.coe_neg, ← h, neg_neg]⟩

theorem real_of_sub {a b : EReal} (h : Real' (a - b)) : Real' a ∧ Real' b := by
  rw [sub_eq_add_neg] at h
  exact ⟨(real_of_add h).1, real_of_neg (real_of_add h).2⟩

theorem real_of_sum {ι : Type} [DecidableEq ι] (s : Finset ι) (f : ι → EReal) (h : Real' (∑ i ∈ s, f i)) : ∀ i ∈ s, Real' (f i) := by
  induction s using Finset.induction_on with
  | empty => exact fun i hi => absurd hi (Finset.notMem_empty i)
  | insert a t ha ih =>
    rw [Finset.sum_insert ha] at h
    intro i hi
    rcases Finset.mem_insert.1 hi with rfl | hi
    · exact (real_of_add h).1
    · exact ih (real_of_add h).2 i hi

/-- A positive real multiple is real only of a real. -/
theorem real_of_mul {k : ℝ} (hk : 0 < k) {a : EReal} (h : Real' ((k : EReal) * a)) : Real' a := by
  rcases real_or a with ha | rfl | rfl
  · exact ha
  · rw [EReal.coe_mul_top_of_pos hk] at h; exact (not_real_top h).elim
  · rw [EReal.coe_mul_bot_of_pos hk] at h; exact (not_real_bot h).elim

/-- The variance's reciprocal is zero when the sum is infinite. -/
theorem invVar_inf {c : ℝ} (hc : 128 ≤ c) {s : EReal} (hs : ¬ Real' s) (q : EReal) : invVar (c : EReal) s q = 0 := by
  have hm : max (c : EReal) c1 = (c : EReal) := by rw [c1_eq]; exact max_eq_left (EReal.coe_le_coe_iff.2 (by linarith))
  have hm2 : max ((c : EReal) - c1) c1 = ((c - 1 : ℝ) : EReal) := by
    rw [c1_eq, ← EReal.coe_sub]; exact max_eq_left (EReal.coe_le_coe_iff.2 (by linarith))
  have hc0 : (c : EReal) ≠ 0 := by exact_mod_cast (by linarith : c ≠ 0)
  have hd0 : ((c - 1 : ℝ) : EReal) ≠ 0 := by exact_mod_cast (by linarith : c - 1 ≠ 0)
  have hci : (0 : ℝ) < c⁻¹ := inv_pos.2 (by linarith)
  have hdi : (0 : ℝ) < (c - 1)⁻¹ := inv_pos.2 (by linarith)
  have hcp : (0 : ℝ) < c := by linarith
  have hsq : (c : EReal) * Ideal.div s (c : EReal) * Ideal.div s (c : EReal) = ⊤ := by
    unfold Ideal.div
    rw [if_neg hc0, ← EReal.coe_inv]
    rcases real_or s with h | rfl | rfl
    · exact (hs h).elim
    · rw [EReal.top_mul_coe_of_pos hci, EReal.coe_mul_top_of_pos hcp, EReal.top_mul_top]
    · rw [EReal.bot_mul_coe_of_pos hci, EReal.coe_mul_bot_of_pos hcp, EReal.bot_mul_bot]
  unfold invVar
  rw [hm, hm2, hsq, sub_eq_add_neg, EReal.neg_top, EReal.add_bot]
  have hb : Ideal.div ⊥ ((c - 1 : ℝ) : EReal) = ⊥ := by
    unfold Ideal.div
    rw [if_neg hd0, ← EReal.coe_inv, EReal.bot_mul_coe_of_pos hdi]
  rw [hb]
  unfold Ideal.div
  rw [if_neg (by simp), EReal.inv_bot, mul_zero]

section sums

variable {n : ℕ} (num : Fin n → ℕ) (r : ℕ)

theorem over_filter (f : Fin n → EReal) : over num r f = ∑ j ∈ Finset.univ.filter (fun j => num j = r), f j := (Finset.sum_filter _ _).symm

theorem over_coe (f : Fin n → ℝ) : over num r (fun j => (f j : EReal)) = ((∑ j ∈ Finset.univ.filter (fun j => num j = r), f j : ℝ) : EReal) := by
  rw [over_filter]
  exact (map_sum (⟨⟨Real.toEReal, EReal.coe_zero⟩, EReal.coe_add⟩ : ℝ →+ EReal) f _).symm

theorem sum_coe {m : ℕ} (f : Fin m → ℝ) : (∑ d, (f d : EReal)) = ((∑ d, f d : ℝ) : EReal) :=
  (map_sum (⟨⟨Real.toEReal, EReal.coe_zero⟩, EReal.coe_add⟩ : ℝ →+ EReal) f _).symm

theorem over_one : over num r (fun _ => c1) = (((Finset.univ.filter (fun j => num j = r)).card : ℝ) : EReal) := by
  rw [c1_eq, over_coe num r (fun _ => 1)]
  simp

variable (X : Fin n → Fin 128 → EReal) (y : Fin n → EReal) (ax : Fin 128 → EReal) (ay : EReal)

/-- The kernel's representation row. -/
def kernelRep (d : Fin 128) : EReal :=
  invVar (over num r (fun _ => c1) * c128)
      (kSum (fun d => over num r fun j => X j d) ax (over num r fun _ => c1))
      (kSq (fun d => over num r fun j => X j d) (fun d => over num r fun j => X j d * X j d) ax (over num r fun _ => c1))
    * kRep (over num r fun j => X j d * y j) (over num r fun j => X j d) (over num r fun j => y j) (over num r fun _ => c1) (ax d) ay

/-- The reference's representation row. -/
def refRep (d : Fin 128) : EReal :=
  invVar ((0 + over num r fun _ => c1) * c128)
      (0 + over num r fun j => 0 + ∑ d, (X j d - ax d))
      (0 + over num r fun j => 0 + ∑ d, (X j d - ax d) * (X j d - ax d))
    * (0 + over num r fun j => (X j d - ax d) * (y j - ay))

/-- With no rows both representation rows are zero. -/
theorem rep_empty (h : ∀ j, num j ≠ r) (d : Fin 128) : kernelRep num r X y ax ay d = refRep num r X y ax ay d := by
  have z : ∀ f : Fin n → EReal, over num r f = 0 := fun f => Finset.sum_eq_zero fun j _ => if_neg (h j)
  unfold kernelRep refRep kRep
  simp only [z, mul_zero, zero_mul, sub_zero, add_zero]

/-- With a row, and every value real, the sums about the anchor are the sums of differences. -/
theorem rep_real (hX : ∀ j, num j = r → ∀ d, Real' (X j d)) (hy : ∀ j, Real' (y j)) (ha : ∀ d, Real' (ax d)) (hay : Real' ay) (d : Fin 128) :
    kernelRep num r X y ax ay d = refRep num r X y ax ay d := by
  obtain ⟨b, rfl⟩ := hay
  choose a ha using ha
  obtain rfl : ax = fun d => (a d : EReal) := funext ha
  choose v hv using hy
  obtain rfl : y = fun j => (v j : EReal) := funext hv
  have hx : ∀ j, num j = r → ∀ d, X j d = (((X j d).toReal : ℝ) : EReal) := fun j hj d => by
    obtain ⟨q, hq⟩ := hX j hj d
    rw [hq, EReal.toReal_coe]
  generalize hxe : (fun j d => (X j d).toReal) = x at *
  have hx' : ∀ j, num j = r → ∀ d, X j d = (x j d : EReal) := fun j hj d => (hx j hj d).trans (by rw [← hxe])
  have e1 : ∀ d, (over num r fun j => X j d) = ((∑ j ∈ Finset.univ.filter (fun j => num j = r), x j d : ℝ) : EReal) := fun d => by
    rw [← over_coe]; exact over_congr fun j hj => hx' j hj d
  have e2 : ∀ d, (over num r fun j => X j d * X j d) = ((∑ j ∈ Finset.univ.filter (fun j => num j = r), x j d * x j d : ℝ) : EReal) := fun d => by
    rw [← over_coe]; exact over_congr fun j hj => by rw [hx' j hj d, ← EReal.coe_mul]
  have e3 : ∀ d, (over num r fun j => X j d * (v j : EReal)) = ((∑ j ∈ Finset.univ.filter (fun j => num j = r), x j d * v j : ℝ) : EReal) := fun d => by
    rw [← over_coe]; exact over_congr fun j hj => by rw [hx' j hj d, ← EReal.coe_mul]
  have f1 : (over num r fun j => 0 + ∑ d, (X j d - (a d : EReal))) = ((∑ j ∈ Finset.univ.filter (fun j => num j = r), ∑ d, (x j d - a d) : ℝ) : EReal) := by
    rw [← over_coe]
    refine over_congr fun j hj => ?_
    rw [zero_add, ← sum_coe]
    exact Finset.sum_congr rfl fun d _ => by rw [hx' j hj d, ← EReal.coe_sub]
  have f2 : (over num r fun j => 0 + ∑ d, (X j d - (a d : EReal)) * (X j d - (a d : EReal)))
      = ((∑ j ∈ Finset.univ.filter (fun j => num j = r), ∑ d, (x j d - a d) * (x j d - a d) : ℝ) : EReal) := by
    rw [← over_coe]
    refine over_congr fun j hj => ?_
    rw [zero_add, ← sum_coe]
    exact Finset.sum_congr rfl fun d _ => by rw [hx' j hj d, ← EReal.coe_sub, ← EReal.coe_mul]
  have f3 : (over num r fun j => (X j d - (a d : EReal)) * ((v j : EReal) - (b : EReal)))
      = ((∑ j ∈ Finset.univ.filter (fun j => num j = r), (x j d - a d) * (v j - b) : ℝ) : EReal) := by
    rw [← over_coe]
    exact over_congr fun j hj => by rw [hx' j hj d, ← EReal.coe_sub, ← EReal.coe_sub, ← EReal.coe_mul]
  unfold kernelRep refRep kRep kSum kSq
  rw [f1, f2, f3]
  simp only [e1, e2, e3, over_coe, over_one, zero_add, two_eq, ← EReal.coe_mul, sum_coe, ← EReal.coe_sub, ← EReal.coe_add]
  have g1 : (∑ d, ∑ j ∈ Finset.univ.filter (fun j => num j = r), x j d) - ((Finset.univ.filter (fun j => num j = r)).card : ℝ) * ∑ d, a d
      = ∑ j ∈ Finset.univ.filter (fun j => num j = r), ∑ d, (x j d - a d) := by
    rw [Finset.sum_comm]
    simp only [Finset.sum_sub_distrib, Finset.sum_const, nsmul_eq_mul]
  have g2 : (∑ d, ∑ j ∈ Finset.univ.filter (fun j => num j = r), x j d * x j d)
        - 2 * (∑ d, a d * ∑ j ∈ Finset.univ.filter (fun j => num j = r), x j d)
        + ((Finset.univ.filter (fun j => num j = r)).card : ℝ) * ∑ d, a d * a d
      = ∑ j ∈ Finset.univ.filter (fun j => num j = r), ∑ d, (x j d - a d) * (x j d - a d) := by
    rw [Finset.sum_comm (s := Finset.univ.filter (fun j => num j = r)), Finset.mul_sum, Finset.mul_sum, ← Finset.sum_sub_distrib, ← Finset.sum_add_distrib]
    refine Finset.sum_congr rfl fun d _ => ?_
    rw [← nsmul_eq_mul, ← Finset.sum_const, Finset.mul_sum, Finset.mul_sum, ← Finset.sum_sub_distrib, ← Finset.sum_add_distrib]
    exact Finset.sum_congr rfl fun j _ => by ring
  have g3 : (∑ j ∈ Finset.univ.filter (fun j => num j = r), x j d * v j) - b * (∑ j ∈ Finset.univ.filter (fun j => num j = r), x j d)
        - (∑ j ∈ Finset.univ.filter (fun j => num j = r), v j) * a d + ((Finset.univ.filter (fun j => num j = r)).card : ℝ) * (a d * b)
      = ∑ j ∈ Finset.univ.filter (fun j => num j = r), (x j d - a d) * (v j - b) := by
    rw [← nsmul_eq_mul, ← Finset.sum_const, Finset.mul_sum, Finset.sum_mul, ← Finset.sum_sub_distrib, ← Finset.sum_sub_distrib, ← Finset.sum_add_distrib]
    exact Finset.sum_congr rfl fun j _ => by ring
  rw [g1, g2, g3]

/-- The two representation rows agree, the targets real. -/
theorem rep_eq (hy : ∀ j, Real' (y j)) (hay : Real' ay) (d : Fin 128) : kernelRep num r X y ax ay d = refRep num r X y ax ay d := by
  by_cases hne : ∃ j, num j = r
  swap
  · exact rep_empty num r X y ax ay (fun j h => hne ⟨j, h⟩) d
  obtain ⟨j0, hj0⟩ := hne
  by_cases hf : (∀ j, num j = r → ∀ d, Real' (X j d)) ∧ ∀ d, Real' (ax d)
  · exact rep_real num r X y ax ay hf.1 hy hf.2 hay d
  have hcard : (1 : ℝ) ≤ ((Finset.univ.filter (fun j => num j = r)).card : ℝ) := by
    exact_mod_cast Finset.card_pos.2 ⟨j0, Finset.mem_filter.2 ⟨Finset.mem_univ _, hj0⟩⟩
  have hk : ¬ Real' (kSum (fun d => over num r fun j => X j d) ax (over num r fun _ => c1)) := fun h => hf (by
    obtain ⟨h1, h2⟩ := real_of_sub h
    rw [over_one] at h2
    have h3 := real_of_mul (by linarith) h2
    refine ⟨fun j hj d => ?_, fun d => real_of_sum _ _ h3 d (Finset.mem_univ _)⟩
    have h4 := real_of_sum _ _ h1 d (Finset.mem_univ _)
    rw [over_filter] at h4
    exact real_of_sum _ _ h4 j (Finset.mem_filter.2 ⟨Finset.mem_univ _, hj⟩))
  have hr : ¬ Real' (0 + over num r fun j => 0 + ∑ d, (X j d - ax d)) := fun h => hf (by
    rw [zero_add, over_filter] at h
    have h1 : ∀ j, num j = r → ∀ d, Real' (X j d) ∧ Real' (ax d) := fun j hj d => by
      have h2 := real_of_sum _ _ h j (Finset.mem_filter.2 ⟨Finset.mem_univ _, hj⟩)
      rw [zero_add] at h2
      exact real_of_sub (real_of_sum _ _ h2 d (Finset.mem_univ _))
    exact ⟨fun j hj d => (h1 j hj d).1, fun d => (h1 j0 hj0 d).2⟩)
  rw [over_one] at hk
  unfold kernelRep refRep
  rw [zero_add (over num r fun _ => c1), over_one, c128_eq, ← EReal.coe_mul, invVar_inf (by linarith) hk, invVar_inf (by linarith) hr, zero_mul, zero_mul]

end sums

theorem cScale_real : ∃ q : ℝ, 0 < q ∧ cScale = q := by
  refine ⟨16760439 * (2 : ℝ) ^ (-24 : ℤ), by positivity, ?_⟩
  simp [cScale, Ideal.ofBits, Ideal.ieee, -EReal.coe_mul]
theorem cEps_real : ∃ q : ℝ, 0 < q ∧ cEps = q := by
  refine ⟨8589935 * (2 : ℝ) ^ (-33 : ℤ), by positivity, ?_⟩
  simp [cEps, Ideal.ofBits, Ideal.ieee, -EReal.coe_mul]

/-- A real's softplus is a real not below zero. -/
theorem soft_coe (v : ℝ) : ∃ q : ℝ, 0 ≤ q ∧ soft (v : EReal) = q := by
  refine ⟨max v 0 + Real.log (1 + Real.exp (-(max v (-v)))), ?_, ?_⟩
  · exact add_nonneg (le_max_right _ _) (Real.log_nonneg (by have := Real.exp_pos (-(max v (-v))); linarith))
  · have hm : max (v : EReal) (-(v : EReal)) = ((max v (-v) : ℝ) : EReal) := by
      rw [← EReal.coe_neg]; exact (EReal.coe_strictMono.monotone.map_max).symm
    have h0 : max (v : EReal) 0 = ((max v 0 : ℝ) : EReal) := by
      rw [← EReal.coe_zero]; exact (EReal.coe_strictMono.monotone.map_max).symm
    have he : Ideal.exp (((-(max v (-v)) : ℝ)) : EReal) = ((Real.exp (-(max v (-v))) : ℝ) : EReal) := rfl
    have hl : ∀ q : ℝ, 0 < q → Ideal.log (q : EReal) = ((Real.log q : ℝ) : EReal) := fun q hq => if_neg (not_le.2 hq)
    unfold soft Ideal.log1p
    rw [hm, h0, ← EReal.coe_neg, he, ← EReal.coe_one, ← EReal.coe_add, hl _ (by have := Real.exp_pos (-(max v (-v))); linarith), ← EReal.coe_add]

/-- A shape parameter of a real is a positive real. -/
theorem shapePar_coe {v : EReal} (h : Real' v) : ∃ q : ℝ, 0 < q ∧ shapePar v = q := by
  obtain ⟨r, rfl⟩ := h
  obtain ⟨s, hs, es⟩ := soft_coe r
  obtain ⟨k, hk, ek⟩ := cScale_real
  obtain ⟨e, he, ee⟩ := cEps_real
  refine ⟨s * k + e, by positivity, ?_⟩
  unfold shapePar
  rw [es, ek, ee, ← EReal.coe_mul, ← EReal.coe_add]

/-- A shape parameter of any value is a positive real or the upper infinity. -/
theorem shapePar_pos (v : EReal) : (∃ q : ℝ, 0 < q ∧ shapePar v = q) ∨ shapePar v = ⊤ := by
  obtain ⟨k, hk, ek⟩ := cScale_real
  obtain ⟨e, he, ee⟩ := cEps_real
  have h1 : Ideal.log1p 0 = 0 := by
    unfold Ideal.log1p
    rw [add_zero, ← EReal.coe_one]
    show (if (1 : ℝ) ≤ 0 then (⊥ : EReal) else ((Real.log 1 : ℝ) : EReal)) = 0
    rw [if_neg (by norm_num), Real.log_one, EReal.coe_zero]
  have hb : Ideal.exp ⊥ = 0 := rfl
  rcases real_or v with h | rfl | rfl
  · exact .inl (shapePar_coe h)
  · right
    unfold shapePar soft
    rw [EReal.neg_top, max_eq_left bot_le, max_eq_left le_top, EReal.neg_top, hb, h1, add_zero, ek, ee, EReal.top_mul_coe_of_pos hk, EReal.top_add_coe]
  · left
    refine ⟨e, he, ?_⟩
    unfold shapePar soft
    rw [EReal.neg_bot, max_eq_right bot_le, max_eq_right bot_le, EReal.neg_top, hb, h1, add_zero, zero_mul, zero_add, ee]

/-- The kernel's scale, the root of the quotient, is the reference's, the root of the reciprocal of the inverse quotient. -/
theorem scale_eq {v : EReal} (h : Real' v) (w : EReal) :
    Ideal.sqrt (Ideal.div (shapePar w) (shapePar v)) = Ideal.sqrt (Ideal.div c1 (Ideal.div (shapePar v) (shapePar w))) := by
  obtain ⟨a, ha, ea⟩ := shapePar_coe h
  have ha0 : (a : EReal) ≠ 0 := by exact_mod_cast ha.ne'
  refine congrArg Ideal.sqrt ?_
  rw [ea, c1_eq]
  rcases shapePar_pos w with ⟨b, hb, eb⟩ | eb
  · have hb0 : (b : EReal) ≠ 0 := by exact_mod_cast hb.ne'
    have hab : ((a * b⁻¹ : ℝ) : EReal) ≠ 0 := by exact_mod_cast (mul_pos ha (inv_pos.2 hb)).ne'
    rw [eb]
    unfold Ideal.div
    rw [if_neg ha0, if_neg hb0, ← EReal.coe_inv, ← EReal.coe_inv, ← EReal.coe_mul, ← EReal.coe_mul, if_neg hab, ← EReal.coe_inv, ← EReal.coe_mul]
    congr 1
    field_simp
  · rw [eb]
    unfold Ideal.div
    rw [if_neg ha0, if_neg EReal.top_ne_zero, EReal.inv_top, mul_zero, if_pos rfl, if_pos (by exact_mod_cast one_pos), ← EReal.coe_inv,
      EReal.top_mul_coe_of_pos (inv_pos.2 ha)]

theorem tanh_real (v : EReal) : Real' (Ideal.tanh v) := by
  induction v with
  | bot => exact ⟨-1, by show (-1 : EReal) = _; rw [EReal.coe_neg, EReal.coe_one]⟩
  | top => exact ⟨1, by show (1 : EReal) = _; rw [EReal.coe_one]⟩
  | coe r => exact ⟨Real.tanh r, rfl⟩

/-- A perceptron output of real output weights and bias is real. -/
theorem output_real (rep : Fin 128 → EReal) (w1 : Fin 128 → Fin 256 → EReal) (b1 : Fin 256 → EReal) (w2 : Fin 256 → Fin 18 → EReal)
    (b2 : Fin 18 → EReal) (o : Fin 18) (hw : ∀ h, Real' (w2 h o)) (hb : Real' (b2 o)) : Real' (output rep w1 b1 w2 b2 o) := by
  obtain ⟨b, hb⟩ := hb
  choose w hw using hw
  choose t ht using fun h => tanh_real ((∑ d, rep d * w1 d h) + b1 h)
  refine ⟨(∑ h, t h * w h) + b, ?_⟩
  unfold output hidden
  rw [hb, EReal.coe_add, ← sum_coe]
  exact congrArg (· + (b : EReal)) (Finset.sum_congr rfl fun h _ => by rw [ht, hw, ← EReal.coe_mul])

end Cert.Row
end
-- ==== Proof.KernelRows.lean ====
/-
  The kernel's two grids joined: the arrays the head kernel reads, as sums over the arguments' rows, and so each segment's
  representation and perceptron outputs as functions of the program's arguments.
-/
module

public import proofs.«01_k».proof.Proof.RunMain
public import proofs.«01_k».proof.Proof.SegArr
public import proofs.«01_k».proof.Proof.HeadArr
public import proofs.«01_k».proof.Proof.RowMath

@[expose] public section

noncomputable section

namespace Cert.KernelIdeal.Rows

open Cert.KernelIdeal Cert.KernelIdeal.Gen
open Cert.KernelIdeal.Seg (Bufs)
open Cert.KernelIdeal.RunMain
open Idealize.ShloMosaic Idealize.ShloMosaic.TcCoe Idealize.ShloMosaic.ValueIdx
open Idealize.SL Idealize.SL.Sem

variable (m : (ℓ : Loc nD τ sig) → Buf (Elt Ideal) ℓ) (hm : ArgInRange (F := Ideal) m) (c : Dev nD)

/-- The segment numbers. -/
abbrev a0 : IVec S320000 32 := m ((c : Thread nD τ).loc main_arg0)
/-- The rows. -/
abbrev a1 : FVec Ideal S320000x128 .f32 := m ((c : Thread nD τ).loc main_arg1)
/-- The targets. -/
abbrev a2 : FVec Ideal S320000x1 .f32 := m ((c : Thread nD τ).loc main_arg2)
/-- The anchors' rows. -/
abbrev a3 : FVec Ideal S10000x128 .f32 := m ((c : Thread nD τ).loc main_arg3)
/-- The anchors' targets. -/
abbrev a4 : FVec Ideal S10000x1 .f32 := m ((c : Thread nD τ).loc main_arg4)
/-- The first matrix. -/
abbrev a5 : FVec Ideal S128x256 .f32 := m ((c : Thread nD τ).loc main_arg5)
/-- The first offsets. -/
abbrev a6 : FVec Ideal S256 .f32 := m ((c : Thread nD τ).loc main_arg6)
/-- The second matrix. -/
abbrev a7 : FVec Ideal S256x18 .f32 := m ((c : Thread nD τ).loc main_arg7)
/-- The second offsets. -/
abbrev a8 : FVec Ideal S18 .f32 := m ((c : Thread nD τ).loc main_arg8)

/-- The segment of row `j`. -/
def num (j : Fin 320000) : ℕ := (a0 m c (ix1 j)).toNat

theorem V1_arg (r : Ref sig .tc) (h : r ∉ hostOps0_W) : V1 m c r = m ((c : Thread nD τ).loc r) := V1_of m c r h
theorem V3_arg (r : Ref sig .tc) (h0 : r ∉ hostOps0_W) (h1 : r ∉ ([main_v1_0, main_v1_1, main_v1_2, main_v1_3] : List (Ref sig .tc))) (h2 : r ∉ hostOps1_W) :
    V3 m (outs0 m hm) c r = m ((c : Thread nD τ).loc r) :=
  ((V3_of m _ c r h2).trans (V2_of m _ c r h1)).trans (V1_arg m c r h0)

/-- The reshaped segment numbers are those given. -/
theorem numAt_eq (j : Fin 320000) : Seg.numAt (V1 m) c j = num m c j := by
  unfold Seg.numAt num
  refine congrArg BitVec.toNat ?_
  refine (congrFun (V1_v0 m c) _).trans (shapeCast_apply _ _ _ _ ?_)
  show (S320000.rowMajor (ix1 j)).val = (S40x1x8000.rowMajor _).val
  rw [Shape.rowMajor_val_one, Shape.rowMajor_val_three]
  show j.val = (j.val / 8000 * 1 + 0) * 8000 + j.val % 8000
  omega

theorem segSum_eq (G : EReal → EReal → Fin 128 → EReal) (r : ℕ) (d : Fin 128) :
    Seg.segSum (V1 m) c G r d = Row.over (num m c) r fun j => G (a1 m c (ix2 j d)) (a2 m c (ix2 j 0)) d := by
  have e1 : Seg.rowArr (V1 m) c = a1 m c := V1_arg m c main_arg1 (by decide)
  have e2 : Seg.wtArr (V1 m) c = a2 m c := V1_arg m c main_arg2 (by decide)
  unfold Seg.segSum Row.over
  rw [e1, e2]
  exact Finset.sum_congr rfl fun j _ => by rw [numAt_eq]

/-- The product sums the head kernel reads. -/
theorem prod_apply (r : Fin 10000) (d : Fin 128) : (Head.prodArr (V3 m (outs0 m hm)) c (ix2 (Head.pad r) d) : EReal)
    = Row.over (num m c) r.val fun j => (a1 m c (ix2 j d) : EReal) * a2 m c (ix2 j 0) := by
  have e : Head.prodArr (V3 m (outs0 m hm)) c = Seg.acc (V1 m) (V1_range m hm) c Seg.gXY 40 :=
    ((V3_of m _ c main_v1_0 (by decide)).trans (V2_main_v1_0 m hm c)).trans (Seg.arr_3 _ _ _)
  rw [e, Seg.acc_last _ _ _ _ _ Seg.entry_gXY, segSum_eq]
  rfl
/-- The sums the head kernel reads. -/
theorem sum_apply (r : Fin 10000) (d : Fin 128) : (Head.sumArr (V3 m (outs0 m hm)) c (ix2 (Head.pad r) d) : EReal)
    = Row.over (num m c) r.val fun j => (a1 m c (ix2 j d) : EReal) := by
  have e : Head.sumArr (V3 m (outs0 m hm)) c = Seg.acc (V1 m) (V1_range m hm) c Seg.gX 40 :=
    ((V3_of m _ c main_v1_1 (by decide)).trans (V2_main_v1_1 m hm c)).trans (Seg.arr_4 _ _ _)
  rw [e, Seg.acc_last _ _ _ _ _ Seg.entry_gX, segSum_eq]
  rfl
/-- The sums of squares the head kernel reads. -/
theorem sq_apply (r : Fin 10000) (d : Fin 128) : (Head.sqArr (V3 m (outs0 m hm)) c (ix2 (Head.pad r) d) : EReal)
    = Row.over (num m c) r.val fun j => (a1 m c (ix2 j d) : EReal) * a1 m c (ix2 j d) := by
  have e : Head.sqArr (V3 m (outs0 m hm)) c = Seg.acc (V1 m) (V1_range m hm) c Seg.gXX 40 :=
    ((V3_of m _ c main_v1_2 (by decide)).trans (V2_main_v1_2 m hm c)).trans (Seg.arr_5 _ _ _)
  rw [e, Seg.acc_last _ _ _ _ _ Seg.entry_gXX, segSum_eq]
  rfl
theorem cnt_apply (r : Fin 10000) (d : Fin 128) : (Head.cntArr (V3 m (outs0 m hm)) c (ix2 (Head.pad r) d) : EReal)
    = Row.over (num m c) r.val fun j => (if d.val = 0 then (a2 m c (ix2 j 0) : EReal) else 0) + if d.val = 1 then 1 else 0 := by
  have e : Head.cntArr (V3 m (outs0 m hm)) c = Seg.acc (V1 m) (V1_range m hm) c Seg.gY 40 :=
    ((V3_of m _ c main_v1_3 (by decide)).trans (V2_main_v1_3 m hm c)).trans (Seg.arr_6 _ _ _)
  rw [e, Seg.acc_last _ _ _ _ _ Seg.entry_gY, segSum_eq]
  rfl
/-- The targets' sum the head kernel reads. -/
theorem target_apply (r : Fin 10000) : (Head.cntArr (V3 m (outs0 m hm)) c (ix2 (Head.pad r) 0) : EReal)
    = Row.over (num m c) r.val fun j => (a2 m c (ix2 j 0) : EReal) := by
  rw [cnt_apply]
  exact Row.over_congr fun j _ => by rw [if_pos (by rfl), if_neg (by decide), add_zero]
/-- The count the head kernel reads. -/
theorem count_apply (r : Fin 10000) : (Head.cntArr (V3 m (outs0 m hm)) c (ix2 (Head.pad r) 1) : EReal)
    = Row.over (num m c) r.val fun _ => Row.c1 := by
  rw [cnt_apply]
  exact Row.over_congr fun j _ => by rw [if_neg (by decide), if_pos (by rfl), zero_add]; exact Ideal.ofBits_one_f32.symm

/-- The kernel's representation of a segment, of the arguments. -/
theorem rep_eq (r : Fin 10000) (d : Fin 128) : Head.rep (V3 m (outs0 m hm)) c r d
    = Row.kernelRep (num m c) r.val (fun j d => a1 m c (ix2 j d)) (fun j => a2 m c (ix2 j 0)) (fun d => a3 m c (ix2 r d)) (a4 m c (ix2 r 0)) d := by
  have e3 : Head.ancArr (V3 m (outs0 m hm)) c = a3 m c := V3_arg m hm c main_arg3 (by decide) (by decide) (by decide)
  have e4 : Head.tgtArr (V3 m (outs0 m hm)) c = a4 m c := V3_arg m hm c main_arg4 (by decide) (by decide) (by decide)
  unfold Head.rep Row.kernelRep
  rw [count_apply, target_apply, funext (sum_apply m hm c r), funext (sq_apply m hm c r), sum_apply, prod_apply, e3, e4]

theorem after_v2 (W : Valuation τ sig (Elt Ideal)) : (StableHlo.after hostOps1 W main_v2 : Vec Ideal S1x256 .f32)
    = shapeCast S1x256 (W main_arg6 : Vec Ideal S256 .f32) shapeCasts_S256_S1x256 := rfl
theorem after_v3 (W : Valuation τ sig (Elt Ideal)) : (StableHlo.after hostOps1 W main_v3 : Vec Ideal S1x18 .f32)
    = shapeCast S1x18 (W main_arg8 : Vec Ideal S18 .f32) shapeCasts_S18_S1x18 := rfl

/-- The kernel's perceptron outputs of a segment, of the arguments. -/
theorem raw_eq (r : Fin 10000) (o : Fin 18) : Head.raw (V3 m (outs0 m hm)) c r o
    = Row.output (Row.kernelRep (num m c) r.val (fun j d => a1 m c (ix2 j d)) (fun j => a2 m c (ix2 j 0)) (fun d => a3 m c (ix2 r d)) (a4 m c (ix2 r 0)))
        (fun d h => a5 m c (ix2 d h)) (fun h => a6 m c (ix1 h)) (fun h o => a7 m c (ix2 h o)) (fun o => a8 m c (ix1 o)) o := by
  have e5 : Head.w1Arr (V3 m (outs0 m hm)) c = a5 m c := V3_arg m hm c main_arg5 (by decide) (by decide) (by decide)
  have e7 : Head.w2Arr (V3 m (outs0 m hm)) c = a7 m c := V3_arg m hm c main_arg7 (by decide) (by decide) (by decide)
  have e6 : ∀ h, (Head.b1Arr (V3 m (outs0 m hm)) c (ix2 0 h) : EReal) = a6 m c (ix1 h) := fun h => by
    have e : (V3 m (outs0 m hm) c main_v2 : Vec Ideal S1x256 .f32) = shapeCast S1x256 (a6 m c) shapeCasts_S256_S1x256 :=
      (after_v2 (V2 m (outs0 m hm) c)).trans (congrArg (fun x => shapeCast S1x256 x shapeCasts_S256_S1x256)
        ((V2_of m _ c main_arg6 (by decide)).trans (V1_arg m c main_arg6 (by decide))))
    refine (congrFun e _).trans (shapeCast_apply _ _ _ _ ?_)
    rw [Shape.rowMajor_val_one, Shape.rowMajor_val_two]
    show h.val = 0 * 256 + h.val
    omega
  have e8 : ∀ o, (Head.b2Arr (V3 m (outs0 m hm)) c (ix2 0 o) : EReal) = a8 m c (ix1 o) := fun o => by
    have e : (V3 m (outs0 m hm) c main_v3 : Vec Ideal S1x18 .f32) = shapeCast S1x18 (a8 m c) shapeCasts_S18_S1x18 :=
      (after_v3 (V2 m (outs0 m hm) c)).trans (congrArg (fun x => shapeCast S1x18 x shapeCasts_S18_S1x18)
        ((V2_of m _ c main_arg8 (by decide)).trans (V1_arg m c main_arg8 (by decide))))
    refine (congrFun e _).trans (shapeCast_apply _ _ _ _ ?_)
    rw [Shape.rowMajor_val_one, Shape.rowMajor_val_two]
    show o.val = 0 * 18 + o.val
    omega
  exact Head.output_of (rep_eq m hm c r) (fun d h => congrFun e5 (ix2 d h)) e6 (fun h o => congrFun e7 (ix2 h o)) e8 o

end Cert.KernelIdeal.Rows
end
-- ==== Proof.RefRows.lean ====
/-
  The reference's segment sums at the extended reals, row by row, the segment numbers in range: an anchor taken for row
  `j` is the anchor of `j`'s segment, and a segment sum's row `r` adds the rows numbered `r`.
-/
module

public import proofs.«01_k».proof.Proof.Row
public import proofs.«01_k».proof.Proof.RefValue
public import Idealize.ShloMosaic.Lib.ValueIdx
public import Idealize.ShloMosaic.Lib.ReduceAll
public import Idealize.ShloMosaic.Lib.Routing.Ops

@[expose] public section

noncomputable section

namespace Cert.ReferenceIdeal.Rows

open Cert.ReferenceIdeal Cert.ReferenceIdeal.Gen Cert.ReferenceIdeal.Read
open Idealize.ShloMosaic Idealize.ShloMosaic.ValueIdx

/-- A rank-2 index by its coordinates. -/
theorem ext2 {a b : ℕ} (k : (⟨2, ![a, b]⟩ : Shape).Idx) (i : Fin a) (j : Fin b) (h0 : (k 0).val = i.val) (h1 : (k 1).val = j.val) : k = ix2 i j := by
  funext c; apply Fin.ext
  fin_cases c
  · exact h0
  · exact h1
/-- A rank-1 index by its coordinate. -/
theorem ext1 {a : ℕ} (k : (⟨1, ![a]⟩ : Shape).Idx) (i : Fin a) (h0 : (k 0).val = i.val) : k = ix1 i := by
  funext c; apply Fin.ext
  fin_cases c
  exact h0

section scatter

variable (idx : IVec S320000x1 32)

/-- Where row `i`'s column `e` of the updates lands. -/
theorem lands2 (i : Fin 320000) (e : Fin 128) (r : Fin 10000) (d : Fin 128) :
    scatter_S10000x128_S320000x1_S320000x128_1_0_0_1.resultIdx? (ix2 i e) idx = some (ix2 r d)
      ↔ (idx (ix2 i 0)).toInt = (r.val : Int) ∧ e = d := by
  have s0 : scatter_S10000x128_S320000x1_S320000x128_1_0_0_1.start (ix2 i e) idx 0 = (idx (ix2 i 0)).toInt := by
    refine (dif_pos (List.mem_singleton.2 rfl)).trans ?_
    refine congrArg (fun j => (idx j).toInt) (funext fun b => Fin.ext ?_)
    fin_cases b <;> rfl
  have s1 : scatter_S10000x128_S320000x1_S320000x128_1_0_0_1.start (ix2 i e) idx 1 = 0 := rfl
  have w0 : scatter_S10000x128_S320000x1_S320000x128_1_0_0_1.window (ix2 i e) 0 = 0 := rfl
  have w1 : scatter_S10000x128_S320000x1_S320000x128_1_0_0_1.window (ix2 i e) 1 = e.val := rfl
  have hr := r.isLt
  have he := e.isLt
  unfold ScatterDims.resultIdx?
  split
  · next h =>
    have h0 := (h 0).1
    have h1 := (h 1).1
    rw [s0, w0] at h0
    constructor
    · intro q
      have q0 := congrArg Fin.val (congrFun (Option.some.inj q) 0)
      have q1 := congrArg Fin.val (congrFun (Option.some.inj q) 1)
      change (scatter_S10000x128_S320000x1_S320000x128_1_0_0_1.start (ix2 i e) idx 0 + (scatter_S10000x128_S320000x1_S320000x128_1_0_0_1.window (ix2 i e) 0 : Int)).toNat = r.val at q0
      change (scatter_S10000x128_S320000x1_S320000x128_1_0_0_1.start (ix2 i e) idx 1 + (scatter_S10000x128_S320000x1_S320000x128_1_0_0_1.window (ix2 i e) 1 : Int)).toNat = d.val at q1
      rw [s0, w0] at q0
      rw [s1, w1] at q1
      exact ⟨by omega, Fin.ext (by omega)⟩
    · rintro ⟨q0, rfl⟩
      refine congrArg some (ext2 _ _ _ ?_ ?_)
      · show (scatter_S10000x128_S320000x1_S320000x128_1_0_0_1.start (ix2 i e) idx 0 + (scatter_S10000x128_S320000x1_S320000x128_1_0_0_1.window (ix2 i e) 0 : Int)).toNat = r.val
        rw [s0, w0]; omega
      · show (scatter_S10000x128_S320000x1_S320000x128_1_0_0_1.start (ix2 i e) idx 1 + (scatter_S10000x128_S320000x1_S320000x128_1_0_0_1.window (ix2 i e) 1 : Int)).toNat = e.val
        rw [s1, w1]; omega
  · next h =>
    refine ⟨fun q => (by cases q), fun q => (h fun a => ?_).elim⟩
    match a with
    | ⟨0, _⟩ =>
      show 0 ≤ scatter_S10000x128_S320000x1_S320000x128_1_0_0_1.start (ix2 i e) idx 0 + (scatter_S10000x128_S320000x1_S320000x128_1_0_0_1.window (ix2 i e) 0 : Int) ∧ scatter_S10000x128_S320000x1_S320000x128_1_0_0_1.start (ix2 i e) idx 0 + (scatter_S10000x128_S320000x1_S320000x128_1_0_0_1.window (ix2 i e) 0 : Int) < ((10000 : ℕ) : Int)
      rw [s0, w0]; omega
    | ⟨1, _⟩ =>
      show 0 ≤ scatter_S10000x128_S320000x1_S320000x128_1_0_0_1.start (ix2 i e) idx 1 + (scatter_S10000x128_S320000x1_S320000x128_1_0_0_1.window (ix2 i e) 1 : Int) ∧ scatter_S10000x128_S320000x1_S320000x128_1_0_0_1.start (ix2 i e) idx 1 + (scatter_S10000x128_S320000x1_S320000x128_1_0_0_1.window (ix2 i e) 1 : Int) < ((128 : ℕ) : Int)
      rw [s1, w1]; omega

/-- Where element `i` of the updates lands. -/
theorem lands1 (i : Fin 320000) (r : Fin 10000) :
    scatter_S10000_S320000x1_S320000_n_0_0_1.resultIdx? (ix1 i) idx = some (ix1 r) ↔ (idx (ix2 i 0)).toInt = (r.val : Int) := by
  have s0 : scatter_S10000_S320000x1_S320000_n_0_0_1.start (ix1 i) idx 0 = (idx (ix2 i 0)).toInt := by
    refine (dif_pos (List.mem_singleton.2 rfl)).trans ?_
    refine congrArg (fun j => (idx j).toInt) (funext fun b => Fin.ext ?_)
    fin_cases b <;> rfl
  have w0 : scatter_S10000_S320000x1_S320000_n_0_0_1.window (ix1 i) 0 = 0 := rfl
  have hr := r.isLt
  unfold ScatterDims.resultIdx?
  split
  · next h =>
    have h0 := (h 0).1
    rw [s0, w0] at h0
    constructor
    · intro q
      have q0 := congrArg Fin.val (congrFun (Option.some.inj q) 0)
      change (scatter_S10000_S320000x1_S320000_n_0_0_1.start (ix1 i) idx 0 + (scatter_S10000_S320000x1_S320000_n_0_0_1.window (ix1 i) 0 : Int)).toNat = r.val at q0
      rw [s0, w0] at q0
      omega
    · intro q0
      refine congrArg some (ext1 _ _ ?_)
      show (scatter_S10000_S320000x1_S320000_n_0_0_1.start (ix1 i) idx 0 + (scatter_S10000_S320000x1_S320000_n_0_0_1.window (ix1 i) 0 : Int)).toNat = r.val
      rw [s0, w0]; omega
  · next h =>
    refine ⟨fun q => (by cases q), fun q => (h fun a => ?_).elim⟩
    match a with
    | ⟨0, _⟩ =>
      show 0 ≤ scatter_S10000_S320000x1_S320000_n_0_0_1.start (ix1 i) idx 0 + (scatter_S10000_S320000x1_S320000_n_0_0_1.window (ix1 i) 0 : Int) ∧ scatter_S10000_S320000x1_S320000_n_0_0_1.start (ix1 i) idx 0 + (scatter_S10000_S320000x1_S320000_n_0_0_1.window (ix1 i) 0 : Int) < ((10000 : ℕ) : Int)
      rw [s0, w0]; omega

variable (num : Fin 320000 → ℕ) (hn : ∀ i, (idx (ix2 i 0)).toInt = (num i : Int))
include hn

/-- A segment sum of rows, at a row and column. -/
theorem scatter2_apply (x : FVec Ideal S10000x128 .f32) (u : FVec Ideal S320000x128 .f32) (r : Fin 10000) (d : Fin 128) :
    (Host.scatterAdd scatter_S10000x128_S320000x1_S320000x128_1_0_0_1 x idx u (ix2 r d) : EReal)
      = (x (ix2 r d) : EReal) + Row.over num r.val fun j => u (ix2 j d) := by
  have e : (Host.scatterAdd scatter_S10000x128_S320000x1_S320000x128_1_0_0_1 x idx u (ix2 r d) : EReal)
      = (x (ix2 r d) : EReal) + ∑ j ∈ Finset.univ.filter (fun j => scatter_S10000x128_S320000x1_S320000x128_1_0_0_1.resultIdx? j idx = some (ix2 r d)), (u j : EReal) := rfl
  rw [e, Finset.sum_filter]
  refine congrArg (_ + ·) ((sum_idx2 _).trans (Finset.sum_congr rfl fun i _ => ?_))
  have hc : ∀ q : Fin 128, (if scatter_S10000x128_S320000x1_S320000x128_1_0_0_1.resultIdx? (ix2 i q) idx = some (ix2 r d) then (u (ix2 i q) : EReal) else 0)
      = if q = d then (if num i = r.val then (u (ix2 i q) : EReal) else 0) else 0 := fun q => by
    have hl := lands2 idx i q r d
    rw [hn i] at hl
    by_cases h1 : num i = r.val
    · by_cases h2 : q = d
      · rw [if_pos (hl.mpr ⟨by omega, h2⟩), if_pos h2, if_pos h1]
      · rw [if_neg (fun h => h2 (hl.mp h).2), if_neg h2]
    · rw [if_neg (fun h => h1 (by have := (hl.mp h).1; omega)), if_neg h1, ite_self]
  rw [Finset.sum_congr rfl fun q _ => hc q, Finset.sum_ite_eq' Finset.univ d, if_pos (Finset.mem_univ _)]

/-- A segment sum of elements, at a row. -/
theorem scatter1_apply (x : FVec Ideal S10000 .f32) (u : FVec Ideal S320000 .f32) (r : Fin 10000) :
    (Host.scatterAdd scatter_S10000_S320000x1_S320000_n_0_0_1 x idx u (ix1 r) : EReal)
      = (x (ix1 r) : EReal) + Row.over num r.val fun j => u (ix1 j) := by
  have e : (Host.scatterAdd scatter_S10000_S320000x1_S320000_n_0_0_1 x idx u (ix1 r) : EReal)
      = (x (ix1 r) : EReal) + ∑ j ∈ Finset.univ.filter (fun j => scatter_S10000_S320000x1_S320000_n_0_0_1.resultIdx? j idx = some (ix1 r)), (u j : EReal) := rfl
  rw [e, Finset.sum_filter]
  refine congrArg (_ + ·) ?_
  let E : Fin 320000 ≃ S320000.Idx := ⟨fun i => ix1 i, fun k => k 0, fun _ => rfl, fun k => (ext1 k (k 0) rfl).symm⟩
  rw [← E.sum_comp]
  refine Finset.sum_congr rfl fun i _ => if_congr ?_ rfl rfl
  show scatter_S10000_S320000x1_S320000_n_0_0_1.resultIdx? (ix1 i) idx = some (ix1 r) ↔ _
  rw [lands1 idx i r, hn i]
  omega

end scatter

variable (x0 : IVec S320000 32) (x1 : FVec Ideal S320000x128 .f32) (x2 : FVec Ideal S320000x1 .f32) (x3 : FVec Ideal S10000x128 .f32)
  (x4 : FVec Ideal S10000x1 .f32)
variable (hr : ∀ j, (x0 j).toNat < 10000)

/-- The segment of row `j`. -/
def seg (j : Fin 320000) : ℕ := (x0 (ix1 j)).toNat

include hr in
theorem word_int (k : S320000.Idx) : (x0 k).toInt = ((x0 k).toNat : Int) := by
  have h := hr k
  rw [BitVec.toInt_eq_toNat_cond, if_pos (by omega)]

include hr in
theorem take0_index (k : S320000.Idx) : val_main_call0_v4 (F := Ideal) x0 k = x0 k := by
  rw [val_main_call0_v4_apply, val_main_call0_v1_apply, val_main_call0_v0_apply, val_main_call0_c_apply]
  unfold Scalar.select
  refine if_neg fun h => ?_
  have h' := IntOp.cmpi_slt.mp h
  rw [word_int x0 hr k] at h'
  have : (0#32 : BitVec 32).toInt = 0 := by decide
  omega

include hr in
theorem take0_start (j : Fin 320000) (u : Fin 1) : val_main_call0_v5 (F := Ideal) x0 (ix2 j u) = x0 (ix1 j) := by
  rw [val_main_call0_v5_apply, take0_index x0 hr]
  exact congrArg x0 (ext1 _ _ rfl)

include hr in
theorem take0_mask (k : S320000.Idx) : val_main_call0_v12 (F := Ideal) x0 k = 1#1 := by
  unfold val_main_call0_v12
  refine Host.reduce_andi_one _ _ _ _ _ rfl fun i => ?_
  obtain ⟨j, u, rfl⟩ : ∃ (j : Fin 320000) (u : Fin 1), i = ix2 j u := ⟨i 0, i 1, ext2 _ _ _ rfl rfl⟩
  rw [val_main_call0_v11_apply, val_main_call0_v7_apply, val_main_call0_v10_apply, take0_start x0 hr, val_main_call0_v6_apply, val_main_call0_c_2_apply,
    val_main_call0_v9_apply, val_main_call0_v8_apply, val_main_call0_c_1_apply]
  have h := hr (ix1 j)
  have hi := word_int x0 hr (ix1 j)
  have z : (0#32 : BitVec 32).toInt = 0 := by decide
  have n : (9999#32 : BitVec 32).toInt = 9999 := by decide
  rw [IntOp.cmpi_sge.mpr (by omega), IntOp.cmpi_sle.mpr (by omega)]
  rfl

include hr in
/-- The anchor row taken for row `j`. -/
theorem take0_apply (j : Fin 320000) (d : Fin 128) : (val_main_v0 (F := Ideal) x0 x3 (ix2 j d) : EReal) = x3 (ix2 ⟨seg x0 j, hr _⟩ d) := by
  rw [val_main_v0_apply, val_main_call0_v14_apply, take0_mask x0 hr]
  refine Eq.trans (if_pos rfl) ?_
  unfold val_main_call0_v13
  exact Routing.gather_row gather_S10000x128_S320000x1_S320000x128_1_0_n_n_0_1_1128 rfl rfl rfl rfl rfl x3 (val_main_call0_v5 (F := Ideal) x0) j d ⟨seg x0 j, hr _⟩
    (by rw [take0_start x0 hr]; simp [seg]) (by decide)

include hr in
theorem take1_index (k : S320000.Idx) : val_main_call1_v4 (F := Ideal) x0 k = x0 k := by
  rw [val_main_call1_v4_apply, val_main_call1_v1_apply, val_main_call1_v0_apply, val_main_call1_c_apply]
  unfold Scalar.select
  refine if_neg fun h => ?_
  have h' := IntOp.cmpi_slt.mp h
  rw [word_int x0 hr k] at h'
  have : (0#32 : BitVec 32).toInt = 0 := by decide
  omega

include hr in
theorem take1_start (j : Fin 320000) (u : Fin 1) : val_main_call1_v5 (F := Ideal) x0 (ix2 j u) = x0 (ix1 j) := by
  rw [val_main_call1_v5_apply, take1_index x0 hr]
  exact congrArg x0 (ext1 _ _ rfl)

include hr in
theorem take1_mask (k : S320000.Idx) : val_main_call1_v12 (F := Ideal) x0 k = 1#1 := by
  unfold val_main_call1_v12
  refine Host.reduce_andi_one _ _ _ _ _ rfl fun i => ?_
  obtain ⟨j, u, rfl⟩ : ∃ (j : Fin 320000) (u : Fin 1), i = ix2 j u := ⟨i 0, i 1, ext2 _ _ _ rfl rfl⟩
  rw [val_main_call1_v11_apply, val_main_call1_v7_apply, val_main_call1_v10_apply, take1_start x0 hr, val_main_call1_v6_apply, val_main_call1_c_2_apply,
    val_main_call1_v9_apply, val_main_call1_v8_apply, val_main_call1_c_1_apply]
  have h := hr (ix1 j)
  have hi := word_int x0 hr (ix1 j)
  have z : (0#32 : BitVec 32).toInt = 0 := by decide
  have n : (9999#32 : BitVec 32).toInt = 9999 := by decide
  rw [IntOp.cmpi_sge.mpr (by omega), IntOp.cmpi_sle.mpr (by omega)]
  rfl

include hr in
/-- The anchor's target taken for row `j`. -/
theorem take1_apply (j : Fin 320000) (d : Fin 1) : (val_main_v2 (F := Ideal) x0 x4 (ix2 j d) : EReal) = x4 (ix2 ⟨seg x0 j, hr _⟩ d) := by
  rw [val_main_v2_apply, val_main_call1_v14_apply, take1_mask x0 hr]
  refine Eq.trans (if_pos rfl) ?_
  unfold val_main_call1_v13
  exact Routing.gather_row gather_S10000x1_S320000x1_S320000x1_1_0_n_n_0_1_11 rfl rfl rfl rfl rfl x4 (val_main_call1_v5 (F := Ideal) x0) j d ⟨seg x0 j, hr _⟩
    (by rw [take1_start x0 hr]; simp [seg]) (by decide)

include hr in
theorem scatter_index7 (j : Fin 320000) : (val_main_v7 (F := Ideal) x0 (ix2 j 0)).toInt = (seg x0 j : Int) := by
  rw [val_main_v7_apply]
  exact (word_int x0 hr _).trans (congrArg (fun k => ((x0 k).toNat : Int)) (ext1 _ _ rfl))
include hr in
theorem scatter_index11 (j : Fin 320000) : (val_main_v11 (F := Ideal) x0 (ix2 j 0)).toInt = (seg x0 j : Int) := by
  rw [val_main_v11_apply]
  exact (word_int x0 hr _).trans (congrArg (fun k => ((x0 k).toNat : Int)) (ext1 _ _ rfl))
include hr in
theorem scatter_index17 (j : Fin 320000) : (val_main_v17 (F := Ideal) x0 (ix2 j 0)).toInt = (seg x0 j : Int) := by
  rw [val_main_v17_apply]
  exact (word_int x0 hr _).trans (congrArg (fun k => ((x0 k).toNat : Int)) (ext1 _ _ rfl))
include hr in
theorem scatter_index22 (j : Fin 320000) : (val_main_v22 (F := Ideal) x0 (ix2 j 0)).toInt = (seg x0 j : Int) := by
  rw [val_main_v22_apply]
  exact (word_int x0 hr _).trans (congrArg (fun k => ((x0 k).toNat : Int)) (ext1 _ _ rfl))

include hr in
/-- The product of a row's difference from its anchor and its target's difference. -/
theorem prod_apply (j : Fin 320000) (d : Fin 128) : (val_main_v5 (F := Ideal) x0 x1 x2 x3 x4 (ix2 j d) : EReal)
    = ((x1 (ix2 j d) : EReal) - x3 (ix2 ⟨seg x0 j, hr _⟩ d)) * ((x2 (ix2 j 0) : EReal) - x4 (ix2 ⟨seg x0 j, hr _⟩ 0)) := by
  have e : (val_main_v5 (F := Ideal) x0 x1 x2 x3 x4 (ix2 j d) : EReal)
      = ((x1 (ix2 j d) : EReal) - val_main_v0 (F := Ideal) x0 x3 (ix2 j d)) * (val_main_v4 (F := Ideal) x0 x2 x4 (ix2 j d)) := rfl
  have e4 : (val_main_v4 (F := Ideal) x0 x2 x4 (ix2 j d) : EReal) = (x2 (ix2 j 0) : EReal) - val_main_v2 (F := Ideal) x0 x4 (ix2 j 0) := by
    rw [val_main_v4_apply, ext2 (idx_main_v4 (ix2 j d)) j 0 rfl rfl]; rfl
  rw [e, e4, take0_apply x0 x3 hr, take1_apply x0 x4 hr]

include hr in
/-- The difference row's sum. -/
theorem diffSum_apply (j : Fin 320000) : (val_main_v15 (F := Ideal) x0 x1 x3 (ix1 j) : EReal)
    = 0 + ∑ d : Fin 128, ((x1 (ix2 j d) : EReal) - x3 (ix2 ⟨seg x0 j, hr _⟩ d)) := by
  rw [val_main_v15_apply]
  refine congrArg₂ (· + ·) Ideal.ofBits_zero_f32 (Finset.sum_congr rfl fun d _ => ?_)
  rw [ext2 (idx_main_v15 (ix1 j) d) j d rfl rfl, ← take0_apply x0 x3 hr]
  rfl

include hr in
/-- The difference row's sum of squares. -/
theorem sqSum_apply (j : Fin 320000) : (val_main_v20 (F := Ideal) x0 x1 x3 (ix1 j) : EReal)
    = 0 + ∑ d : Fin 128, ((x1 (ix2 j d) : EReal) - x3 (ix2 ⟨seg x0 j, hr _⟩ d)) * ((x1 (ix2 j d) : EReal) - x3 (ix2 ⟨seg x0 j, hr _⟩ d)) := by
  rw [val_main_v20_apply]
  refine congrArg₂ (· + ·) Ideal.ofBits_zero_f32 (Finset.sum_congr rfl fun d _ => ?_)
  rw [ext2 (idx_main_v20 (ix1 j) d) j d rfl rfl, ← take0_apply x0 x3 hr]
  rfl

/-- The reference's representation at row `r`, column `d`, read off the arguments. -/
def repRow (r : Fin 10000) (d : Fin 128) : EReal :=
  Row.invVar ((0 + Row.over (seg x0) r.val fun _ => Row.c1) * Row.c128)
      (0 + Row.over (seg x0) r.val fun j => 0 + ∑ d : Fin 128, ((x1 (ix2 j d) : EReal) - x3 (ix2 r d)))
      (0 + Row.over (seg x0) r.val fun j => 0 + ∑ d : Fin 128, ((x1 (ix2 j d) : EReal) - x3 (ix2 r d)) * ((x1 (ix2 j d) : EReal) - x3 (ix2 r d)))
    * (0 + Row.over (seg x0) r.val fun j => ((x1 (ix2 j d) : EReal) - x3 (ix2 r d)) * ((x2 (ix2 j 0) : EReal) - x4 (ix2 r 0)))

include hr in
theorem rep0_apply (r : Fin 10000) (d : Fin 128) : (val_main_v8 (F := Ideal) x0 x1 x2 x3 x4 (ix2 r d) : EReal)
    = 0 + Row.over (seg x0) r.val fun j => ((x1 (ix2 j d) : EReal) - x3 (ix2 r d)) * ((x2 (ix2 j 0) : EReal) - x4 (ix2 r 0)) := by
  unfold val_main_v8
  rw [scatter2_apply _ (seg x0) (scatter_index7 x0 hr)]
  refine congrArg₂ (· + ·) Ideal.ofBits_zero_f32 (Row.over_congr fun j hj => ?_)
  rw [prod_apply x0 x1 x2 x3 x4 hr, show (⟨seg x0 j, hr _⟩ : Fin 10000) = r from Fin.ext hj]

include hr in
theorem count_apply (r : Fin 10000) : (val_main_v12 (F := Ideal) x0 (ix1 r) : EReal) = 0 + Row.over (seg x0) r.val fun _ => Row.c1 := by
  unfold val_main_v12
  rw [scatter1_apply _ (seg x0) (scatter_index11 x0 hr)]
  exact congrArg₂ (· + ·) Ideal.ofBits_zero_f32 rfl

include hr in
theorem sum_apply (r : Fin 10000) : (val_main_v18 (F := Ideal) x0 x1 x3 (ix1 r) : EReal)
    = 0 + Row.over (seg x0) r.val fun j => 0 + ∑ d : Fin 128, ((x1 (ix2 j d) : EReal) - x3 (ix2 r d)) := by
  unfold val_main_v18
  rw [scatter1_apply _ (seg x0) (scatter_index17 x0 hr)]
  refine congrArg₂ (· + ·) Ideal.ofBits_zero_f32 (Row.over_congr fun j hj => ?_)
  rw [diffSum_apply x0 x1 x3 hr, show (⟨seg x0 j, hr _⟩ : Fin 10000) = r from Fin.ext hj]

include hr in
theorem sq_apply (r : Fin 10000) : (val_main_v23 (F := Ideal) x0 x1 x3 (ix1 r) : EReal)
    = 0 + Row.over (seg x0) r.val fun j => 0 + ∑ d : Fin 128, ((x1 (ix2 j d) : EReal) - x3 (ix2 r d)) * ((x1 (ix2 j d) : EReal) - x3 (ix2 r d)) := by
  unfold val_main_v23
  rw [scatter1_apply _ (seg x0) (scatter_index22 x0 hr)]
  refine congrArg₂ (· + ·) Ideal.ofBits_zero_f32 (Row.over_congr fun j hj => ?_)
  rw [sqSum_apply x0 x1 x3 hr, show (⟨seg x0 j, hr _⟩ : Fin 10000) = r from Fin.ext hj]

/-- One over the variance, from the three sums. -/
theorem invVar_apply (k : S10000.Idx) : (val_main_v36 (F := Ideal) x0 x1 x3 k : EReal)
    = Row.invVar ((val_main_v12 (F := Ideal) x0 k : EReal) * Row.c128) (val_main_v18 (F := Ideal) x0 x1 x3 k) (val_main_v23 (F := Ideal) x0 x1 x3 k) := by
  simp only [val_main_v36_apply, val_main_v35_apply, val_main_v34_apply, val_main_v33_apply, val_main_v32_apply, val_main_v31_apply, val_main_v30_apply, val_main_v29_apply,
    val_main_v28_apply, val_main_v27_apply, val_main_v26_apply, val_main_v25_apply, val_main_v24_apply, val_main_v14_apply, val_main_v13_apply]
  rfl

include hr in
/-- The first result's row. -/
theorem rep_apply (r : Fin 10000) (d : Fin 128) : (val_main_v39 (F := Ideal) x0 x1 x2 x3 x4 (ix2 r d) : EReal) = repRow x0 x1 x2 x3 x4 r d := by
  have e : (val_main_v39 (F := Ideal) x0 x1 x2 x3 x4 (ix2 r d) : EReal)
      = (val_main_v38 (F := Ideal) x0 x1 x3 (ix2 r d) : EReal) * val_main_v8 (F := Ideal) x0 x1 x2 x3 x4 (ix2 r d) := rfl
  have e38 : (val_main_v38 (F := Ideal) x0 x1 x3 (ix2 r d) : EReal) = val_main_v36 (F := Ideal) x0 x1 x3 (ix1 r) := by
    rw [val_main_v38_apply, val_main_v37_apply]
    exact congrArg _ (ext1 _ _ rfl)
  rw [e, e38, invVar_apply, count_apply x0 hr, sum_apply x0 x1 x3 hr, sq_apply x0 x1 x3 hr, rep0_apply x0 x1 x2 x3 x4 hr]
  rfl

end Cert.ReferenceIdeal.Rows
end
-- ==== Proof.RefHead.lean ====
/-
  The reference's results at the extended reals, row by row: the perceptron over the representation row, the shape
  parameters, the scale and the mixture.
-/
module

public import proofs.«01_k».proof.Proof.RefRows
public import Idealize.ShloMosaic.Lib.KernelVsHost

@[expose] public section

noncomputable section

namespace Cert.ReferenceIdeal.Rows

open Cert.ReferenceIdeal Cert.ReferenceIdeal.Gen Cert.ReferenceIdeal.Read
open Idealize.ShloMosaic Idealize.ShloMosaic.ValueIdx

variable (x0 : IVec S320000 32) (x1 : FVec Ideal S320000x128 .f32) (x2 : FVec Ideal S320000x1 .f32) (x3 : FVec Ideal S10000x128 .f32)
  (x4 : FVec Ideal S10000x1 .f32) (x5 : FVec Ideal S128x256 .f32) (x6 : FVec Ideal S256 .f32) (x7 : FVec Ideal S256x18 .f32) (x8 : FVec Ideal S18 .f32)
variable (hr : ∀ j, (x0 j).toNat < 10000)

/-- The reference's perceptron output `o` of row `r`. -/
def rawRow (r : Fin 10000) (o : Fin 18) : EReal :=
  Row.output (repRow x0 x1 x2 x3 x4 r) (fun d h => x5 (ix2 d h)) (fun h => x6 (ix1 h)) (fun h o => x7 (ix2 h o)) (fun o => x8 (ix1 o)) o

include hr in
theorem hidden_apply (r : Fin 10000) (h : Fin 256) : (val_main_v44 (F := Ideal) x0 x1 x2 x3 x4 x5 x6 (ix2 r h) : EReal)
    = Row.hidden (repRow x0 x1 x2 x3 x4 r) (fun d h => x5 (ix2 d h)) (fun h => x6 (ix1 h)) h := by
  have e : (val_main_v44 (F := Ideal) x0 x1 x2 x3 x4 x5 x6 (ix2 r h) : EReal)
      = Ideal.tanh ((val_main_v40 (F := Ideal) x0 x1 x2 x3 x4 x5 (ix2 r h) : EReal) + val_main_v42 (F := Ideal) x6 (ix2 r h)) := by
    rw [val_main_v44_apply, val_main_v43_apply]
    generalize val_main_v40 (F := Ideal) x0 x1 x2 x3 x4 x5 (ix2 r h) = a
    generalize val_main_v42 (F := Ideal) x6 (ix2 r h) = b
    rfl
  have e42 : (val_main_v42 (F := Ideal) x6 (ix2 r h) : EReal) = x6 (ix1 h) := by
    rw [val_main_v42_apply, val_main_v41_apply]; exact congrArg x6 (ext1 _ _ rfl)
  rw [e, e42, val_main_v40_apply]
  unfold Row.hidden
  refine congrArg (fun z => Ideal.tanh (z + (x6 (ix1 h) : EReal))) (Finset.sum_congr rfl fun d _ => ?_)
  rw [ext2 (lidx_main_v40 (ix2 r h) d) r d rfl rfl, ext2 (ridx_main_v40 (ix2 r h) d) d h rfl rfl, rep_apply x0 x1 x2 x3 x4 hr]

include hr in
theorem raw_apply (r : Fin 10000) (o : Fin 18) : (val_main_v48 (F := Ideal) x0 x1 x2 x3 x4 x5 x6 x7 x8 (ix2 r o) : EReal) = rawRow x0 x1 x2 x3 x4 x5 x6 x7 x8 r o := by
  have e : (val_main_v48 (F := Ideal) x0 x1 x2 x3 x4 x5 x6 x7 x8 (ix2 r o) : EReal)
      = (val_main_v45 (F := Ideal) x0 x1 x2 x3 x4 x5 x6 x7 (ix2 r o) : EReal) + val_main_v47 (F := Ideal) x8 (ix2 r o) := rfl
  have e47 : (val_main_v47 (F := Ideal) x8 (ix2 r o) : EReal) = x8 (ix1 o) := by
    rw [val_main_v47_apply, val_main_v46_apply]; exact congrArg x8 (ext1 _ _ rfl)
  rw [e, e47, val_main_v45_apply]
  unfold rawRow Row.output
  refine congrArg (· + (x8 (ix1 o) : EReal)) (Finset.sum_congr rfl fun h _ => ?_)
  rw [ext2 (lidx_main_v45 (ix2 r o) h) r h rfl rfl, ext2 (ridx_main_v45 (ix2 r o) h) h o rfl rfl, hidden_apply x0 x1 x2 x3 x4 x5 x6 hr]

/-- The reference's softplus of a value: what it selects when the value is not a number is never taken. -/
theorem soft_of (v : EReal) (q : EReal) :
    Scalar.select (Ideal.cmp .une (v - 0) (v - 0)) q (max v 0 + Ideal.log1p (Ideal.exp (-(max (v - 0) (-(v - 0)))))) = Row.soft v := by
  have h0 : v - 0 = v := by rw [sub_eq_add_neg, neg_zero, add_zero]
  have hc : Ideal.cmp .une v v = 0#1 := by simp [Ideal.cmp]
  rw [h0, hc]
  rfl

include hr in
/-- The fourth result's row. -/
theorem alpha_apply (r : Fin 10000) : (val_main_v56 (F := Ideal) x0 x1 x2 x3 x4 x5 x6 x7 x8 (ix2 r 0) : EReal)
    = Row.shapePar (rawRow x0 x1 x2 x3 x4 x5 x6 x7 x8 r 0) := by
  have e49 : (val_main_v49 (F := Ideal) x0 x1 x2 x3 x4 x5 x6 x7 x8 (ix2 r 0) : EReal) = rawRow x0 x1 x2 x3 x4 x5 x6 x7 x8 r 0 := by
    rw [val_main_v49_apply, ext2 (idx_main_v49 (ix2 r 0)) r 0 rfl rfl, raw_apply x0 x1 x2 x3 x4 x5 x6 x7 x8 hr]
  have e52 : (val_main_v52 (F := Ideal) x0 x1 x2 x3 x4 x5 x6 x7 x8 (ix2 r 0) : EReal) = Row.soft (rawRow x0 x1 x2 x3 x4 x5 x6 x7 x8 r 0) := by
    simp only [val_main_v52_apply, val_main_call2_v11_apply, val_main_call2_v10_apply, val_main_call2_v9_apply, val_main_call2_v8_apply, val_main_call2_v7_apply, val_main_call2_v6_apply, val_main_call2_v5_apply, val_main_call2_v4_apply, val_main_call2_v3_apply, val_main_call2_v2_apply, val_main_call2_v1_apply, val_main_call2_v0_apply, val_main_call2_cst_apply]
    rw [← e49]
    generalize val_main_v49 (F := Ideal) x0 x1 x2 x3 x4 x5 x6 x7 x8 (ix2 r 0) = v
    rw [← soft_of v ((v : EReal) + 0), ← Ideal.ofBits_zero_f32]
    rfl
  refine Eq.trans ?_ (congrArg (fun s => s * Row.cScale + Row.cEps) e52)
  simp only [val_main_v56_apply, val_main_v55_apply, val_main_v54_apply, val_main_v53_apply]
  generalize val_main_v52 (F := Ideal) x0 x1 x2 x3 x4 x5 x6 x7 x8 (ix2 r 0) = v
  rfl

include hr in
/-- The fifth result's row. -/
theorem beta_apply (r : Fin 10000) : (val_main_v61 (F := Ideal) x0 x1 x2 x3 x4 x5 x6 x7 x8 (ix2 r 0) : EReal)
    = Row.shapePar (rawRow x0 x1 x2 x3 x4 x5 x6 x7 x8 r 1) := by
  have e50 : (val_main_v50 (F := Ideal) x0 x1 x2 x3 x4 x5 x6 x7 x8 (ix2 r 0) : EReal) = rawRow x0 x1 x2 x3 x4 x5 x6 x7 x8 r 1 := by
    rw [val_main_v50_apply, ext2 (idx_main_v50 (ix2 r 0)) r 1 rfl rfl, raw_apply x0 x1 x2 x3 x4 x5 x6 x7 x8 hr]
  have e57 : (val_main_v57 (F := Ideal) x0 x1 x2 x3 x4 x5 x6 x7 x8 (ix2 r 0) : EReal) = Row.soft (rawRow x0 x1 x2 x3 x4 x5 x6 x7 x8 r 1) := by
    simp only [val_main_v57_apply, val_main_call3_v11_apply, val_main_call3_v10_apply, val_main_call3_v9_apply, val_main_call3_v8_apply, val_main_call3_v7_apply, val_main_call3_v6_apply, val_main_call3_v5_apply, val_main_call3_v4_apply, val_main_call3_v3_apply, val_main_call3_v2_apply, val_main_call3_v1_apply, val_main_call3_v0_apply, val_main_call3_cst_apply]
    rw [← e50]
    generalize val_main_v50 (F := Ideal) x0 x1 x2 x3 x4 x5 x6 x7 x8 (ix2 r 0) = v
    rw [← soft_of v ((v : EReal) + 0), ← Ideal.ofBits_zero_f32]
    rfl
  refine Eq.trans ?_ (congrArg (fun s => s * Row.cScale + Row.cEps) e57)
  simp only [val_main_v61_apply, val_main_v60_apply, val_main_v59_apply, val_main_v58_apply]
  generalize val_main_v57 (F := Ideal) x0 x1 x2 x3 x4 x5 x6 x7 x8 (ix2 r 0) = v
  rfl

include hr in
/-- The third result's row. -/
theorem scale_apply (r : Fin 10000) : (val_main_v65 (F := Ideal) x0 x1 x2 x3 x4 x5 x6 x7 x8 (ix2 r 0) : EReal)
    = Ideal.sqrt (Ideal.div Row.c1 (Ideal.div (Row.shapePar (rawRow x0 x1 x2 x3 x4 x5 x6 x7 x8 r 0)) (Row.shapePar (rawRow x0 x1 x2 x3 x4 x5 x6 x7 x8 r 1)))) := by
  rw [← alpha_apply x0 x1 x2 x3 x4 x5 x6 x7 x8 hr, ← beta_apply x0 x1 x2 x3 x4 x5 x6 x7 x8 hr]
  simp only [val_main_v65_apply, val_main_v64_apply, val_main_v63_apply, val_main_v62_apply]
  generalize val_main_v56 (F := Ideal) x0 x1 x2 x3 x4 x5 x6 x7 x8 (ix2 r 0) = a
  generalize val_main_v61 (F := Ideal) x0 x1 x2 x3 x4 x5 x6 x7 x8 (ix2 r 0) = b
  rfl

include hr in
theorem mixRaw_apply (r : Fin 10000) (k : Fin 16) : (val_main_v51 (F := Ideal) x0 x1 x2 x3 x4 x5 x6 x7 x8 (ix2 r k) : EReal)
    = rawRow x0 x1 x2 x3 x4 x5 x6 x7 x8 r ⟨k.val + 2, by omega⟩ := by
  rw [val_main_v51_apply, ext2 (idx_main_v51 (ix2 r k)) r ⟨k.val + 2, by omega⟩ rfl (Nat.add_comm _ _), raw_apply x0 x1 x2 x3 x4 x5 x6 x7 x8 hr]

theorem lift_row (h : S10000x16.Reduces [1] S10000) (i : Fin 10000) (k : Fin 16) : h.lift (ix1 i) k = ix2 i k := by
  funext c; apply Fin.ext
  fin_cases c <;> rfl

theorem reduces16 : S10000x16.Reduces [1] S10000 := by decide

theorem maxOf_apply (v : FVec Ideal S10000x16 .f32) (r : Fin 10000) :
    (Host.reduce (FloatOps.maximumf : Ideal .f32 → Ideal .f32 → Ideal .f32) v (constant (F := Ideal) S_ .f32 0xFF800000#32) reducesTo_S10000x16_S10000_d1 h_S_ (ix1 r) : EReal)
      = (Finset.univ : Finset (Fin 16)).fold max Row.cBot fun k => (v (ix2 r k) : EReal) := by
  refine (congrFun (hostReduce_maximumf_eq_multiReduction v 0xFF800000#32 reducesTo_S10000x16_S10000_d1 h_S_ reduces16 (.inl rfl) rfl) (ix1 r)).trans ?_
  refine (Ideal.multiReduction_maximumf_single _ _ _ _ _ _).trans ?_
  exact congrArg (fun f => (Finset.univ : Finset (Fin 16)).fold max Row.cBot f) (funext fun k => congrArg v (lift_row reduces16 r k))

include hr in
theorem max_apply (r : Fin 10000) : (val_main_v66 (F := Ideal) x0 x1 x2 x3 x4 x5 x6 x7 x8 (ix1 r) : EReal)
    = (Finset.univ : Finset (Fin 16)).fold max Row.cBot fun k => rawRow x0 x1 x2 x3 x4 x5 x6 x7 x8 r ⟨k.val + 2, by omega⟩ := by
  unfold val_main_v66 val_main_cst_16
  rw [maxOf_apply]
  exact congrArg (fun f => (Finset.univ : Finset (Fin 16)).fold max Row.cBot f) (funext fun k => mixRaw_apply x0 x1 x2 x3 x4 x5 x6 x7 x8 hr r k)

theorem cBot_eq : Row.cBot = ⊥ := by
  simp [Row.cBot, Ideal.ofBits, Ideal.ieee]

include hr in
theorem mixExp_apply (r : Fin 10000) (k : Fin 16) : (val_main_v72 (F := Ideal) x0 x1 x2 x3 x4 x5 x6 x7 x8 (ix2 r k) : EReal)
    = Ideal.exp (rawRow x0 x1 x2 x3 x4 x5 x6 x7 x8 r ⟨k.val + 2, by omega⟩
        - (Finset.univ : Finset (Fin 16)).fold max Row.cBot fun k => rawRow x0 x1 x2 x3 x4 x5 x6 x7 x8 r ⟨k.val + 2, by omega⟩) := by
  have e : (val_main_v72 (F := Ideal) x0 x1 x2 x3 x4 x5 x6 x7 x8 (ix2 r k) : EReal)
      = Ideal.exp ((val_main_v51 (F := Ideal) x0 x1 x2 x3 x4 x5 x6 x7 x8 (ix2 r k) : EReal) - val_main_v70 (F := Ideal) x0 x1 x2 x3 x4 x5 x6 x7 x8 (ix2 r k)) := by
    rw [val_main_v72_apply, val_main_v71_apply]
    generalize val_main_v51 (F := Ideal) x0 x1 x2 x3 x4 x5 x6 x7 x8 (ix2 r k) = a
    generalize val_main_v70 (F := Ideal) x0 x1 x2 x3 x4 x5 x6 x7 x8 (ix2 r k) = b
    rfl
  have e70 : (val_main_v70 (F := Ideal) x0 x1 x2 x3 x4 x5 x6 x7 x8 (ix2 r k) : EReal)
      = max Row.cBot (val_main_v66 (F := Ideal) x0 x1 x2 x3 x4 x5 x6 x7 x8 (ix1 r)) := by
    rw [val_main_v70_apply, val_main_v69_apply, ext1 (idx_main_v69 (idx_main_v70 (ix2 r k))) r rfl, val_main_v68_apply, val_main_v67_apply, val_main_cst_17_apply]
    generalize val_main_v66 (F := Ideal) x0 x1 x2 x3 x4 x5 x6 x7 x8 (ix1 r) = a
    rfl
  rw [e, e70, max_apply x0 x1 x2 x3 x4 x5 x6 x7 x8 hr, mixRaw_apply x0 x1 x2 x3 x4 x5 x6 x7 x8 hr, max_eq_right (by rw [cBot_eq]; exact bot_le)]

include hr in
/-- The second result's row. -/
theorem mix_apply (r : Fin 10000) (k : Fin 16) : (val_main_v76 (F := Ideal) x0 x1 x2 x3 x4 x5 x6 x7 x8 (ix2 r k) : EReal)
    = Row.mixture (fun k => rawRow x0 x1 x2 x3 x4 x5 x6 x7 x8 r ⟨k.val + 2, by omega⟩) k := by
  have e : (val_main_v76 (F := Ideal) x0 x1 x2 x3 x4 x5 x6 x7 x8 (ix2 r k) : EReal)
      = Ideal.div (val_main_v72 (F := Ideal) x0 x1 x2 x3 x4 x5 x6 x7 x8 (ix2 r k)) (val_main_v75 (F := Ideal) x0 x1 x2 x3 x4 x5 x6 x7 x8 (ix2 r k)) := by
    rw [val_main_v76_apply]
    generalize val_main_v72 (F := Ideal) x0 x1 x2 x3 x4 x5 x6 x7 x8 (ix2 r k) = a
    generalize val_main_v75 (F := Ideal) x0 x1 x2 x3 x4 x5 x6 x7 x8 (ix2 r k) = b
    rfl
  have e75 : (val_main_v75 (F := Ideal) x0 x1 x2 x3 x4 x5 x6 x7 x8 (ix2 r k) : EReal)
      = 0 + ∑ l : Fin 16, (val_main_v72 (F := Ideal) x0 x1 x2 x3 x4 x5 x6 x7 x8 (ix2 r l) : EReal) := by
    rw [val_main_v75_apply, val_main_v74_apply, ext1 (idx_main_v74 (idx_main_v75 (ix2 r k))) r rfl, val_main_v73_apply]
    refine congrArg₂ (· + ·) Ideal.ofBits_zero_f32 (Finset.sum_congr rfl fun l _ => ?_)
    rw [ext2 (idx_main_v73 (ix1 r) l) r l rfl rfl]
  rw [e, e75, zero_add, mixExp_apply x0 x1 x2 x3 x4 x5 x6 x7 x8 hr]
  unfold Row.mixture
  exact congrArg _ (Finset.sum_congr rfl fun l _ => mixExp_apply x0 x1 x2 x3 x4 x5 x6 x7 x8 hr r l)

end Cert.ReferenceIdeal.Rows
end
-- ==== Proof.Algebraic.lean ====
/-
  The value claim: at the extended reals, under the second precondition, the kernel and the reference leave equal results
  from equal arguments, and both leave their arguments as they were.
-/
module

public import proofs.«01_k».proof.Proof.KernelRows
public import proofs.«01_k».proof.Proof.RefHead
public import proofs.«01_k».proof.Proof.FramesFinite

@[expose] public section

noncomputable section

namespace Cert.Agree

open Idealize.ShloMosaic Idealize.ShloMosaic.TcCoe Idealize.ShloMosaic.ValueIdx
open Idealize.SL Idealize.SL.Sem
open Idealize.ShloMosaic.StableHlo (launchContents)
open Cert.KernelIdeal.RunMain (ArgInRange outs0 dat1)
open Cert.KernelIdeal.Gen (V3)
open Cert.KernelIdeal.Rows (a0 a1 a2 a3 a4 a5 a6 a7 a8)

section rows

variable (m : (ℓ : Loc Cert.KernelIdeal.nD Cert.KernelIdeal.τ Cert.KernelIdeal.sig) → Buf (Elt Ideal) ℓ)
  (hm : ArgInRange (F := Ideal) m) (c : Dev Cert.KernelIdeal.nD)
  (hy : ∀ j, Row.Real' (a2 m c j)) (hay : ∀ j, Row.Real' (a4 m c j))

include hy hay

/-- The two programs' representations of a segment. -/
theorem rep_agree (r : Fin 10000) (d : Fin 128) :
    Cert.KernelIdeal.Head.rep (V3 m (outs0 m hm)) c r d = Cert.ReferenceIdeal.Rows.repRow (a0 m c) (a1 m c) (a2 m c) (a3 m c) (a4 m c) r d :=
  (Cert.KernelIdeal.Rows.rep_eq m hm c r d).trans
    (Row.rep_eq (Cert.KernelIdeal.Rows.num m c) r.val (fun j d => (a1 m c) (ix2 j d)) (fun j => (a2 m c) (ix2 j 0)) (fun d => (a3 m c) (ix2 r d)) ((a4 m c) (ix2 r 0)) (fun _ => hy _) (hay _) d)

/-- The two programs' perceptron outputs of a segment. -/
theorem raw_agree (r : Fin 10000) (o : Fin 18) :
    Cert.KernelIdeal.Head.raw (V3 m (outs0 m hm)) c r o = Cert.ReferenceIdeal.Rows.rawRow (a0 m c) (a1 m c) (a2 m c) (a3 m c) (a4 m c) (a5 m c) (a6 m c) (a7 m c) (a8 m c) r o := by
  rw [Cert.KernelIdeal.Rows.raw_eq]
  refine Cert.KernelIdeal.Head.output_of (fun d => ?_) (fun _ _ => rfl) (fun _ => rfl) (fun _ _ => rfl) (fun _ => rfl) o
  exact (Cert.KernelIdeal.Rows.rep_eq m hm c r d).symm.trans (rep_agree m hm c hy hay r d)

/-- The first results agree. -/
theorem first : ((dat1 m hm c).arrAt 10 Cert.KernelIdeal.cfg1.N : FVec Ideal Cert.KernelIdeal.S10000x128 .f32)
    = Cert.ReferenceIdeal.Read.val_main_v39 (F := Ideal) (a0 m c) (a1 m c) (a2 m c) (a3 m c) (a4 m c) := by
  refine (Cert.KernelIdeal.Head.arr_10 (V3 m (outs0 m hm)) c).trans (funext fun k => ?_)
  obtain ⟨r, d, rfl⟩ := Cert.KernelIdeal.Head.ext2 (a := 10000) (b := 128) k
  exact (rep_agree m hm c hy hay r d).trans (Cert.ReferenceIdeal.Rows.rep_apply (a0 m c) (a1 m c) (a2 m c) (a3 m c) (a4 m c) (hm c) r d).symm

/-- The second results agree. -/
theorem second : ((dat1 m hm c).arrAt 11 Cert.KernelIdeal.cfg1.N : FVec Ideal Cert.KernelIdeal.S10000x16 .f32)
    = Cert.ReferenceIdeal.Read.val_main_v76 (F := Ideal) (a0 m c) (a1 m c) (a2 m c) (a3 m c) (a4 m c) (a5 m c) (a6 m c) (a7 m c) (a8 m c) := by
  refine (Cert.KernelIdeal.Head.arr_11 (V3 m (outs0 m hm)) c).trans (funext fun k => ?_)
  obtain ⟨r, d, rfl⟩ := Cert.KernelIdeal.Head.ext2 (a := 10000) (b := 16) k
  exact (congrArg (fun v => Row.mixture v d) (funext fun l => raw_agree m hm c hy hay r ⟨l.val + 2, by omega⟩)).trans
    (Cert.ReferenceIdeal.Rows.mix_apply (a0 m c) (a1 m c) (a2 m c) (a3 m c) (a4 m c) (a5 m c) (a6 m c) (a7 m c) (a8 m c) (hm c) r d).symm

/-- The third results agree, the first perceptron output real. -/
theorem third (hw : ∀ h : Fin 256, Row.Real' ((a7 m c) (ix2 h 0))) (hb : Row.Real' ((a8 m c) (ix1 0))) :
    ((dat1 m hm c).arrAt 12 Cert.KernelIdeal.cfg1.N : FVec Ideal Cert.KernelIdeal.S10000x1 .f32)
    = Cert.ReferenceIdeal.Read.val_main_v65 (F := Ideal) (a0 m c) (a1 m c) (a2 m c) (a3 m c) (a4 m c) (a5 m c) (a6 m c) (a7 m c) (a8 m c) := by
  refine (Cert.KernelIdeal.Head.arr_12 (V3 m (outs0 m hm)) c).trans (funext fun k => ?_)
  obtain ⟨r, d, rfl⟩ := Cert.KernelIdeal.Head.ext2 (a := 10000) (b := 1) k
  obtain rfl : d = 0 := Subsingleton.elim _ _
  refine Eq.trans ?_ (Cert.ReferenceIdeal.Rows.scale_apply (a0 m c) (a1 m c) (a2 m c) (a3 m c) (a4 m c) (a5 m c) (a6 m c) (a7 m c) (a8 m c) (hm c) r).symm
  refine (congrArg₂ (fun a b => Ideal.sqrt (Ideal.div (Row.shapePar b) (Row.shapePar a))) (raw_agree m hm c hy hay r 0) (raw_agree m hm c hy hay r 1)).trans ?_
  exact Row.scale_eq (Row.output_real _ _ _ _ _ 0 hw hb) _

/-- The fourth results agree. -/
theorem fourth : ((dat1 m hm c).arrAt 13 Cert.KernelIdeal.cfg1.N : FVec Ideal Cert.KernelIdeal.S10000x1 .f32)
    = Cert.ReferenceIdeal.Read.val_main_v56 (F := Ideal) (a0 m c) (a1 m c) (a2 m c) (a3 m c) (a4 m c) (a5 m c) (a6 m c) (a7 m c) (a8 m c) := by
  refine (Cert.KernelIdeal.Head.arr_13 (V3 m (outs0 m hm)) c).trans (funext fun k => ?_)
  obtain ⟨r, d, rfl⟩ := Cert.KernelIdeal.Head.ext2 (a := 10000) (b := 1) k
  obtain rfl : d = 0 := Subsingleton.elim _ _
  exact (congrArg Row.shapePar (raw_agree m hm c hy hay r 0)).trans (Cert.ReferenceIdeal.Rows.alpha_apply (a0 m c) (a1 m c) (a2 m c) (a3 m c) (a4 m c) (a5 m c) (a6 m c) (a7 m c) (a8 m c) (hm c) r).symm

/-- The fifth results agree. -/
theorem fifth : ((dat1 m hm c).arrAt 14 Cert.KernelIdeal.cfg1.N : FVec Ideal Cert.KernelIdeal.S10000x1 .f32)
    = Cert.ReferenceIdeal.Read.val_main_v61 (F := Ideal) (a0 m c) (a1 m c) (a2 m c) (a3 m c) (a4 m c) (a5 m c) (a6 m c) (a7 m c) (a8 m c) := by
  refine (Cert.KernelIdeal.Head.arr_14 (V3 m (outs0 m hm)) c).trans (funext fun k => ?_)
  obtain ⟨r, d, rfl⟩ := Cert.KernelIdeal.Head.ext2 (a := 10000) (b := 1) k
  obtain rfl : d = 0 := Subsingleton.elim _ _
  exact (congrArg Row.shapePar (raw_agree m hm c hy hay r 1)).trans (Cert.ReferenceIdeal.Rows.beta_apply (a0 m c) (a1 m c) (a2 m c) (a3 m c) (a4 m c) (a5 m c) (a6 m c) (a7 m c) (a8 m c) (hm c) r).symm

end rows

/-- The value claim, all five results. -/
theorem algebraic : Cert.algebraic_KernelIdeal_ReferenceIdeal_pre_range_and_finite := by
  intro m g m' g' hpre hargs
  have hm : ArgInRange (F := Ideal) m := Cert.Frames.range_of_finite m hpre
  have hf := fun c => Cert.PreRead.range_finite _ _ _ _ _ _ _ _ _ (hpre c)
  have hy : ∀ c, ∀ j, Row.Real' (a2 m c j) := fun c => (hf c).2.1
  have hay : ∀ c, ∀ j, Row.Real' (a4 m c j) := fun c => (hf c).2.2.1
  have hw : ∀ c, ∀ h : Fin 256, Row.Real' (a7 m c (ix2 h 0)) := fun c => (hf c).2.2.2.1
  have hb : ∀ c, Row.Real' (a8 m c (ix1 0)) := fun c => (hf c).2.2.2.2
  refine ⟨fun c => (dat1 m hm c).arrAt 10 Cert.KernelIdeal.cfg1.N, fun c => (dat1 m hm c).arrAt 11 Cert.KernelIdeal.cfg1.N,
    fun c => (dat1 m hm c).arrAt 12 Cert.KernelIdeal.cfg1.N, fun c => (dat1 m hm c).arrAt 13 Cert.KernelIdeal.cfg1.N,
    fun c => (dat1 m hm c).arrAt 14 Cert.KernelIdeal.cfg1.N, ?_, ?_⟩
  · refine (θ_run _ _ _).mono (fun r h c => ?_) (Cert.KernelIdeal.RunMain.run_main m g hm)
    obtain ⟨ha, h0, h1, h2, h3, h4⟩ := h.1 c
    exact ⟨h0, h1, h2, h3, h4, ha⟩
  · refine (θ_run _ _ _).mono (fun r h c => ?_) (Cert.ReferenceIdeal.Value.run m' g')
    obtain ⟨h0, h1, h2, h3, h4, ha⟩ := h c
    obtain ⟨q0, q1, q2, q3, q4, q5, q6, q7, q8⟩ := hargs c
    have e0 : launchContents m' c (Proc.devRef .tc Cert.ReferenceIdeal.main_arg0) = a0 m c := q0
    have e1 : launchContents m' c (Proc.devRef .tc Cert.ReferenceIdeal.main_arg1) = a1 m c := q1
    have e2 : launchContents m' c (Proc.devRef .tc Cert.ReferenceIdeal.main_arg2) = a2 m c := q2
    have e3 : launchContents m' c (Proc.devRef .tc Cert.ReferenceIdeal.main_arg3) = a3 m c := q3
    have e4 : launchContents m' c (Proc.devRef .tc Cert.ReferenceIdeal.main_arg4) = a4 m c := q4
    have e5 : launchContents m' c (Proc.devRef .tc Cert.ReferenceIdeal.main_arg5) = a5 m c := q5
    have e6 : launchContents m' c (Proc.devRef .tc Cert.ReferenceIdeal.main_arg6) = a6 m c := q6
    have e7 : launchContents m' c (Proc.devRef .tc Cert.ReferenceIdeal.main_arg7) = a7 m c := q7
    have e8 : launchContents m' c (Proc.devRef .tc Cert.ReferenceIdeal.main_arg8) = a8 m c := q8
    refine ⟨(h0.trans (Cert.ReferenceIdeal.Read.val_main_v39_eq _)).trans ?_, (h1.trans (Cert.ReferenceIdeal.Read.val_main_v76_eq _)).trans ?_, (h2.trans (Cert.ReferenceIdeal.Read.val_main_v65_eq _)).trans ?_, (h3.trans (Cert.ReferenceIdeal.Read.val_main_v56_eq _)).trans ?_, (h4.trans (Cert.ReferenceIdeal.Read.val_main_v61_eq _)).trans ?_, ha⟩
    · rw [e0, e1, e2, e3, e4]
      exact (first m hm c (hy c) (hay c)).symm
    · rw [e0, e1, e2, e3, e4, e5, e6, e7, e8]
      exact (second m hm c (hy c) (hay c)).symm
    · rw [e0, e1, e2, e3, e4, e5, e6, e7, e8]
      exact (third m hm c (hy c) (hay c) (hw c) (hb c)).symm
    · rw [e0, e1, e2, e3, e4, e5, e6, e7, e8]
      exact (fourth m hm c (hy c) (hay c)).symm
    · rw [e0, e1, e2, e3, e4, e5, e6, e7, e8]
      exact (fifth m hm c (hy c) (hay c)).symm

end Cert.Agree
end
-- ==== Proof.lean ====
/-
  The certificate: the three programs' frames under their preconditions, the idealization, and the value claim over all
  five results.
-/
module

public import proofs.«01_k».proof.Proof.RefValue
public import proofs.«01_k».proof.Proof.Frames
public import proofs.«01_k».proof.Proof.FramesFinite
public import proofs.«01_k».proof.Proof.Algebraic
public import proofs.«01_k».proof.Defs

@[expose] public section

noncomputable section

namespace Cert.Proof

open Idealize.ShloMosaic Idealize.SL.Sem

/-- Every claim of the certificate: the facts of the programs and of the two preconditions, the five frames, the
    idealization without rewrites, and the agreement of the kernel's five results with the reference's. -/
theorem claim : Cert.Claim := ⟨Cert.Kernel.Gen.facts, Cert.KernelIdeal.Gen.facts, Cert.ReferenceIdeal.Gen.facts,
  Cert.PreRead.rangeFacts, Cert.PreRead.finiteFacts, Frames.kernel, Frames.kernelIdeal, Frames.kernelIdeal_finite,
  Frames.reference, Frames.reference_finite, trivial, Cert.Agree.algebraic⟩

end Cert.Proof

end
